-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v269) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_range_and_finite : Cert.Pre_in_range_and_finite.Facts),
    quiescent_Kernel (hKernel := hKernel)
    ∧ quiescent_KernelIdeal (hKernelIdeal := hKernelIdeal)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range_and_finite.lean ====
abbrev S10000x9 : Shape := ⟨2, ![10000, 9]⟩
abbrev S2x160000 : Shape := ⟨2, ![2, 160000]⟩
abbrev S160000x3 : Shape := ⟨2, ![160000, 3]⟩
abbrev S10000 : Shape := ⟨1, ![10000]⟩
abbrev S9x64x256 : Shape := ⟨3, ![9, 64, 256]⟩
abbrev S3x16x256 : Shape := ⟨3, ![3, 16, 256]⟩
abbrev S3x256x512 : Shape := ⟨3, ![3, 256, 512]⟩
abbrev S3x512 : Shape := ⟨2, ![3, 512]⟩
abbrev S3x512x256 : Shape := ⟨3, ![3, 512, 256]⟩
abbrev S3x256 : Shape := ⟨2, ![3, 256]⟩
abbrev S256x256 : Shape := ⟨2, ![256, 256]⟩
abbrev S256 : Shape := ⟨1, ![256]⟩
abbrev S_ : Shape := ⟨0, ![]⟩
abbrev S1x160000 : Shape := ⟨2, ![1, 160000]⟩
abbrev S160000 : Shape := ⟨1, ![160000]⟩

class Facts : Prop where
  bcast_S_S10000x9 : S_.BroadcastsInDim S10000x9 (![] : Fin 0 → Fin S10000x9.rank)
  slices_S2x160000_S1x160000_0_0 : S2x160000.Slices ![0, 0] S1x160000
  shapeCasts_S1x160000_S160000 : S1x160000.ShapeCasts S160000
  bcast_S_S160000 : S_.BroadcastsInDim S160000 (![] : Fin 0 → Fin S160000.rank)
  bcast_S_S9x64x256 : S_.BroadcastsInDim S9x64x256 (![] : Fin 0 → Fin S9x64x256.rank)
  bcast_S_S3x256x512 : S_.BroadcastsInDim S3x256x512 (![] : Fin 0 → Fin S3x256x512.rank)
  bcast_S_S3x512 : S_.BroadcastsInDim S3x512 (![] : Fin 0 → Fin S3x512.rank)
  bcast_S_S3x512x256 : S_.BroadcastsInDim S3x512x256 (![] : Fin 0 → Fin S3x512x256.rank)
  bcast_S_S3x256 : S_.BroadcastsInDim S3x256 (![] : Fin 0 → Fin S3x256.rank)

variable [Facts]

def fn_part1 {F : FTy → Type} [FloatOps F] (main_arg7 : FVec F S3x512 .f32) (main_arg8 : FVec F S3x512x256 .f32) (main_arg9 : FVec F S3x256 .f32) (main_arg10 : FVec F S3x256 .f32) (main_arg11 : FVec F S3x256 .f32) (main_v4 : IVec S10000x9 1) (main_v13 : IVec S160000 1) (main_v16 : IVec S9x64x256 1) (main_v17 : FVec F S3x256x512 .f32) (main_cst_3 : FVec F S_ .f32) : IVec S10000x9 1 × IVec S160000 1 × IVec S9x64x256 1 × IVec S3x256x512 1 × IVec S3x512 1 × IVec S3x512x256 1 × IVec S3x256 1 × IVec S3x256 1 × IVec S3x256 1 :=
  let main_v18 : FVec F S3x256x512 .f32 := broadcastInDim S3x256x512 ![] bcast_S_S3x256x512 main_cst_3
  let main_v19 : IVec S3x256x512 1 := cmpf .olt main_v17 main_v18
  let main_v20 : FVec F S3x512 .f32 := Host.absf main_arg7
  let main_cst_4 : FVec F S_ .f32 := constant S_ .f32 0x7F800000#32
  let main_v21 : FVec F S3x512 .f32 := broadcastInDim S3x512 ![] bcast_S_S3x512 main_cst_4
  let main_v22 : IVec S3x512 1 := cmpf .olt main_v20 main_v21
  let main_v23 : FVec F S3x512x256 .f32 := Host.absf main_arg8
  let main_cst_5 : FVec F S_ .f32 := constant S_ .f32 0x7F800000#32
  let main_v24 : FVec F S3x512x256 .f32 := broadcastInDim S3x512x256 ![] bcast_S_S3x512x256 main_cst_5
  let main_v25 : IVec S3x512x256 1 := cmpf .olt main_v23 main_v24
  let main_v26 : FVec F S3x256 .f32 := Host.absf main_arg9
  let main_cst_6 : FVec F S_ .f32 := constant S_ .f32 0x7F800000#32
  let main_v27 : FVec F S3x256 .f32 := broadcastInDim S3x256 ![] bcast_S_S3x256 main_cst_6
  let main_v28 : IVec S3x256 1 := cmpf .olt main_v26 main_v27
  let main_v29 : FVec F S3x256 .f32 := Host.absf main_arg10
  let main_cst_7 : FVec F S_ .f32 := constant S_ .f32 0x7F800000#32
  let main_v30 : FVec F S3x256 .f32 := broadcastInDim S3x256 ![] bcast_S_S3x256 main_cst_7
  let main_v31 : IVec S3x256 1 := cmpf .olt main_v29 main_v30
  let main_v32 : FVec F S3x256 .f32 := Host.absf main_arg11
  let main_cst_8 : FVec F S_ .f32 := constant S_ .f32 0x7F800000#32
  let main_v33 : FVec F S3x256 .f32 := broadcastInDim S3x256 ![] bcast_S_S3x256 main_cst_8
  let main_v34 : IVec S3x256 1 := cmpf .olt main_v32 main_v33
  (main_v4, main_v13, main_v16, main_v19, main_v22, main_v25, main_v28, main_v31, main_v34)

def fn {F : FTy → Type} [FloatOps F] (main_arg0 : IVec S10000x9 32) (main_arg1 : IVec S2x160000 32) (main_arg2 : IVec S160000x3 32) (main_arg3 : IVec S10000 32) (main_arg4 : FVec F S9x64x256 .f32) (main_arg5 : FVec F S3x16x256 .f32) (main_arg6 : FVec F S3x256x512 .f32) (main_arg7 : FVec F S3x512 .f32) (main_arg8 : FVec F S3x512x256 .f32) (main_arg9 : FVec F S3x256 .f32) (main_arg10 : FVec F S3x256 .f32) (main_arg11 : FVec F S3x256 .f32) (main_arg12 : FVec F S256x256 .f32) (main_arg13 : FVec F S256 .f32) : IVec S10000x9 1 × IVec S160000 1 × IVec S9x64x256 1 × IVec S3x256x512 1 × IVec S3x512 1 × IVec S3x512x256 1 × IVec S3x256 1 × IVec S3x256 1 × IVec S3x256 1 :=
  let main_c : IVec S_ 32 := constantI S_ 32 0#32
  let main_v0 : IVec S10000x9 32 := broadcastInDim S10000x9 ![] bcast_S_S10000x9 main_c
  let main_v1 : IVec S10000x9 1 := cmpi .sge main_arg0 main_v0
  let main_c_0 : IVec S_ 32 := constantI S_ 32 64#32
  let main_v2 : IVec S10000x9 32 := broadcastInDim S10000x9 ![] bcast_S_S10000x9 main_c_0
  let main_v3 : IVec S10000x9 1 := cmpi .slt main_arg0 main_v2
  let main_v4 : IVec S10000x9 1 := andi main_v1 main_v3
  let main_v5 : IVec S1x160000 32 := (extractStridedSlice S1x160000 ![0, 0] · slices_S2x160000_S1x160000_0_0) main_arg1
  let main_v6 : IVec S160000 32 := shapeCast S160000 main_v5 shapeCasts_S1x160000_S160000
  let main_c_1 : IVec S_ 32 := constantI S_ 32 0#32
  let main_v7 : IVec S160000 32 := broadcastInDim S160000 ![] bcast_S_S160000 main_c_1
  let main_v8 : IVec S160000 1 := cmpi .sge main_v6 main_v7
  let main_v9 : IVec S1x160000 32 := (extractStridedSlice S1x160000 ![0, 0] · slices_S2x160000_S1x160000_0_0) main_arg1
  let main_v10 : IVec S160000 32 := shapeCast S160000 main_v9 shapeCasts_S1x160000_S160000
  let main_c_2 : IVec S_ 32 := constantI S_ 32 10000#32
  let main_v11 : IVec S160000 32 := broadcastInDim S160000 ![] bcast_S_S160000 main_c_2
  let main_v12 : IVec S160000 1 := cmpi .slt main_v10 main_v11
  let main_v13 : IVec S160000 1 := andi main_v8 main_v12
  let main_v14 : FVec F S9x64x256 .f32 := Host.absf main_arg4
  let main_cst : FVec F S_ .f32 := constant S_ .f32 0x7F800000#32
  let main_v15 : FVec F S9x64x256 .f32 := broadcastInDim S9x64x256 ![] bcast_S_S9x64x256 main_cst
  let main_v16 : IVec S9x64x256 1 := cmpf .olt main_v14 main_v15
  let main_v17 : FVec F S3x256x512 .f32 := Host.absf main_arg6
  let main_cst_3 : FVec F S_ .f32 := constant S_ .f32 0x7F800000#32
  fn_part1 (F := F) main_arg7 main_arg8 main_arg9 main_arg10 main_arg11 main_v4 main_v13 main_v16 main_v17 main_cst_3
-- ==== Kernel.lean ====
abbrev S10000x9 : Shape := ⟨2, ![10000, 9]⟩
abbrev S2x160000 : Shape := ⟨2, ![2, 160000]⟩
abbrev S160000x3 : Shape := ⟨2, ![160000, 3]⟩
abbrev S10000 : Shape := ⟨1, ![10000]⟩
abbrev S9x64x256 : Shape := ⟨3, ![9, 64, 256]⟩
abbrev S3x16x256 : Shape := ⟨3, ![3, 16, 256]⟩
abbrev S3x256x512 : Shape := ⟨3, ![3, 256, 512]⟩
abbrev S3x512 : Shape := ⟨2, ![3, 512]⟩
abbrev S3x512x256 : Shape := ⟨3, ![3, 512, 256]⟩
abbrev S3x256 : Shape := ⟨2, ![3, 256]⟩
abbrev S256x256 : Shape := ⟨2, ![256, 256]⟩
abbrev S256 : Shape := ⟨1, ![256]⟩
abbrev S_ : Shape := ⟨0, ![]⟩
abbrev S16x10240 : Shape := ⟨2, ![16, 10240]⟩
abbrev S9x10000 : Shape := ⟨2, ![9, 10000]⟩
abbrev S1 : Shape := ⟨1, ![1]⟩
abbrev S2 : Shape := ⟨1, ![2]⟩
abbrev S576x256 : Shape := ⟨2, ![576, 256]⟩
abbrev S3x1x512 : Shape := ⟨3, ![3, 1, 512]⟩
abbrev S3x8x512 : Shape := ⟨3, ![3, 8, 512]⟩
abbrev S3x1x256 : Shape := ⟨3, ![3, 1, 256]⟩
abbrev S3x8x256 : Shape := ⟨3, ![3, 8, 256]⟩
abbrev S1x256 : Shape := ⟨2, ![1, 256]⟩
abbrev S8x256 : Shape := ⟨2, ![8, 256]⟩
abbrev S10240 : Shape := ⟨1, ![10240]⟩
abbrev S40x1x256 : Shape := ⟨3, ![40, 1, 256]⟩
abbrev S1x160000 : Shape := ⟨2, ![1, 160000]⟩
abbrev S160000 : Shape := ⟨1, ![160000]⟩
abbrev S10240x256 : Shape := ⟨2, ![10240, 256]⟩
abbrev S16x256 : Shape := ⟨2, ![16, 256]⟩
abbrev S256x576 : Shape := ⟨2, ![256, 576]⟩
abbrev S256x1 : Shape := ⟨2, ![256, 1]⟩
abbrev S160000x1 : Shape := ⟨2, ![160000, 1]⟩
abbrev S160000x256 : Shape := ⟨2, ![160000, 256]⟩
abbrev S10000x256 : Shape := ⟨2, ![10000, 256]⟩
abbrev S1x256x512 : Shape := ⟨3, ![1, 256, 512]⟩
abbrev S256x512 : Shape := ⟨2, ![256, 512]⟩
abbrev S1x8x512 : Shape := ⟨3, ![1, 8, 512]⟩
abbrev S8x512 : Shape := ⟨2, ![8, 512]⟩
abbrev S1x512x256 : Shape := ⟨3, ![1, 512, 256]⟩
abbrev S512x256 : Shape := ⟨2, ![512, 256]⟩
abbrev S1x8x256 : Shape := ⟨3, ![1, 8, 256]⟩
abbrev S1x512 : Shape := ⟨2, ![1, 512]⟩
abbrev S8x32x256 : Shape := ⟨3, ![8, 32, 256]⟩
abbrev S256x128 : Shape := ⟨2, ![256, 128]⟩
abbrev S1x1x256 : Shape := ⟨3, ![1, 1, 256]⟩

abbrev nBuf : Space → Nat
  | .hbm => 150
  | .vmem => 76
  | .smem => 0
  | _ => 0

abbrev hbmTy0_0 (i : Nat) : BufTy := match i % 128 with
  | 0 => ⟨S10000x9, .i32⟩
  | 1 => ⟨S2x160000, .i32⟩
  | 2 => ⟨S160000x3, .i32⟩
  | 3 => ⟨S10000, .i32⟩
  | 4 => ⟨S9x64x256, .f32⟩
  | 5 => ⟨S3x16x256, .f32⟩
  | 6 => ⟨S3x256x512, .f32⟩
  | 7 => ⟨S3x512, .f32⟩
  | 8 => ⟨S3x512x256, .f32⟩
  | 9 => ⟨S3x256, .f32⟩
  | 10 => ⟨S3x256, .f32⟩
  | 11 => ⟨S3x256, .f32⟩
  | 12 => ⟨S256x256, .f32⟩
  | 13 => ⟨S256, .f32⟩
  | 14 => ⟨S_, .i32⟩
  | 15 => ⟨S16x10240, .i32⟩
  | 16 => ⟨S9x10000, .i32⟩
  | 17 => ⟨S_, .i32⟩
  | 18 => ⟨S1, .i32⟩
  | 19 => ⟨S_, .i32⟩
  | 20 => ⟨S1, .i32⟩
  | 21 => ⟨S2, .i32⟩
  | 22 => ⟨S16x10240, .i32⟩
  | 23 => ⟨S576x256, .f32⟩
  | 24 => ⟨S3x1x512, .f32⟩
  | 25 => ⟨S3x8x512, .f32⟩
  | 26 => ⟨S3x1x256, .f32⟩
  | 27 => ⟨S3x8x256, .f32⟩
  | 28 => ⟨S3x1x256, .f32⟩
  | 29 => ⟨S3x8x256, .f32⟩
  | 30 => ⟨S3x1x256, .f32⟩
  | 31 => ⟨S3x8x256, .f32⟩
  | 32 => ⟨S1x256, .f32⟩
  | 33 => ⟨S8x256, .f32⟩
  | 34 => ⟨S_, .i32⟩
  | 35 => ⟨S10240, .i32⟩
  | 36 => ⟨S_, .i32⟩
  | 37 => ⟨S1, .i32⟩
  | 38 => ⟨S10240, .i32⟩
  | 39 => ⟨S40x1x256, .i32⟩
  | 40 => ⟨S1x160000, .i32⟩
  | 41 => ⟨S160000, .i32⟩
  | 42 => ⟨S1x160000, .i32⟩
  | 43 => ⟨S160000, .i32⟩
  | 44 => ⟨S10240x256, .f32⟩
  | 45 => ⟨S_, .i32⟩
  | 46 => ⟨S160000, .i32⟩
  | 47 => ⟨S160000, .i1⟩
  | 48 => ⟨S_, .i32⟩
  | 49 => ⟨S160000, .i32⟩
  | 50 => ⟨S160000, .i32⟩
  | 51 => ⟨S160000, .i32⟩
  | 52 => ⟨S160000x1, .i32⟩
  | 53 => ⟨S160000x256, .f32⟩
  | 54 => ⟨S_, .f32⟩
  | 55 => ⟨S10000x256, .f32⟩
  | 56 => ⟨S160000x1, .i32⟩
  | 57 => ⟨S10000x256, .f32⟩
  | 58 => ⟨S_, .f32⟩
  | 59 => ⟨S10240x256, .f32⟩
  | 60 => ⟨S_, .i32⟩
  | 61 => ⟨S1, .i32⟩
  | 62 => ⟨S10240x256, .f32⟩
  | 63 => ⟨S1x256x512, .f32⟩
  | 64 => ⟨S256x512, .f32⟩
  | 65 => ⟨S1x8x512, .f32⟩
  | 66 => ⟨S8x512, .f32⟩
  | 67 => ⟨S1x512x256, .f32⟩
  | 68 => ⟨S512x256, .f32⟩
  | 69 => ⟨S1x8x256, .f32⟩
  | 70 => ⟨S8x256, .f32⟩
  | 71 => ⟨S10240x256, .f32⟩
  | 72 => ⟨S8x256, .f32⟩
  | 73 => ⟨S8x256, .f32⟩
  | 74 => ⟨S1x8x256, .f32⟩
  | 75 => ⟨S8x256, .f32⟩
  | 76 => ⟨S1x8x256, .f32⟩
  | 77 => ⟨S8x256, .f32⟩
  | 78 => ⟨S10240x256, .f32⟩
  | 79 => ⟨S_, .i32⟩
  | 80 => ⟨S160000, .i32⟩
  | 81 => ⟨S160000, .i1⟩
  | 82 => ⟨S_, .i32⟩
  | 83 => ⟨S160000, .i32⟩
  | 84 => ⟨S160000, .i32⟩
  | 85 => ⟨S160000, .i32⟩
  | 86 => ⟨S160000x1, .i32⟩
  | 87 => ⟨S160000x256, .f32⟩
  | 88 => ⟨S_, .f32⟩
  | 89 => ⟨S10000x256, .f32⟩
  | 90 => ⟨S160000x1, .i32⟩
  | 91 => ⟨S10000x256, .f32⟩
  | 92 => ⟨S_, .f32⟩
  | 93 => ⟨S10240x256, .f32⟩
  | 94 => ⟨S_, .i32⟩
  | 95 => ⟨S1, .i32⟩
  | 96 => ⟨S10240x256, .f32⟩
  | 97 => ⟨S1x256x512, .f32⟩
  | 98 => ⟨S256x512, .f32⟩
  | 99 => ⟨S1x8x512, .f32⟩
  | 100 => ⟨S8x512, .f32⟩
  | 101 => ⟨S1x512x256, .f32⟩
  | 102 => ⟨S512x256, .f32⟩
  | 103 => ⟨S1x8x256, .f32⟩
  | 104 => ⟨S8x256, .f32⟩
  | 105 => ⟨S10240x256, .f32⟩
  | 106 => ⟨S8x256, .f32⟩
  | 107 => ⟨S8x256, .f32⟩
  | 108 => ⟨S1x8x256, .f32⟩
  | 109 => ⟨S8x256, .f32⟩
  | 110 => ⟨S1x8x256, .f32⟩
  | 111 => ⟨S8x256, .f32⟩
  | 112 => ⟨S10240x256, .f32⟩
  | 113 => ⟨S_, .i32⟩
  | 114 => ⟨S160000, .i32⟩
  | 115 => ⟨S160000, .i1⟩
  | 116 => ⟨S_, .i32⟩
  | 117 => ⟨S160000, .i32⟩
  | 118 => ⟨S160000, .i32⟩
  | 119 => ⟨S160000, .i32⟩
  | 120 => ⟨S160000x1, .i32⟩
  | 121 => ⟨S160000x256, .f32⟩
  | 122 => ⟨S_, .f32⟩
  | 123 => ⟨S10000x256, .f32⟩
  | 124 => ⟨S160000x1, .i32⟩
  | 125 => ⟨S10000x256, .f32⟩
  | 126 => ⟨S_, .f32⟩
  | 127 => ⟨S10240x256, .f32⟩
  | _ => ⟨S10000x9, .i32⟩

abbrev hbmTy0_1 (i : Nat) : BufTy := match i % 128 with
  | 0 => ⟨S_, .i32⟩
  | 1 => ⟨S1, .i32⟩
  | 2 => ⟨S10240x256, .f32⟩
  | 3 => ⟨S1x256x512, .f32⟩
  | 4 => ⟨S256x512, .f32⟩
  | 5 => ⟨S1x8x512, .f32⟩
  | 6 => ⟨S8x512, .f32⟩
  | 7 => ⟨S1x512x256, .f32⟩
  | 8 => ⟨S512x256, .f32⟩
  | 9 => ⟨S1x8x256, .f32⟩
  | 10 => ⟨S8x256, .f32⟩
  | 11 => ⟨S10240x256, .f32⟩
  | 12 => ⟨S8x256, .f32⟩
  | 13 => ⟨S8x256, .f32⟩
  | 14 => ⟨S1x8x256, .f32⟩
  | 15 => ⟨S8x256, .f32⟩
  | 16 => ⟨S1x8x256, .f32⟩
  | 17 => ⟨S8x256, .f32⟩
  | 18 => ⟨S10240x256, .f32⟩
  | 19 => ⟨S256x256, .f32⟩
  | 20 => ⟨S256x128, .f32⟩
  | 21 => ⟨S256x256, .f32⟩
  | _ => ⟨S10000x9, .i32⟩

abbrev hbmTy (i : Nat) : BufTy := match i / 128 with
  | 0 => hbmTy0_0 i
  | 1 => hbmTy0_1 i
  | _ => ⟨S10000x9, .i32⟩

abbrev bufTy : (tb : Table) → Fin (tcTables nBuf tb) → BufTy
  | .hbm, ⟨i, _⟩ => hbmTy i
  | .local _ .vmem, ⟨0, _⟩ => ⟨S16x256, .i32⟩
  | .local _ .vmem, ⟨1, _⟩ => ⟨S16x256, .i32⟩
  | .local _ .vmem, ⟨2, _⟩ => ⟨S576x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x512, .f32⟩
  | .local _ .vmem, ⟨10, _⟩ => ⟨S8x512, .f32⟩
  | .local _ .vmem, ⟨11, _⟩ => ⟨S512x256, .f32⟩
  | .local _ .vmem, ⟨12, _⟩ => ⟨S8x256, .f32⟩
  | .local _ .vmem, ⟨13, _⟩ => ⟨S256x256, .f32⟩
  | .local _ .vmem, ⟨14, _⟩ => ⟨S256x256, .f32⟩
  | .local _ .vmem, ⟨15, _⟩ => ⟨S8x256, .f32⟩
  | .local _ .vmem, ⟨16, _⟩ => ⟨S8x256, .f32⟩
  | .local _ .vmem, ⟨17, _⟩ => ⟨S256x256, .f32⟩
  | .local _ .vmem, ⟨18, _⟩ => ⟨S256x256, .f32⟩
  | .local _ .vmem, ⟨19, _⟩ => ⟨S8x256, .f32⟩
  | .local _ .vmem, ⟨20, _⟩ => ⟨S8x256, .f32⟩
  | .local _ .vmem, ⟨21, _⟩ => ⟨S8x256, .f32⟩
  | .local _ .vmem, ⟨22, _⟩ => ⟨S8x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x512, .f32⟩
  | .local _ .vmem, ⟨30, _⟩ => ⟨S8x512, .f32⟩
  | .local _ .vmem, ⟨31, _⟩ => ⟨S512x256, .f32⟩
  | .local _ .vmem, ⟨32, _⟩ => ⟨S8x256, .f32⟩
  | .local _ .vmem, ⟨33, _⟩ => ⟨S256x256, .f32⟩
  | .local _ .vmem, ⟨34, _⟩ => ⟨S256x256, .f32⟩
  | .local _ .vmem, ⟨35, _⟩ => ⟨S8x256, .f32⟩
  | .local _ .vmem, ⟨36, _⟩ => ⟨S8x256, .f32⟩
  | .local _ .vmem, ⟨37, _⟩ => ⟨S256x256, .f32⟩
  | .local _ .vmem, ⟨38, _⟩ => ⟨S256x256, .f32⟩
  | .local _ .vmem, ⟨39, _⟩ => ⟨S8x256, .f32⟩
  | .local _ .vmem, ⟨40, _⟩ => ⟨S8x256, .f32⟩
  | .local _ .vmem, ⟨41, _⟩ => ⟨S8x256, .f32⟩
  | .local _ .vmem, ⟨42, _⟩ => ⟨S8x256, .f32⟩
  | .local _ .vmem, ⟨43, _⟩ => ⟨S256x256, .f32⟩
  | .local _ .vmem, ⟨44, _⟩ => ⟨S256x256, .f32⟩
  | .local _ .vmem, ⟨45, _⟩ => ⟨S256x256, .f32⟩
  | .local _ .vmem, ⟨46, _⟩ => ⟨S256x256, .f32⟩
  | .local _ .vmem, ⟨47, _⟩ => ⟨S256x256, .f32⟩
  | .local _ .vmem, ⟨48, _⟩ => ⟨S256x256, .f32⟩
  | .local _ .vmem, ⟨49, _⟩ => ⟨S256x512, .f32⟩
  | .local _ .vmem, ⟨50, _⟩ => ⟨S8x512, .f32⟩
  | .local _ .vmem, ⟨51, _⟩ => ⟨S512x256, .f32⟩
  | .local _ .vmem, ⟨52, _⟩ => ⟨S8x256, .f32⟩
  | .local _ .vmem, ⟨53, _⟩ => ⟨S256x256, .f32⟩
  | .local _ .vmem, ⟨54, _⟩ => ⟨S256x256, .f32⟩
  | .local _ .vmem, ⟨55, _⟩ => ⟨S8x256, .f32⟩
  | .local _ .vmem, ⟨56, _⟩ => ⟨S8x256, .f32⟩
  | .local _ .vmem, ⟨57, _⟩ => ⟨S256x256, .f32⟩
  | .local _ .vmem, ⟨58, _⟩ => ⟨S256x256, .f32⟩
  | .local _ .vmem, ⟨59, _⟩ => ⟨S8x256, .f32⟩
  | .local _ .vmem, ⟨60, _⟩ => ⟨S8x256, .f32⟩
  | .local _ .vmem, ⟨61, _⟩ => ⟨S8x256, .f32⟩
  | .local _ .vmem, ⟨62, _⟩ => ⟨S8x256, .f32⟩
  | .local _ .vmem, ⟨63, _⟩ => ⟨S256x256, .f32⟩
  | .local _ .vmem, ⟨64, _⟩ => ⟨S256x256, .f32⟩
  | .local _ .vmem, ⟨65, _⟩ => ⟨S256x256, .f32⟩
  | .local _ .vmem, ⟨66, _⟩ => ⟨S256x256, .f32⟩
  | .local _ .vmem, ⟨67, _⟩ => ⟨S1x1x256, .i32⟩
  | .local _ .vmem, ⟨68, _⟩ => ⟨S1x1x256, .i32⟩
  | .local _ .vmem, ⟨69, _⟩ => ⟨S256x256, .f32⟩
  | .local _ .vmem, ⟨70, _⟩ => ⟨S256x128, .f32⟩
  | .local _ .vmem, ⟨71, _⟩ => ⟨S256x256, .f32⟩
  | .local _ .vmem, ⟨72, _⟩ => ⟨S256x128, .f32⟩
  | .local _ .vmem, ⟨73, _⟩ => ⟨S256x256, .f32⟩
  | .local _ .vmem, ⟨74, _⟩ => ⟨S8x256, .f32⟩
  | .local _ .vmem, ⟨75, _⟩ => ⟨S256x256, .f32⟩
  | _, _ => ⟨S10000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_c_1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47_0 : Ref sig .tc := ⟨.hbm, 71, rfl⟩
abbrev main_v47_1 : Ref sig .tc := ⟨.hbm, 72, rfl⟩
abbrev main_v47_2 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_8 : Ref sig .tc := ⟨.hbm, 79, rfl⟩
abbrev main_v53 : Ref sig .tc := ⟨.hbm, 80, rfl⟩
abbrev main_v54 : Ref sig .tc := ⟨.hbm, 81, rfl⟩
abbrev main_c_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_10 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74_0 : Ref sig .tc := ⟨.hbm, 105, rfl⟩
abbrev main_v74_1 : Ref sig .tc := ⟨.hbm, 106, rfl⟩
abbrev main_v74_2 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_13 : Ref sig .tc := ⟨.hbm, 113, rfl⟩
abbrev main_v80 : Ref sig .tc := ⟨.hbm, 114, rfl⟩
abbrev main_v81 : Ref sig .tc := ⟨.hbm, 115, rfl⟩
abbrev main_c_14 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_15 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_16 : Ref sig .tc := ⟨.hbm, 126, rfl⟩
abbrev main_v90 : Ref sig .tc := ⟨.hbm, 127, rfl⟩
abbrev main_c_17 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101_0 : Ref sig .tc := ⟨.hbm, 139, rfl⟩
abbrev main_v101_1 : Ref sig .tc := ⟨.hbm, 140, rfl⟩
abbrev main_v101_2 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107_0 : Ref sig .tc := ⟨.hbm, 147, rfl⟩
abbrev main_v107_1 : Ref sig .tc := ⟨.hbm, 148, rfl⟩
abbrev main_v108 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg8_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg6_1 : Ref sig .tc := ⟨.vmem, 34, rfl⟩
abbrev cc3_stg7_0 : Ref sig .tc := ⟨.vmem, 35, rfl⟩
abbrev cc3_stg8_0 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg6_1 : Ref sig .tc := ⟨.vmem, 54, rfl⟩
abbrev cc5_stg7_0 : Ref sig .tc := ⟨.vmem, 55, rfl⟩
abbrev cc5_stg8_0 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg5_0 : Ref sig .tc := ⟨.vmem, 63, rfl⟩
abbrev cc6_stg5_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg1_1 : Ref sig .tc := ⟨.vmem, 68, rfl⟩
abbrev cc7_stg2_0 : Ref sig .tc := ⟨.vmem, 69, rfl⟩
abbrev cc7_stg3_0 : Ref sig .tc := ⟨.vmem, 70, rfl⟩
abbrev cc8_stg0_0 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg4_0 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem8_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem6_1 : DmaSem sig := 34
abbrev cc3_sem7_0 : DmaSem sig := 35
abbrev cc3_sem8_0 : DmaSem sig := 36
abbrev cc4_sem0_0 : DmaSem sig := 37
abbrev cc4_sem0_1 : DmaSem sig := 38
abbrev cc4_sem1_0 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem6_1 : DmaSem sig := 54
abbrev cc5_sem7_0 : DmaSem sig := 55
abbrev cc5_sem8_0 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem5_1 : DmaSem sig := 64
abbrev cc7_sem0_0 : DmaSem sig := 65
abbrev cc7_sem0_1 : DmaSem sig := 66
abbrev cc7_sem1_0 : DmaSem sig := 67
abbrev cc7_sem1_1 : DmaSem sig := 68
abbrev cc7_sem2_0 : DmaSem sig := 69
abbrev cc7_sem3_0 : DmaSem sig := 70
abbrev cc8_sem0_0 : DmaSem sig := 71
abbrev cc8_sem1_0 : DmaSem sig := 72
abbrev cc8_sem2_0 : DmaSem sig := 73
abbrev cc8_sem3_0 : DmaSem sig := 74
abbrev cc8_sem4_0 : DmaSem sig := 75

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def k1_cond1 (i : grid1.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_20 : BitVec 32 := 0#32
  let v47 : BitVec 1 := Scalar.cmpi .ne v46 c0_i32_20
  v47

def k1_cond2 (i : grid1.Coords) : BitVec 1 :=
  let arg0 : BitVec 32 := BitVec.ofNat 32 (i 0).val
  let c0_i32_21 : BitVec 32 := 0#32
  let v48 : BitVec 1 := Scalar.cmpi .sgt arg0 c0_i32_21
  let v49 : BitVec 32 := Scalar.extui v48
  let c0_i32_22 : BitVec 32 := 0#32
  let v50 : BitVec 1 := Scalar.cmpi .ne v49 c0_i32_22
  v50

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S8x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def k3_cond1 (i : grid3.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_20 : BitVec 32 := 0#32
  let v47 : BitVec 1 := Scalar.cmpi .ne v46 c0_i32_20
  v47

def k3_cond2 (i : grid3.Coords) : BitVec 1 :=
  let arg0 : BitVec 32 := BitVec.ofNat 32 (i 0).val
  let c0_i32_21 : BitVec 32 := 0#32
  let v48 : BitVec 1 := Scalar.cmpi .sgt arg0 c0_i32_21
  let v49 : BitVec 32 := Scalar.extui v48
  let c0_i32_22 : BitVec 32 := 0#32
  let v50 : BitVec 1 := Scalar.cmpi .ne v49 c0_i32_22
  v50

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S8x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S8x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S8x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S8x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S8x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S8x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S256x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![40], ![false]⟩

def k5_cond1 (i : grid5.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_20 : BitVec 32 := 0#32
  let v47 : BitVec 1 := Scalar.cmpi .ne v46 c0_i32_20
  v47

def k5_cond2 (i : grid5.Coords) : BitVec 1 :=
  let arg0 : BitVec 32 := BitVec.ofNat 32 (i 0).val
  let c0_i32_21 : BitVec 32 := 0#32
  let v48 : BitVec 1 := Scalar.cmpi .sgt arg0 c0_i32_21
  let v49 : BitVec 32 := Scalar.extui v48
  let c0_i32_22 : BitVec 32 := 0#32
  let v50 : BitVec 1 := Scalar.cmpi .ne v49 c0_i32_22
  v50

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S256x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S8x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S8x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S256x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 1 → Memref sig .tc .vmem S8x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S8x256 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S8x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S8x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S8x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S256x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![40], ![false]⟩

def k7_cond1 (i : grid7.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_6 : BitVec 32 := 0#32
  let v15 : BitVec 1 := Scalar.cmpi .ne v14 c0_i32_6
  v15

def k7_cond2 (i : grid7.Coords) : BitVec 1 :=
  let arg0 : BitVec 32 := BitVec.ofNat 32 (i 0).val
  let c0_i32_7 : BitVec 32 := 0#32
  let v16 : BitVec 1 := Scalar.cmpi .sgt arg0 c0_i32_7
  let v17 : BitVec 32 := Scalar.extui v16
  let c0_i32_8 : BitVec 32 := 0#32
  let v18 : BitVec 1 := Scalar.cmpi .ne v17 c0_i32_8
  v18

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S256x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x256 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S256x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S256x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S256x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S8x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S256x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]
-- ==== ReferenceIdeal.lean ====
abbrev S10000x9 : Shape := ⟨2, ![10000, 9]⟩
abbrev S2x160000 : Shape := ⟨2, ![2, 160000]⟩
abbrev S160000x3 : Shape := ⟨2, ![160000, 3]⟩
abbrev S10000 : Shape := ⟨1, ![10000]⟩
abbrev S9x64x256 : Shape := ⟨3, ![9, 64, 256]⟩
abbrev S3x16x256 : Shape := ⟨3, ![3, 16, 256]⟩
abbrev S3x256x512 : Shape := ⟨3, ![3, 256, 512]⟩
abbrev S3x512 : Shape := ⟨2, ![3, 512]⟩
abbrev S3x512x256 : Shape := ⟨3, ![3, 512, 256]⟩
abbrev S3x256 : Shape := ⟨2, ![3, 256]⟩
abbrev S256x256 : Shape := ⟨2, ![256, 256]⟩
abbrev S256 : Shape := ⟨1, ![256]⟩
abbrev S1x10000 : Shape := ⟨2, ![1, 10000]⟩
abbrev S2x10000 : Shape := ⟨2, ![2, 10000]⟩
abbrev S2x170000 : Shape := ⟨2, ![2, 170000]⟩
abbrev S_ : Shape := ⟨0, ![]⟩
abbrev S10000x3 : Shape := ⟨2, ![10000, 3]⟩
abbrev S1 : Shape := ⟨1, ![1]⟩
abbrev S170000x3 : Shape := ⟨2, ![170000, 3]⟩
abbrev S10000x256 : Shape := ⟨2, ![10000, 256]⟩
abbrev S1x64x256 : Shape := ⟨3, ![1, 64, 256]⟩
abbrev S64x256 : Shape := ⟨2, ![64, 256]⟩
abbrev S10000x1 : Shape := ⟨2, ![10000, 1]⟩
abbrev S1x1 : Shape := ⟨2, ![1, 1]⟩
abbrev S170000x256 : Shape := ⟨2, ![170000, 256]⟩
abbrev S1x16x256 : Shape := ⟨3, ![1, 16, 256]⟩
abbrev S16x256 : Shape := ⟨2, ![16, 256]⟩
abbrev S170000x1 : Shape := ⟨2, ![170000, 1]⟩
abbrev S170000 : Shape := ⟨1, ![170000]⟩
abbrev S1x170000 : Shape := ⟨2, ![1, 170000]⟩
abbrev S1x256x512 : Shape := ⟨3, ![1, 256, 512]⟩
abbrev S256x512 : Shape := ⟨2, ![256, 512]⟩
abbrev S10000x512 : Shape := ⟨2, ![10000, 512]⟩
abbrev S1x512 : Shape := ⟨2, ![1, 512]⟩
abbrev S512 : Shape := ⟨1, ![512]⟩
abbrev S1x512x256 : Shape := ⟨3, ![1, 512, 256]⟩
abbrev S512x256 : Shape := ⟨2, ![512, 256]⟩
abbrev S1x256 : Shape := ⟨2, ![1, 256]⟩
abbrev S256x1 : Shape := ⟨2, ![256, 1]⟩

abbrev nBuf : Space → Nat
  | .hbm => 657
  | .vmem => 0
  | .smem => 0
  | _ => 0

abbrev hbmTy0_0 (i : Nat) : BufTy := match i % 128 with
  | 0 => ⟨S10000x9, .i32⟩
  | 1 => ⟨S2x160000, .i32⟩
  | 2 => ⟨S160000x3, .i32⟩
  | 3 => ⟨S10000, .i32⟩
  | 4 => ⟨S9x64x256, .f32⟩
  | 5 => ⟨S3x16x256, .f32⟩
  | 6 => ⟨S3x256x512, .f32⟩
  | 7 => ⟨S3x512, .f32⟩
  | 8 => ⟨S3x512x256, .f32⟩
  | 9 => ⟨S3x256, .f32⟩
  | 10 => ⟨S3x256, .f32⟩
  | 11 => ⟨S3x256, .f32⟩
  | 12 => ⟨S256x256, .f32⟩
  | 13 => ⟨S256, .f32⟩
  | 14 => ⟨S10000, .i32⟩
  | 15 => ⟨S1x10000, .i32⟩
  | 16 => ⟨S1x10000, .i32⟩
  | 17 => ⟨S2x10000, .i32⟩
  | 18 => ⟨S2x170000, .i32⟩
  | 19 => ⟨S_, .i32⟩
  | 20 => ⟨S10000x3, .i32⟩
  | 21 => ⟨S_, .i32⟩
  | 22 => ⟨S1, .i32⟩
  | 23 => ⟨S_, .i32⟩
  | 24 => ⟨S10000, .i32⟩
  | 25 => ⟨S10000x3, .i32⟩
  | 26 => ⟨S170000x3, .i32⟩
  | 27 => ⟨S_, .f32⟩
  | 28 => ⟨S10000x256, .f32⟩
  | 29 => ⟨S1x64x256, .f32⟩
  | 30 => ⟨S64x256, .f32⟩
  | 31 => ⟨S10000x1, .i32⟩
  | 32 => ⟨S10000, .i32⟩
  | 33 => ⟨S_, .i32⟩
  | 34 => ⟨S10000, .i32⟩
  | 35 => ⟨S10000, .i1⟩
  | 36 => ⟨S_, .i32⟩
  | 37 => ⟨S10000, .i32⟩
  | 38 => ⟨S10000, .i32⟩
  | 39 => ⟨S10000, .i32⟩
  | 40 => ⟨S10000x1, .i32⟩
  | 41 => ⟨S1, .i32⟩
  | 42 => ⟨S_, .i32⟩
  | 43 => ⟨S10000x1, .i32⟩
  | 44 => ⟨S10000x1, .i1⟩
  | 45 => ⟨S1x1, .i32⟩
  | 46 => ⟨S10000x1, .i32⟩
  | 47 => ⟨S10000x1, .i1⟩
  | 48 => ⟨S10000x1, .i1⟩
  | 49 => ⟨S_, .i1⟩
  | 50 => ⟨S10000, .i1⟩
  | 51 => ⟨S10000x256, .f32⟩
  | 52 => ⟨S10000x256, .i1⟩
  | 53 => ⟨S_, .f32⟩
  | 54 => ⟨S10000x256, .f32⟩
  | 55 => ⟨S10000x256, .f32⟩
  | 56 => ⟨S10000x256, .f32⟩
  | 57 => ⟨S1x64x256, .f32⟩
  | 58 => ⟨S64x256, .f32⟩
  | 59 => ⟨S10000x1, .i32⟩
  | 60 => ⟨S10000, .i32⟩
  | 61 => ⟨S_, .i32⟩
  | 62 => ⟨S10000, .i32⟩
  | 63 => ⟨S10000, .i1⟩
  | 64 => ⟨S_, .i32⟩
  | 65 => ⟨S10000, .i32⟩
  | 66 => ⟨S10000, .i32⟩
  | 67 => ⟨S10000, .i32⟩
  | 68 => ⟨S10000x1, .i32⟩
  | 69 => ⟨S1, .i32⟩
  | 70 => ⟨S_, .i32⟩
  | 71 => ⟨S10000x1, .i32⟩
  | 72 => ⟨S10000x1, .i1⟩
  | 73 => ⟨S1x1, .i32⟩
  | 74 => ⟨S10000x1, .i32⟩
  | 75 => ⟨S10000x1, .i1⟩
  | 76 => ⟨S10000x1, .i1⟩
  | 77 => ⟨S_, .i1⟩
  | 78 => ⟨S10000, .i1⟩
  | 79 => ⟨S10000x256, .f32⟩
  | 80 => ⟨S10000x256, .i1⟩
  | 81 => ⟨S_, .f32⟩
  | 82 => ⟨S10000x256, .f32⟩
  | 83 => ⟨S10000x256, .f32⟩
  | 84 => ⟨S10000x256, .f32⟩
  | 85 => ⟨S1x64x256, .f32⟩
  | 86 => ⟨S64x256, .f32⟩
  | 87 => ⟨S10000x1, .i32⟩
  | 88 => ⟨S10000, .i32⟩
  | 89 => ⟨S_, .i32⟩
  | 90 => ⟨S10000, .i32⟩
  | 91 => ⟨S10000, .i1⟩
  | 92 => ⟨S_, .i32⟩
  | 93 => ⟨S10000, .i32⟩
  | 94 => ⟨S10000, .i32⟩
  | 95 => ⟨S10000, .i32⟩
  | 96 => ⟨S10000x1, .i32⟩
  | 97 => ⟨S1, .i32⟩
  | 98 => ⟨S_, .i32⟩
  | 99 => ⟨S10000x1, .i32⟩
  | 100 => ⟨S10000x1, .i1⟩
  | 101 => ⟨S1x1, .i32⟩
  | 102 => ⟨S10000x1, .i32⟩
  | 103 => ⟨S10000x1, .i1⟩
  | 104 => ⟨S10000x1, .i1⟩
  | 105 => ⟨S_, .i1⟩
  | 106 => ⟨S10000, .i1⟩
  | 107 => ⟨S10000x256, .f32⟩
  | 108 => ⟨S10000x256, .i1⟩
  | 109 => ⟨S_, .f32⟩
  | 110 => ⟨S10000x256, .f32⟩
  | 111 => ⟨S10000x256, .f32⟩
  | 112 => ⟨S10000x256, .f32⟩
  | 113 => ⟨S1x64x256, .f32⟩
  | 114 => ⟨S64x256, .f32⟩
  | 115 => ⟨S10000x1, .i32⟩
  | 116 => ⟨S10000, .i32⟩
  | 117 => ⟨S_, .i32⟩
  | 118 => ⟨S10000, .i32⟩
  | 119 => ⟨S10000, .i1⟩
  | 120 => ⟨S_, .i32⟩
  | 121 => ⟨S10000, .i32⟩
  | 122 => ⟨S10000, .i32⟩
  | 123 => ⟨S10000, .i32⟩
  | 124 => ⟨S10000x1, .i32⟩
  | 125 => ⟨S1, .i32⟩
  | 126 => ⟨S_, .i32⟩
  | 127 => ⟨S10000x1, .i32⟩
  | _ => ⟨S10000x9, .i32⟩

abbrev hbmTy0_1 (i : Nat) : BufTy := match i % 128 with
  | 0 => ⟨S10000x1, .i1⟩
  | 1 => ⟨S1x1, .i32⟩
  | 2 => ⟨S10000x1, .i32⟩
  | 3 => ⟨S10000x1, .i1⟩
  | 4 => ⟨S10000x1, .i1⟩
  | 5 => ⟨S_, .i1⟩
  | 6 => ⟨S10000, .i1⟩
  | 7 => ⟨S10000x256, .f32⟩
  | 8 => ⟨S10000x256, .i1⟩
  | 9 => ⟨S_, .f32⟩
  | 10 => ⟨S10000x256, .f32⟩
  | 11 => ⟨S10000x256, .f32⟩
  | 12 => ⟨S10000x256, .f32⟩
  | 13 => ⟨S1x64x256, .f32⟩
  | 14 => ⟨S64x256, .f32⟩
  | 15 => ⟨S10000x1, .i32⟩
  | 16 => ⟨S10000, .i32⟩
  | 17 => ⟨S_, .i32⟩
  | 18 => ⟨S10000, .i32⟩
  | 19 => ⟨S10000, .i1⟩
  | 20 => ⟨S_, .i32⟩
  | 21 => ⟨S10000, .i32⟩
  | 22 => ⟨S10000, .i32⟩
  | 23 => ⟨S10000, .i32⟩
  | 24 => ⟨S10000x1, .i32⟩
  | 25 => ⟨S1, .i32⟩
  | 26 => ⟨S_, .i32⟩
  | 27 => ⟨S10000x1, .i32⟩
  | 28 => ⟨S10000x1, .i1⟩
  | 29 => ⟨S1x1, .i32⟩
  | 30 => ⟨S10000x1, .i32⟩
  | 31 => ⟨S10000x1, .i1⟩
  | 32 => ⟨S10000x1, .i1⟩
  | 33 => ⟨S_, .i1⟩
  | 34 => ⟨S10000, .i1⟩
  | 35 => ⟨S10000x256, .f32⟩
  | 36 => ⟨S10000x256, .i1⟩
  | 37 => ⟨S_, .f32⟩
  | 38 => ⟨S10000x256, .f32⟩
  | 39 => ⟨S10000x256, .f32⟩
  | 40 => ⟨S10000x256, .f32⟩
  | 41 => ⟨S1x64x256, .f32⟩
  | 42 => ⟨S64x256, .f32⟩
  | 43 => ⟨S10000x1, .i32⟩
  | 44 => ⟨S10000, .i32⟩
  | 45 => ⟨S_, .i32⟩
  | 46 => ⟨S10000, .i32⟩
  | 47 => ⟨S10000, .i1⟩
  | 48 => ⟨S_, .i32⟩
  | 49 => ⟨S10000, .i32⟩
  | 50 => ⟨S10000, .i32⟩
  | 51 => ⟨S10000, .i32⟩
  | 52 => ⟨S10000x1, .i32⟩
  | 53 => ⟨S1, .i32⟩
  | 54 => ⟨S_, .i32⟩
  | 55 => ⟨S10000x1, .i32⟩
  | 56 => ⟨S10000x1, .i1⟩
  | 57 => ⟨S1x1, .i32⟩
  | 58 => ⟨S10000x1, .i32⟩
  | 59 => ⟨S10000x1, .i1⟩
  | 60 => ⟨S10000x1, .i1⟩
  | 61 => ⟨S_, .i1⟩
  | 62 => ⟨S10000, .i1⟩
  | 63 => ⟨S10000x256, .f32⟩
  | 64 => ⟨S10000x256, .i1⟩
  | 65 => ⟨S_, .f32⟩
  | 66 => ⟨S10000x256, .f32⟩
  | 67 => ⟨S10000x256, .f32⟩
  | 68 => ⟨S10000x256, .f32⟩
  | 69 => ⟨S1x64x256, .f32⟩
  | 70 => ⟨S64x256, .f32⟩
  | 71 => ⟨S10000x1, .i32⟩
  | 72 => ⟨S10000, .i32⟩
  | 73 => ⟨S_, .i32⟩
  | 74 => ⟨S10000, .i32⟩
  | 75 => ⟨S10000, .i1⟩
  | 76 => ⟨S_, .i32⟩
  | 77 => ⟨S10000, .i32⟩
  | 78 => ⟨S10000, .i32⟩
  | 79 => ⟨S10000, .i32⟩
  | 80 => ⟨S10000x1, .i32⟩
  | 81 => ⟨S1, .i32⟩
  | 82 => ⟨S_, .i32⟩
  | 83 => ⟨S10000x1, .i32⟩
  | 84 => ⟨S10000x1, .i1⟩
  | 85 => ⟨S1x1, .i32⟩
  | 86 => ⟨S10000x1, .i32⟩
  | 87 => ⟨S10000x1, .i1⟩
  | 88 => ⟨S10000x1, .i1⟩
  | 89 => ⟨S_, .i1⟩
  | 90 => ⟨S10000, .i1⟩
  | 91 => ⟨S10000x256, .f32⟩
  | 92 => ⟨S10000x256, .i1⟩
  | 93 => ⟨S_, .f32⟩
  | 94 => ⟨S10000x256, .f32⟩
  | 95 => ⟨S10000x256, .f32⟩
  | 96 => ⟨S10000x256, .f32⟩
  | 97 => ⟨S1x64x256, .f32⟩
  | 98 => ⟨S64x256, .f32⟩
  | 99 => ⟨S10000x1, .i32⟩
  | 100 => ⟨S10000, .i32⟩
  | 101 => ⟨S_, .i32⟩
  | 102 => ⟨S10000, .i32⟩
  | 103 => ⟨S10000, .i1⟩
  | 104 => ⟨S_, .i32⟩
  | 105 => ⟨S10000, .i32⟩
  | 106 => ⟨S10000, .i32⟩
  | 107 => ⟨S10000, .i32⟩
  | 108 => ⟨S10000x1, .i32⟩
  | 109 => ⟨S1, .i32⟩
  | 110 => ⟨S_, .i32⟩
  | 111 => ⟨S10000x1, .i32⟩
  | 112 => ⟨S10000x1, .i1⟩
  | 113 => ⟨S1x1, .i32⟩
  | 114 => ⟨S10000x1, .i32⟩
  | 115 => ⟨S10000x1, .i1⟩
  | 116 => ⟨S10000x1, .i1⟩
  | 117 => ⟨S_, .i1⟩
  | 118 => ⟨S10000, .i1⟩
  | 119 => ⟨S10000x256, .f32⟩
  | 120 => ⟨S10000x256, .i1⟩
  | 121 => ⟨S_, .f32⟩
  | 122 => ⟨S10000x256, .f32⟩
  | 123 => ⟨S10000x256, .f32⟩
  | 124 => ⟨S10000x256, .f32⟩
  | 125 => ⟨S1x64x256, .f32⟩
  | 126 => ⟨S64x256, .f32⟩
  | 127 => ⟨S10000x1, .i32⟩
  | _ => ⟨S10000x9, .i32⟩

abbrev hbmTy0_2 (i : Nat) : BufTy := match i % 128 with
  | 0 => ⟨S10000, .i32⟩
  | 1 => ⟨S_, .i32⟩
  | 2 => ⟨S10000, .i32⟩
  | 3 => ⟨S10000, .i1⟩
  | 4 => ⟨S_, .i32⟩
  | 5 => ⟨S10000, .i32⟩
  | 6 => ⟨S10000, .i32⟩
  | 7 => ⟨S10000, .i32⟩
  | 8 => ⟨S10000x1, .i32⟩
  | 9 => ⟨S1, .i32⟩
  | 10 => ⟨S_, .i32⟩
  | 11 => ⟨S10000x1, .i32⟩
  | 12 => ⟨S10000x1, .i1⟩
  | 13 => ⟨S1x1, .i32⟩
  | 14 => ⟨S10000x1, .i32⟩
  | 15 => ⟨S10000x1, .i1⟩
  | 16 => ⟨S10000x1, .i1⟩
  | 17 => ⟨S_, .i1⟩
  | 18 => ⟨S10000, .i1⟩
  | 19 => ⟨S10000x256, .f32⟩
  | 20 => ⟨S10000x256, .i1⟩
  | 21 => ⟨S_, .f32⟩
  | 22 => ⟨S10000x256, .f32⟩
  | 23 => ⟨S10000x256, .f32⟩
  | 24 => ⟨S10000x256, .f32⟩
  | 25 => ⟨S_, .f32⟩
  | 26 => ⟨S170000x256, .f32⟩
  | 27 => ⟨S1x16x256, .f32⟩
  | 28 => ⟨S16x256, .f32⟩
  | 29 => ⟨S170000x1, .i32⟩
  | 30 => ⟨S170000, .i32⟩
  | 31 => ⟨S_, .i32⟩
  | 32 => ⟨S170000, .i32⟩
  | 33 => ⟨S170000, .i1⟩
  | 34 => ⟨S_, .i32⟩
  | 35 => ⟨S170000, .i32⟩
  | 36 => ⟨S170000, .i32⟩
  | 37 => ⟨S170000, .i32⟩
  | 38 => ⟨S170000x1, .i32⟩
  | 39 => ⟨S1, .i32⟩
  | 40 => ⟨S_, .i32⟩
  | 41 => ⟨S170000x1, .i32⟩
  | 42 => ⟨S170000x1, .i1⟩
  | 43 => ⟨S1x1, .i32⟩
  | 44 => ⟨S170000x1, .i32⟩
  | 45 => ⟨S170000x1, .i1⟩
  | 46 => ⟨S170000x1, .i1⟩
  | 47 => ⟨S_, .i1⟩
  | 48 => ⟨S170000, .i1⟩
  | 49 => ⟨S170000x256, .f32⟩
  | 50 => ⟨S170000x256, .i1⟩
  | 51 => ⟨S_, .f32⟩
  | 52 => ⟨S170000x256, .f32⟩
  | 53 => ⟨S170000x256, .f32⟩
  | 54 => ⟨S170000x256, .f32⟩
  | 55 => ⟨S1x16x256, .f32⟩
  | 56 => ⟨S16x256, .f32⟩
  | 57 => ⟨S170000x1, .i32⟩
  | 58 => ⟨S170000, .i32⟩
  | 59 => ⟨S_, .i32⟩
  | 60 => ⟨S170000, .i32⟩
  | 61 => ⟨S170000, .i1⟩
  | 62 => ⟨S_, .i32⟩
  | 63 => ⟨S170000, .i32⟩
  | 64 => ⟨S170000, .i32⟩
  | 65 => ⟨S170000, .i32⟩
  | 66 => ⟨S170000x1, .i32⟩
  | 67 => ⟨S1, .i32⟩
  | 68 => ⟨S_, .i32⟩
  | 69 => ⟨S170000x1, .i32⟩
  | 70 => ⟨S170000x1, .i1⟩
  | 71 => ⟨S1x1, .i32⟩
  | 72 => ⟨S170000x1, .i32⟩
  | 73 => ⟨S170000x1, .i1⟩
  | 74 => ⟨S170000x1, .i1⟩
  | 75 => ⟨S_, .i1⟩
  | 76 => ⟨S170000, .i1⟩
  | 77 => ⟨S170000x256, .f32⟩
  | 78 => ⟨S170000x256, .i1⟩
  | 79 => ⟨S_, .f32⟩
  | 80 => ⟨S170000x256, .f32⟩
  | 81 => ⟨S170000x256, .f32⟩
  | 82 => ⟨S170000x256, .f32⟩
  | 83 => ⟨S1x16x256, .f32⟩
  | 84 => ⟨S16x256, .f32⟩
  | 85 => ⟨S170000x1, .i32⟩
  | 86 => ⟨S170000, .i32⟩
  | 87 => ⟨S_, .i32⟩
  | 88 => ⟨S170000, .i32⟩
  | 89 => ⟨S170000, .i1⟩
  | 90 => ⟨S_, .i32⟩
  | 91 => ⟨S170000, .i32⟩
  | 92 => ⟨S170000, .i32⟩
  | 93 => ⟨S170000, .i32⟩
  | 94 => ⟨S170000x1, .i32⟩
  | 95 => ⟨S1, .i32⟩
  | 96 => ⟨S_, .i32⟩
  | 97 => ⟨S170000x1, .i32⟩
  | 98 => ⟨S170000x1, .i1⟩
  | 99 => ⟨S1x1, .i32⟩
  | 100 => ⟨S170000x1, .i32⟩
  | 101 => ⟨S170000x1, .i1⟩
  | 102 => ⟨S170000x1, .i1⟩
  | 103 => ⟨S_, .i1⟩
  | 104 => ⟨S170000, .i1⟩
  | 105 => ⟨S170000x256, .f32⟩
  | 106 => ⟨S170000x256, .i1⟩
  | 107 => ⟨S_, .f32⟩
  | 108 => ⟨S170000x256, .f32⟩
  | 109 => ⟨S170000x256, .f32⟩
  | 110 => ⟨S170000x256, .f32⟩
  | 111 => ⟨S1x170000, .i32⟩
  | 112 => ⟨S170000, .i32⟩
  | 113 => ⟨S_, .i32⟩
  | 114 => ⟨S170000, .i32⟩
  | 115 => ⟨S170000, .i1⟩
  | 116 => ⟨S_, .i32⟩
  | 117 => ⟨S170000, .i32⟩
  | 118 => ⟨S170000, .i32⟩
  | 119 => ⟨S170000, .i32⟩
  | 120 => ⟨S170000x1, .i32⟩
  | 121 => ⟨S170000x256, .f32⟩
  | 122 => ⟨S170000x256, .f32⟩
  | 123 => ⟨S1x170000, .i32⟩
  | 124 => ⟨S170000, .i32⟩
  | 125 => ⟨S1x170000, .i32⟩
  | 126 => ⟨S170000, .i32⟩
  | 127 => ⟨S_, .i32⟩
  | _ => ⟨S10000x9, .i32⟩

abbrev hbmTy0_3 (i : Nat) : BufTy := match i % 128 with
  | 0 => ⟨S170000, .i32⟩
  | 1 => ⟨S170000, .i1⟩
  | 2 => ⟨S_, .i32⟩
  | 3 => ⟨S170000, .i32⟩
  | 4 => ⟨S170000, .i32⟩
  | 5 => ⟨S170000, .i32⟩
  | 6 => ⟨S170000x1, .i32⟩
  | 7 => ⟨S170000x256, .f32⟩
  | 8 => ⟨S_, .f32⟩
  | 9 => ⟨S10000x256, .f32⟩
  | 10 => ⟨S170000x1, .i32⟩
  | 11 => ⟨S10000x256, .f32⟩
  | 12 => ⟨S10000x256, .f32⟩
  | 13 => ⟨S1x256x512, .f32⟩
  | 14 => ⟨S256x512, .f32⟩
  | 15 => ⟨S10000x512, .f32⟩
  | 16 => ⟨S1x512, .f32⟩
  | 17 => ⟨S512, .f32⟩
  | 18 => ⟨S1x512, .f32⟩
  | 19 => ⟨S10000x512, .f32⟩
  | 20 => ⟨S10000x512, .f32⟩
  | 21 => ⟨S_, .f32⟩
  | 22 => ⟨S10000x512, .f32⟩
  | 23 => ⟨S10000x512, .f32⟩
  | 24 => ⟨S1x512x256, .f32⟩
  | 25 => ⟨S512x256, .f32⟩
  | 26 => ⟨S10000x256, .f32⟩
  | 27 => ⟨S1x256, .f32⟩
  | 28 => ⟨S256, .f32⟩
  | 29 => ⟨S1x256, .f32⟩
  | 30 => ⟨S10000x256, .f32⟩
  | 31 => ⟨S10000x256, .f32⟩
  | 32 => ⟨S_, .f32⟩
  | 33 => ⟨S10000x256, .f32⟩
  | 34 => ⟨S10000x256, .f32⟩
  | 35 => ⟨S_, .f32⟩
  | 36 => ⟨S256, .f32⟩
  | 37 => ⟨S_, .f32⟩
  | 38 => ⟨S256, .f32⟩
  | 39 => ⟨S256, .f32⟩
  | 40 => ⟨S_, .i32⟩
  | 41 => ⟨S_, .f32⟩
  | 42 => ⟨S256, .f32⟩
  | 43 => ⟨S1x256, .f32⟩
  | 44 => ⟨S_, .f32⟩
  | 45 => ⟨S1x256, .f32⟩
  | 46 => ⟨S1x256, .f32⟩
  | 47 => ⟨S10000x256, .f32⟩
  | 48 => ⟨S10000x256, .f32⟩
  | 49 => ⟨S10000x256, .f32⟩
  | 50 => ⟨S_, .f32⟩
  | 51 => ⟨S_, .f32⟩
  | 52 => ⟨S_, .f32⟩
  | 53 => ⟨S_, .f32⟩
  | 54 => ⟨S256, .f32⟩
  | 55 => ⟨S256, .f32⟩
  | 56 => ⟨S256, .f32⟩
  | 57 => ⟨S_, .f32⟩
  | 58 => ⟨S_, .i1⟩
  | 59 => ⟨S_, .f32⟩
  | 60 => ⟨S_, .f32⟩
  | 61 => ⟨S256, .f32⟩
  | 62 => ⟨S256, .f32⟩
  | 63 => ⟨S1x256, .f32⟩
  | 64 => ⟨S256, .f32⟩
  | 65 => ⟨S1x256, .f32⟩
  | 66 => ⟨S10000x256, .f32⟩
  | 67 => ⟨S10000x256, .f32⟩
  | 68 => ⟨S1x256, .f32⟩
  | 69 => ⟨S10000x256, .f32⟩
  | 70 => ⟨S10000x256, .f32⟩
  | 71 => ⟨S_, .f32⟩
  | 72 => ⟨S256, .f32⟩
  | 73 => ⟨S256, .f32⟩
  | 74 => ⟨S256, .f32⟩
  | 75 => ⟨S1x256, .f32⟩
  | 76 => ⟨S10000x256, .f32⟩
  | 77 => ⟨S10000x256, .f32⟩
  | 78 => ⟨S1x256, .f32⟩
  | 79 => ⟨S256, .f32⟩
  | 80 => ⟨S1x256, .f32⟩
  | 81 => ⟨S10000x256, .f32⟩
  | 82 => ⟨S10000x256, .f32⟩
  | 83 => ⟨S_, .i32⟩
  | 84 => ⟨S170000, .i32⟩
  | 85 => ⟨S170000, .i1⟩
  | 86 => ⟨S_, .i32⟩
  | 87 => ⟨S170000, .i32⟩
  | 88 => ⟨S170000, .i32⟩
  | 89 => ⟨S170000, .i32⟩
  | 90 => ⟨S170000x1, .i32⟩
  | 91 => ⟨S170000x256, .f32⟩
  | 92 => ⟨S_, .f32⟩
  | 93 => ⟨S10000x256, .f32⟩
  | 94 => ⟨S170000x1, .i32⟩
  | 95 => ⟨S10000x256, .f32⟩
  | 96 => ⟨S10000x256, .f32⟩
  | 97 => ⟨S1x256x512, .f32⟩
  | 98 => ⟨S256x512, .f32⟩
  | 99 => ⟨S10000x512, .f32⟩
  | 100 => ⟨S1x512, .f32⟩
  | 101 => ⟨S512, .f32⟩
  | 102 => ⟨S1x512, .f32⟩
  | 103 => ⟨S10000x512, .f32⟩
  | 104 => ⟨S10000x512, .f32⟩
  | 105 => ⟨S_, .f32⟩
  | 106 => ⟨S10000x512, .f32⟩
  | 107 => ⟨S10000x512, .f32⟩
  | 108 => ⟨S1x512x256, .f32⟩
  | 109 => ⟨S512x256, .f32⟩
  | 110 => ⟨S10000x256, .f32⟩
  | 111 => ⟨S1x256, .f32⟩
  | 112 => ⟨S256, .f32⟩
  | 113 => ⟨S1x256, .f32⟩
  | 114 => ⟨S10000x256, .f32⟩
  | 115 => ⟨S10000x256, .f32⟩
  | 116 => ⟨S_, .f32⟩
  | 117 => ⟨S10000x256, .f32⟩
  | 118 => ⟨S10000x256, .f32⟩
  | 119 => ⟨S_, .f32⟩
  | 120 => ⟨S256, .f32⟩
  | 121 => ⟨S_, .f32⟩
  | 122 => ⟨S256, .f32⟩
  | 123 => ⟨S256, .f32⟩
  | 124 => ⟨S_, .i32⟩
  | 125 => ⟨S_, .f32⟩
  | 126 => ⟨S256, .f32⟩
  | 127 => ⟨S1x256, .f32⟩
  | _ => ⟨S10000x9, .i32⟩

abbrev hbmTy0_4 (i : Nat) : BufTy := match i % 128 with
  | 0 => ⟨S_, .f32⟩
  | 1 => ⟨S1x256, .f32⟩
  | 2 => ⟨S1x256, .f32⟩
  | 3 => ⟨S10000x256, .f32⟩
  | 4 => ⟨S10000x256, .f32⟩
  | 5 => ⟨S10000x256, .f32⟩
  | 6 => ⟨S_, .f32⟩
  | 7 => ⟨S_, .f32⟩
  | 8 => ⟨S_, .f32⟩
  | 9 => ⟨S_, .f32⟩
  | 10 => ⟨S256, .f32⟩
  | 11 => ⟨S256, .f32⟩
  | 12 => ⟨S256, .f32⟩
  | 13 => ⟨S_, .f32⟩
  | 14 => ⟨S_, .i1⟩
  | 15 => ⟨S_, .f32⟩
  | 16 => ⟨S_, .f32⟩
  | 17 => ⟨S256, .f32⟩
  | 18 => ⟨S256, .f32⟩
  | 19 => ⟨S1x256, .f32⟩
  | 20 => ⟨S256, .f32⟩
  | 21 => ⟨S1x256, .f32⟩
  | 22 => ⟨S10000x256, .f32⟩
  | 23 => ⟨S10000x256, .f32⟩
  | 24 => ⟨S1x256, .f32⟩
  | 25 => ⟨S10000x256, .f32⟩
  | 26 => ⟨S10000x256, .f32⟩
  | 27 => ⟨S_, .f32⟩
  | 28 => ⟨S256, .f32⟩
  | 29 => ⟨S256, .f32⟩
  | 30 => ⟨S256, .f32⟩
  | 31 => ⟨S1x256, .f32⟩
  | 32 => ⟨S10000x256, .f32⟩
  | 33 => ⟨S10000x256, .f32⟩
  | 34 => ⟨S1x256, .f32⟩
  | 35 => ⟨S256, .f32⟩
  | 36 => ⟨S1x256, .f32⟩
  | 37 => ⟨S10000x256, .f32⟩
  | 38 => ⟨S10000x256, .f32⟩
  | 39 => ⟨S_, .i32⟩
  | 40 => ⟨S170000, .i32⟩
  | 41 => ⟨S170000, .i1⟩
  | 42 => ⟨S_, .i32⟩
  | 43 => ⟨S170000, .i32⟩
  | 44 => ⟨S170000, .i32⟩
  | 45 => ⟨S170000, .i32⟩
  | 46 => ⟨S170000x1, .i32⟩
  | 47 => ⟨S170000x256, .f32⟩
  | 48 => ⟨S_, .f32⟩
  | 49 => ⟨S10000x256, .f32⟩
  | 50 => ⟨S170000x1, .i32⟩
  | 51 => ⟨S10000x256, .f32⟩
  | 52 => ⟨S10000x256, .f32⟩
  | 53 => ⟨S1x256x512, .f32⟩
  | 54 => ⟨S256x512, .f32⟩
  | 55 => ⟨S10000x512, .f32⟩
  | 56 => ⟨S1x512, .f32⟩
  | 57 => ⟨S512, .f32⟩
  | 58 => ⟨S1x512, .f32⟩
  | 59 => ⟨S10000x512, .f32⟩
  | 60 => ⟨S10000x512, .f32⟩
  | 61 => ⟨S_, .f32⟩
  | 62 => ⟨S10000x512, .f32⟩
  | 63 => ⟨S10000x512, .f32⟩
  | 64 => ⟨S1x512x256, .f32⟩
  | 65 => ⟨S512x256, .f32⟩
  | 66 => ⟨S10000x256, .f32⟩
  | 67 => ⟨S1x256, .f32⟩
  | 68 => ⟨S256, .f32⟩
  | 69 => ⟨S1x256, .f32⟩
  | 70 => ⟨S10000x256, .f32⟩
  | 71 => ⟨S10000x256, .f32⟩
  | 72 => ⟨S_, .f32⟩
  | 73 => ⟨S10000x256, .f32⟩
  | 74 => ⟨S10000x256, .f32⟩
  | 75 => ⟨S_, .f32⟩
  | 76 => ⟨S256, .f32⟩
  | 77 => ⟨S_, .f32⟩
  | 78 => ⟨S256, .f32⟩
  | 79 => ⟨S256, .f32⟩
  | 80 => ⟨S_, .i32⟩
  | 81 => ⟨S_, .f32⟩
  | 82 => ⟨S256, .f32⟩
  | 83 => ⟨S1x256, .f32⟩
  | 84 => ⟨S_, .f32⟩
  | 85 => ⟨S1x256, .f32⟩
  | 86 => ⟨S1x256, .f32⟩
  | 87 => ⟨S10000x256, .f32⟩
  | 88 => ⟨S10000x256, .f32⟩
  | 89 => ⟨S10000x256, .f32⟩
  | 90 => ⟨S_, .f32⟩
  | 91 => ⟨S_, .f32⟩
  | 92 => ⟨S_, .f32⟩
  | 93 => ⟨S_, .f32⟩
  | 94 => ⟨S256, .f32⟩
  | 95 => ⟨S256, .f32⟩
  | 96 => ⟨S256, .f32⟩
  | 97 => ⟨S_, .f32⟩
  | 98 => ⟨S_, .i1⟩
  | 99 => ⟨S_, .f32⟩
  | 100 => ⟨S_, .f32⟩
  | 101 => ⟨S256, .f32⟩
  | 102 => ⟨S256, .f32⟩
  | 103 => ⟨S1x256, .f32⟩
  | 104 => ⟨S256, .f32⟩
  | 105 => ⟨S1x256, .f32⟩
  | 106 => ⟨S10000x256, .f32⟩
  | 107 => ⟨S10000x256, .f32⟩
  | 108 => ⟨S1x256, .f32⟩
  | 109 => ⟨S10000x256, .f32⟩
  | 110 => ⟨S10000x256, .f32⟩
  | 111 => ⟨S_, .f32⟩
  | 112 => ⟨S256, .f32⟩
  | 113 => ⟨S256, .f32⟩
  | 114 => ⟨S256, .f32⟩
  | 115 => ⟨S1x256, .f32⟩
  | 116 => ⟨S10000x256, .f32⟩
  | 117 => ⟨S10000x256, .f32⟩
  | 118 => ⟨S1x256, .f32⟩
  | 119 => ⟨S256, .f32⟩
  | 120 => ⟨S1x256, .f32⟩
  | 121 => ⟨S10000x256, .f32⟩
  | 122 => ⟨S10000x256, .f32⟩
  | 123 => ⟨S_, .f32⟩
  | 124 => ⟨S256x256, .f32⟩
  | 125 => ⟨S10000x1, .i32⟩
  | 126 => ⟨S256x256, .f32⟩
  | 127 => ⟨S_, .f32⟩
  | _ => ⟨S10000x9, .i32⟩

abbrev hbmTy0_5 (i : Nat) : BufTy := match i % 128 with
  | 0 => ⟨S10000x1, .f32⟩
  | 1 => ⟨S_, .f32⟩
  | 2 => ⟨S256x1, .f32⟩
  | 3 => ⟨S10000x1, .i32⟩
  | 4 => ⟨S256x1, .f32⟩
  | 5 => ⟨S_, .f32⟩
  | 6 => ⟨S256x1, .f32⟩
  | 7 => ⟨S256x1, .f32⟩
  | 8 => ⟨S256x256, .f32⟩
  | 9 => ⟨S256x256, .f32⟩
  | 10 => ⟨S256x256, .f32⟩
  | 11 => ⟨S1x256, .f32⟩
  | 12 => ⟨S256x256, .f32⟩
  | 13 => ⟨S256x256, .f32⟩
  | 14 => ⟨S_, .f32⟩
  | 15 => ⟨S256x256, .f32⟩
  | 16 => ⟨S256x256, .f32⟩
  | _ => ⟨S10000x9, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S10000x9, .i32⟩

abbrev bufTy : (tb : Table) → Fin (tcTables nBuf tb) → BufTy
  | .hbm, ⟨i, _⟩ => hbmTy i
  | _, _ => ⟨S10000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_call2_c : Ref sig .tc := ⟨.hbm, 89, rfl⟩
abbrev main_call2_v0 : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_c_1 : Ref sig .tc := ⟨.hbm, 97, rfl⟩
abbrev main_call2_c_2 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_c_3 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_call2_cst : Ref sig .tc := ⟨.hbm, 109, rfl⟩
abbrev main_call2_v15 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_call3_c : Ref sig .tc := ⟨.hbm, 117, rfl⟩
abbrev main_call3_v0 : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_c_1 : Ref sig .tc := ⟨.hbm, 125, rfl⟩
abbrev main_call3_c_2 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_c_3 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_call3_cst : Ref sig .tc := ⟨.hbm, 137, rfl⟩
abbrev main_call3_v15 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_call4_c : Ref sig .tc := ⟨.hbm, 145, rfl⟩
abbrev main_call4_v0 : Ref sig .tc := ⟨.hbm, 146, rfl⟩
abbrev main_call4_v1 : Ref sig .tc := ⟨.hbm, 147, rfl⟩
abbrev main_call4_c_0 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_c_1 : Ref sig .tc := ⟨.hbm, 153, rfl⟩
abbrev main_call4_c_2 : Ref sig .tc := ⟨.hbm, 154, rfl⟩
abbrev main_call4_v6 : Ref sig .tc := ⟨.hbm, 155, rfl⟩
abbrev main_call4_v7 : Ref sig .tc := ⟨.hbm, 156, rfl⟩
abbrev main_call4_v8 : Ref sig .tc := ⟨.hbm, 157, rfl⟩
abbrev main_call4_v9 : Ref sig .tc := ⟨.hbm, 158, rfl⟩
abbrev main_call4_v10 : Ref sig .tc := ⟨.hbm, 159, rfl⟩
abbrev main_call4_v11 : Ref sig .tc := ⟨.hbm, 160, rfl⟩
abbrev main_call4_c_3 : Ref sig .tc := ⟨.hbm, 161, rfl⟩
abbrev main_call4_v12 : Ref sig .tc := ⟨.hbm, 162, rfl⟩
abbrev main_call4_v13 : Ref sig .tc := ⟨.hbm, 163, rfl⟩
abbrev main_call4_v14 : Ref sig .tc := ⟨.hbm, 164, rfl⟩
abbrev main_call4_cst : Ref sig .tc := ⟨.hbm, 165, rfl⟩
abbrev main_call4_v15 : Ref sig .tc := ⟨.hbm, 166, rfl⟩
abbrev main_v39 : Ref sig .tc := ⟨.hbm, 167, rfl⟩
abbrev main_v40 : Ref sig .tc := ⟨.hbm, 168, rfl⟩
abbrev main_v41 : Ref sig .tc := ⟨.hbm, 169, rfl⟩
abbrev main_v42 : Ref sig .tc := ⟨.hbm, 170, rfl⟩
abbrev main_v43 : Ref sig .tc := ⟨.hbm, 171, rfl⟩
abbrev main_v44 : Ref sig .tc := ⟨.hbm, 172, rfl⟩
abbrev main_call5_c : Ref sig .tc := ⟨.hbm, 173, rfl⟩
abbrev main_call5_v0 : Ref sig .tc := ⟨.hbm, 174, rfl⟩
abbrev main_call5_v1 : Ref sig .tc := ⟨.hbm, 175, rfl⟩
abbrev main_call5_c_0 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_call5_v5 : Ref sig .tc := ⟨.hbm, 180, rfl⟩
abbrev main_call5_c_1 : Ref sig .tc := ⟨.hbm, 181, rfl⟩
abbrev main_call5_c_2 : Ref sig .tc := ⟨.hbm, 182, rfl⟩
abbrev main_call5_v6 : Ref sig .tc := ⟨.hbm, 183, rfl⟩
abbrev main_call5_v7 : Ref sig .tc := ⟨.hbm, 184, rfl⟩
abbrev main_call5_v8 : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_call5_c_3 : Ref sig .tc := ⟨.hbm, 189, rfl⟩
abbrev main_call5_v12 : Ref sig .tc := ⟨.hbm, 190, rfl⟩
abbrev main_call5_v13 : Ref sig .tc := ⟨.hbm, 191, rfl⟩
abbrev main_call5_v14 : Ref sig .tc := ⟨.hbm, 192, rfl⟩
abbrev main_call5_cst : Ref sig .tc := ⟨.hbm, 193, rfl⟩
abbrev main_call5_v15 : Ref sig .tc := ⟨.hbm, 194, rfl⟩
abbrev main_v45 : Ref sig .tc := ⟨.hbm, 195, rfl⟩
abbrev main_v46 : Ref sig .tc := ⟨.hbm, 196, rfl⟩
abbrev main_v47 : Ref sig .tc := ⟨.hbm, 197, rfl⟩
abbrev main_v48 : Ref sig .tc := ⟨.hbm, 198, rfl⟩
abbrev main_v49 : Ref sig .tc := ⟨.hbm, 199, rfl⟩
abbrev main_v50 : Ref sig .tc := ⟨.hbm, 200, rfl⟩
abbrev main_call6_c : Ref sig .tc := ⟨.hbm, 201, rfl⟩
abbrev main_call6_v0 : Ref sig .tc := ⟨.hbm, 202, rfl⟩
abbrev main_call6_v1 : Ref sig .tc := ⟨.hbm, 203, rfl⟩
abbrev main_call6_c_0 : Ref sig .tc := ⟨.hbm, 204, rfl⟩
abbrev main_call6_v2 : Ref sig .tc := ⟨.hbm, 205, rfl⟩
abbrev main_call6_v3 : Ref sig .tc := ⟨.hbm, 206, rfl⟩
abbrev main_call6_v4 : Ref sig .tc := ⟨.hbm, 207, rfl⟩
abbrev main_call6_v5 : Ref sig .tc := ⟨.hbm, 208, rfl⟩
abbrev main_call6_c_1 : Ref sig .tc := ⟨.hbm, 209, rfl⟩
abbrev main_call6_c_2 : Ref sig .tc := ⟨.hbm, 210, rfl⟩
abbrev main_call6_v6 : Ref sig .tc := ⟨.hbm, 211, rfl⟩
abbrev main_call6_v7 : Ref sig .tc := ⟨.hbm, 212, rfl⟩
abbrev main_call6_v8 : Ref sig .tc := ⟨.hbm, 213, rfl⟩
abbrev main_call6_v9 : Ref sig .tc := ⟨.hbm, 214, rfl⟩
abbrev main_call6_v10 : Ref sig .tc := ⟨.hbm, 215, rfl⟩
abbrev main_call6_v11 : Ref sig .tc := ⟨.hbm, 216, rfl⟩
abbrev main_call6_c_3 : Ref sig .tc := ⟨.hbm, 217, rfl⟩
abbrev main_call6_v12 : Ref sig .tc := ⟨.hbm, 218, rfl⟩
abbrev main_call6_v13 : Ref sig .tc := ⟨.hbm, 219, rfl⟩
abbrev main_call6_v14 : Ref sig .tc := ⟨.hbm, 220, rfl⟩
abbrev main_call6_cst : Ref sig .tc := ⟨.hbm, 221, rfl⟩
abbrev main_call6_v15 : Ref sig .tc := ⟨.hbm, 222, rfl⟩
abbrev main_v51 : Ref sig .tc := ⟨.hbm, 223, rfl⟩
abbrev main_v52 : Ref sig .tc := ⟨.hbm, 224, rfl⟩
abbrev main_v53 : Ref sig .tc := ⟨.hbm, 225, rfl⟩
abbrev main_v54 : Ref sig .tc := ⟨.hbm, 226, rfl⟩
abbrev main_v55 : Ref sig .tc := ⟨.hbm, 227, rfl⟩
abbrev main_v56 : Ref sig .tc := ⟨.hbm, 228, rfl⟩
abbrev main_call7_c : Ref sig .tc := ⟨.hbm, 229, rfl⟩
abbrev main_call7_v0 : Ref sig .tc := ⟨.hbm, 230, rfl⟩
abbrev main_call7_v1 : Ref sig .tc := ⟨.hbm, 231, rfl⟩
abbrev main_call7_c_0 : Ref sig .tc := ⟨.hbm, 232, rfl⟩
abbrev main_call7_v2 : Ref sig .tc := ⟨.hbm, 233, rfl⟩
abbrev main_call7_v3 : Ref sig .tc := ⟨.hbm, 234, rfl⟩
abbrev main_call7_v4 : Ref sig .tc := ⟨.hbm, 235, rfl⟩
abbrev main_call7_v5 : Ref sig .tc := ⟨.hbm, 236, rfl⟩
abbrev main_call7_c_1 : Ref sig .tc := ⟨.hbm, 237, rfl⟩
abbrev main_call7_c_2 : Ref sig .tc := ⟨.hbm, 238, rfl⟩
abbrev main_call7_v6 : Ref sig .tc := ⟨.hbm, 239, rfl⟩
abbrev main_call7_v7 : Ref sig .tc := ⟨.hbm, 240, rfl⟩
abbrev main_call7_v8 : Ref sig .tc := ⟨.hbm, 241, rfl⟩
abbrev main_call7_v9 : Ref sig .tc := ⟨.hbm, 242, rfl⟩
abbrev main_call7_v10 : Ref sig .tc := ⟨.hbm, 243, rfl⟩
abbrev main_call7_v11 : Ref sig .tc := ⟨.hbm, 244, rfl⟩
abbrev main_call7_c_3 : Ref sig .tc := ⟨.hbm, 245, rfl⟩
abbrev main_call7_v12 : Ref sig .tc := ⟨.hbm, 246, rfl⟩
abbrev main_call7_v13 : Ref sig .tc := ⟨.hbm, 247, rfl⟩
abbrev main_call7_v14 : Ref sig .tc := ⟨.hbm, 248, rfl⟩
abbrev main_call7_cst : Ref sig .tc := ⟨.hbm, 249, rfl⟩
abbrev main_call7_v15 : Ref sig .tc := ⟨.hbm, 250, rfl⟩
abbrev main_v57 : Ref sig .tc := ⟨.hbm, 251, rfl⟩
abbrev main_v58 : Ref sig .tc := ⟨.hbm, 252, rfl⟩
abbrev main_v59 : Ref sig .tc := ⟨.hbm, 253, rfl⟩
abbrev main_v60 : Ref sig .tc := ⟨.hbm, 254, rfl⟩
abbrev main_v61 : Ref sig .tc := ⟨.hbm, 255, rfl⟩
abbrev main_v62 : Ref sig .tc := ⟨.hbm, 256, rfl⟩
abbrev main_call8_c : Ref sig .tc := ⟨.hbm, 257, rfl⟩
abbrev main_call8_v0 : Ref sig .tc := ⟨.hbm, 258, rfl⟩
abbrev main_call8_v1 : Ref sig .tc := ⟨.hbm, 259, rfl⟩
abbrev main_call8_c_0 : Ref sig .tc := ⟨.hbm, 260, rfl⟩
abbrev main_call8_v2 : Ref sig .tc := ⟨.hbm, 261, rfl⟩
abbrev main_call8_v3 : Ref sig .tc := ⟨.hbm, 262, rfl⟩
abbrev main_call8_v4 : Ref sig .tc := ⟨.hbm, 263, rfl⟩
abbrev main_call8_v5 : Ref sig .tc := ⟨.hbm, 264, rfl⟩
abbrev main_call8_c_1 : Ref sig .tc := ⟨.hbm, 265, rfl⟩
abbrev main_call8_c_2 : Ref sig .tc := ⟨.hbm, 266, rfl⟩
abbrev main_call8_v6 : Ref sig .tc := ⟨.hbm, 267, rfl⟩
abbrev main_call8_v7 : Ref sig .tc := ⟨.hbm, 268, rfl⟩
abbrev main_call8_v8 : Ref sig .tc := ⟨.hbm, 269, rfl⟩
abbrev main_call8_v9 : Ref sig .tc := ⟨.hbm, 270, rfl⟩
abbrev main_call8_v10 : Ref sig .tc := ⟨.hbm, 271, rfl⟩
abbrev main_call8_v11 : Ref sig .tc := ⟨.hbm, 272, rfl⟩
abbrev main_call8_c_3 : Ref sig .tc := ⟨.hbm, 273, rfl⟩
abbrev main_call8_v12 : Ref sig .tc := ⟨.hbm, 274, rfl⟩
abbrev main_call8_v13 : Ref sig .tc := ⟨.hbm, 275, rfl⟩
abbrev main_call8_v14 : Ref sig .tc := ⟨.hbm, 276, rfl⟩
abbrev main_call8_cst : Ref sig .tc := ⟨.hbm, 277, rfl⟩
abbrev main_call8_v15 : Ref sig .tc := ⟨.hbm, 278, rfl⟩
abbrev main_v63 : Ref sig .tc := ⟨.hbm, 279, rfl⟩
abbrev main_v64 : Ref sig .tc := ⟨.hbm, 280, rfl⟩
abbrev main_cst_2 : Ref sig .tc := ⟨.hbm, 281, rfl⟩
abbrev main_v65 : Ref sig .tc := ⟨.hbm, 282, rfl⟩
abbrev main_v66 : Ref sig .tc := ⟨.hbm, 283, rfl⟩
abbrev main_v67 : Ref sig .tc := ⟨.hbm, 284, rfl⟩
abbrev main_v68 : Ref sig .tc := ⟨.hbm, 285, rfl⟩
abbrev main_v69 : Ref sig .tc := ⟨.hbm, 286, rfl⟩
abbrev main_call9_c : Ref sig .tc := ⟨.hbm, 287, rfl⟩
abbrev main_call9_v0 : Ref sig .tc := ⟨.hbm, 288, rfl⟩
abbrev main_call9_v1 : Ref sig .tc := ⟨.hbm, 289, rfl⟩
abbrev main_call9_c_0 : Ref sig .tc := ⟨.hbm, 290, rfl⟩
abbrev main_call9_v2 : Ref sig .tc := ⟨.hbm, 291, rfl⟩
abbrev main_call9_v3 : Ref sig .tc := ⟨.hbm, 292, rfl⟩
abbrev main_call9_v4 : Ref sig .tc := ⟨.hbm, 293, rfl⟩
abbrev main_call9_v5 : Ref sig .tc := ⟨.hbm, 294, rfl⟩
abbrev main_call9_c_1 : Ref sig .tc := ⟨.hbm, 295, rfl⟩
abbrev main_call9_c_2 : Ref sig .tc := ⟨.hbm, 296, rfl⟩
abbrev main_call9_v6 : Ref sig .tc := ⟨.hbm, 297, rfl⟩
abbrev main_call9_v7 : Ref sig .tc := ⟨.hbm, 298, rfl⟩
abbrev main_call9_v8 : Ref sig .tc := ⟨.hbm, 299, rfl⟩
abbrev main_call9_v9 : Ref sig .tc := ⟨.hbm, 300, rfl⟩
abbrev main_call9_v10 : Ref sig .tc := ⟨.hbm, 301, rfl⟩
abbrev main_call9_v11 : Ref sig .tc := ⟨.hbm, 302, rfl⟩
abbrev main_call9_c_3 : Ref sig .tc := ⟨.hbm, 303, rfl⟩
abbrev main_call9_v12 : Ref sig .tc := ⟨.hbm, 304, rfl⟩
abbrev main_call9_v13 : Ref sig .tc := ⟨.hbm, 305, rfl⟩
abbrev main_call9_v14 : Ref sig .tc := ⟨.hbm, 306, rfl⟩
abbrev main_call9_cst : Ref sig .tc := ⟨.hbm, 307, rfl⟩
abbrev main_call9_v15 : Ref sig .tc := ⟨.hbm, 308, rfl⟩
abbrev main_v70 : Ref sig .tc := ⟨.hbm, 309, rfl⟩
abbrev main_v71 : Ref sig .tc := ⟨.hbm, 310, rfl⟩
abbrev main_v72 : Ref sig .tc := ⟨.hbm, 311, rfl⟩
abbrev main_v73 : Ref sig .tc := ⟨.hbm, 312, rfl⟩
abbrev main_v74 : Ref sig .tc := ⟨.hbm, 313, rfl⟩
abbrev main_v75 : Ref sig .tc := ⟨.hbm, 314, rfl⟩
abbrev main_call10_c : Ref sig .tc := ⟨.hbm, 315, rfl⟩
abbrev main_call10_v0 : Ref sig .tc := ⟨.hbm, 316, rfl⟩
abbrev main_call10_v1 : Ref sig .tc := ⟨.hbm, 317, rfl⟩
abbrev main_call10_c_0 : Ref sig .tc := ⟨.hbm, 318, rfl⟩
abbrev main_call10_v2 : Ref sig .tc := ⟨.hbm, 319, rfl⟩
abbrev main_call10_v3 : Ref sig .tc := ⟨.hbm, 320, rfl⟩
abbrev main_call10_v4 : Ref sig .tc := ⟨.hbm, 321, rfl⟩
abbrev main_call10_v5 : Ref sig .tc := ⟨.hbm, 322, rfl⟩
abbrev main_call10_c_1 : Ref sig .tc := ⟨.hbm, 323, rfl⟩
abbrev main_call10_c_2 : Ref sig .tc := ⟨.hbm, 324, rfl⟩
abbrev main_call10_v6 : Ref sig .tc := ⟨.hbm, 325, rfl⟩
abbrev main_call10_v7 : Ref sig .tc := ⟨.hbm, 326, rfl⟩
abbrev main_call10_v8 : Ref sig .tc := ⟨.hbm, 327, rfl⟩
abbrev main_call10_v9 : Ref sig .tc := ⟨.hbm, 328, rfl⟩
abbrev main_call10_v10 : Ref sig .tc := ⟨.hbm, 329, rfl⟩
abbrev main_call10_v11 : Ref sig .tc := ⟨.hbm, 330, rfl⟩
abbrev main_call10_c_3 : Ref sig .tc := ⟨.hbm, 331, rfl⟩
abbrev main_call10_v12 : Ref sig .tc := ⟨.hbm, 332, rfl⟩
abbrev main_call10_v13 : Ref sig .tc := ⟨.hbm, 333, rfl⟩
abbrev main_call10_v14 : Ref sig .tc := ⟨.hbm, 334, rfl⟩
abbrev main_call10_cst : Ref sig .tc := ⟨.hbm, 335, rfl⟩
abbrev main_call10_v15 : Ref sig .tc := ⟨.hbm, 336, rfl⟩
abbrev main_v76 : Ref sig .tc := ⟨.hbm, 337, rfl⟩
abbrev main_v77 : Ref sig .tc := ⟨.hbm, 338, rfl⟩
abbrev main_v78 : Ref sig .tc := ⟨.hbm, 339, rfl⟩
abbrev main_v79 : Ref sig .tc := ⟨.hbm, 340, rfl⟩
abbrev main_v80 : Ref sig .tc := ⟨.hbm, 341, rfl⟩
abbrev main_v81 : Ref sig .tc := ⟨.hbm, 342, rfl⟩
abbrev main_call11_c : Ref sig .tc := ⟨.hbm, 343, rfl⟩
abbrev main_call11_v0 : Ref sig .tc := ⟨.hbm, 344, rfl⟩
abbrev main_call11_v1 : Ref sig .tc := ⟨.hbm, 345, rfl⟩
abbrev main_call11_c_0 : Ref sig .tc := ⟨.hbm, 346, rfl⟩
abbrev main_call11_v2 : Ref sig .tc := ⟨.hbm, 347, rfl⟩
abbrev main_call11_v3 : Ref sig .tc := ⟨.hbm, 348, rfl⟩
abbrev main_call11_v4 : Ref sig .tc := ⟨.hbm, 349, rfl⟩
abbrev main_call11_v5 : Ref sig .tc := ⟨.hbm, 350, rfl⟩
abbrev main_call11_c_1 : Ref sig .tc := ⟨.hbm, 351, rfl⟩
abbrev main_call11_c_2 : Ref sig .tc := ⟨.hbm, 352, rfl⟩
abbrev main_call11_v6 : Ref sig .tc := ⟨.hbm, 353, rfl⟩
abbrev main_call11_v7 : Ref sig .tc := ⟨.hbm, 354, rfl⟩
abbrev main_call11_v8 : Ref sig .tc := ⟨.hbm, 355, rfl⟩
abbrev main_call11_v9 : Ref sig .tc := ⟨.hbm, 356, rfl⟩
abbrev main_call11_v10 : Ref sig .tc := ⟨.hbm, 357, rfl⟩
abbrev main_call11_v11 : Ref sig .tc := ⟨.hbm, 358, rfl⟩
abbrev main_call11_c_3 : Ref sig .tc := ⟨.hbm, 359, rfl⟩
abbrev main_call11_v12 : Ref sig .tc := ⟨.hbm, 360, rfl⟩
abbrev main_call11_v13 : Ref sig .tc := ⟨.hbm, 361, rfl⟩
abbrev main_call11_v14 : Ref sig .tc := ⟨.hbm, 362, rfl⟩
abbrev main_call11_cst : Ref sig .tc := ⟨.hbm, 363, rfl⟩
abbrev main_call11_v15 : Ref sig .tc := ⟨.hbm, 364, rfl⟩
abbrev main_v82 : Ref sig .tc := ⟨.hbm, 365, rfl⟩
abbrev main_v83 : Ref sig .tc := ⟨.hbm, 366, rfl⟩
abbrev main_v84 : Ref sig .tc := ⟨.hbm, 367, rfl⟩
abbrev main_v85 : Ref sig .tc := ⟨.hbm, 368, rfl⟩
abbrev main_c_3 : Ref sig .tc := ⟨.hbm, 369, rfl⟩
abbrev main_v86 : Ref sig .tc := ⟨.hbm, 370, rfl⟩
abbrev main_v87 : Ref sig .tc := ⟨.hbm, 371, rfl⟩
abbrev main_c_4 : Ref sig .tc := ⟨.hbm, 372, rfl⟩
abbrev main_v88 : Ref sig .tc := ⟨.hbm, 373, rfl⟩
abbrev main_v89 : Ref sig .tc := ⟨.hbm, 374, rfl⟩
abbrev main_v90 : Ref sig .tc := ⟨.hbm, 375, rfl⟩
abbrev main_v91 : Ref sig .tc := ⟨.hbm, 376, rfl⟩
abbrev main_v92 : Ref sig .tc := ⟨.hbm, 377, rfl⟩
abbrev main_v93 : Ref sig .tc := ⟨.hbm, 378, rfl⟩
abbrev main_v94 : Ref sig .tc := ⟨.hbm, 379, rfl⟩
abbrev main_v95 : Ref sig .tc := ⟨.hbm, 380, rfl⟩
abbrev main_v96 : Ref sig .tc := ⟨.hbm, 381, rfl⟩
abbrev main_v97 : Ref sig .tc := ⟨.hbm, 382, rfl⟩
abbrev main_c_5 : Ref sig .tc := ⟨.hbm, 383, rfl⟩
abbrev main_v98 : Ref sig .tc := ⟨.hbm, 384, rfl⟩
abbrev main_v99 : Ref sig .tc := ⟨.hbm, 385, rfl⟩
abbrev main_c_6 : Ref sig .tc := ⟨.hbm, 386, rfl⟩
abbrev main_v100 : Ref sig .tc := ⟨.hbm, 387, rfl⟩
abbrev main_v101 : Ref sig .tc := ⟨.hbm, 388, rfl⟩
abbrev main_v102 : Ref sig .tc := ⟨.hbm, 389, rfl⟩
abbrev main_v103 : Ref sig .tc := ⟨.hbm, 390, rfl⟩
abbrev main_v104 : Ref sig .tc := ⟨.hbm, 391, rfl⟩
abbrev main_cst_7 : Ref sig .tc := ⟨.hbm, 392, rfl⟩
abbrev main_v105 : Ref sig .tc := ⟨.hbm, 393, rfl⟩
abbrev main_v106 : Ref sig .tc := ⟨.hbm, 394, rfl⟩
abbrev main_v107 : Ref sig .tc := ⟨.hbm, 395, rfl⟩
abbrev main_v108 : Ref sig .tc := ⟨.hbm, 396, rfl⟩
abbrev main_v109 : Ref sig .tc := ⟨.hbm, 397, rfl⟩
abbrev main_v110 : Ref sig .tc := ⟨.hbm, 398, rfl⟩
abbrev main_v111 : Ref sig .tc := ⟨.hbm, 399, rfl⟩
abbrev main_v112 : Ref sig .tc := ⟨.hbm, 400, rfl⟩
abbrev main_v113 : Ref sig .tc := ⟨.hbm, 401, rfl⟩
abbrev main_v114 : Ref sig .tc := ⟨.hbm, 402, rfl⟩
abbrev main_v115 : Ref sig .tc := ⟨.hbm, 403, rfl⟩
abbrev main_v116 : Ref sig .tc := ⟨.hbm, 404, rfl⟩
abbrev main_call12_cst : Ref sig .tc := ⟨.hbm, 405, rfl⟩
abbrev main_call12_v0 : Ref sig .tc := ⟨.hbm, 406, rfl⟩
abbrev main_v117 : Ref sig .tc := ⟨.hbm, 407, rfl⟩
abbrev main_v118 : Ref sig .tc := ⟨.hbm, 408, rfl⟩
abbrev main_v119 : Ref sig .tc := ⟨.hbm, 409, rfl⟩
abbrev main_v120 : Ref sig .tc := ⟨.hbm, 410, rfl⟩
abbrev main_v121 : Ref sig .tc := ⟨.hbm, 411, rfl⟩
abbrev main_v122 : Ref sig .tc := ⟨.hbm, 412, rfl⟩
abbrev main_v123 : Ref sig .tc := ⟨.hbm, 413, rfl⟩
abbrev main_v124 : Ref sig .tc := ⟨.hbm, 414, rfl⟩
abbrev main_v125 : Ref sig .tc := ⟨.hbm, 415, rfl⟩
abbrev main_call13_cst : Ref sig .tc := ⟨.hbm, 416, rfl⟩
abbrev main_call13_v0 : Ref sig .tc := ⟨.hbm, 417, rfl⟩
abbrev main_v126 : Ref sig .tc := ⟨.hbm, 418, rfl⟩
abbrev main_cst_8 : Ref sig .tc := ⟨.hbm, 419, rfl⟩
abbrev main_v127 : Ref sig .tc := ⟨.hbm, 420, rfl⟩
abbrev main_cst_9 : Ref sig .tc := ⟨.hbm, 421, rfl⟩
abbrev main_v128 : Ref sig .tc := ⟨.hbm, 422, rfl⟩
abbrev main_v129 : Ref sig .tc := ⟨.hbm, 423, rfl⟩
abbrev main_c_10 : Ref sig .tc := ⟨.hbm, 424, rfl⟩
abbrev main_call14_cst : Ref sig .tc := ⟨.hbm, 425, rfl⟩
abbrev main_call14_v0 : Ref sig .tc := ⟨.hbm, 426, rfl⟩
abbrev main_call14_v1 : Ref sig .tc := ⟨.hbm, 427, rfl⟩
abbrev main_call14_cst_0 : Ref sig .tc := ⟨.hbm, 428, rfl⟩
abbrev main_call14_v2 : Ref sig .tc := ⟨.hbm, 429, rfl⟩
abbrev main_call14_v3 : Ref sig .tc := ⟨.hbm, 430, rfl⟩
abbrev main_call14_v4 : Ref sig .tc := ⟨.hbm, 431, rfl⟩
abbrev main_call14_v5 : Ref sig .tc := ⟨.hbm, 432, rfl⟩
abbrev main_call14_v6 : Ref sig .tc := ⟨.hbm, 433, rfl⟩
abbrev main_call14_v7 : Ref sig .tc := ⟨.hbm, 434, rfl⟩
abbrev main_call14_cst_1 : Ref sig .tc := ⟨.hbm, 435, rfl⟩
abbrev main_call14_v8 : Ref sig .tc := ⟨.hbm, 436, rfl⟩
abbrev main_call14_cst_2 : Ref sig .tc := ⟨.hbm, 437, rfl⟩
abbrev main_call14_v9 : Ref sig .tc := ⟨.hbm, 438, rfl⟩
abbrev main_call14_v10 : Ref sig .tc := ⟨.hbm, 439, rfl⟩
abbrev main_call14_v11 : Ref sig .tc := ⟨.hbm, 440, rfl⟩
abbrev main_call14_cst_3 : Ref sig .tc := ⟨.hbm, 441, rfl⟩
abbrev main_call14_v12 : Ref sig .tc := ⟨.hbm, 442, rfl⟩
abbrev main_call14_cst_4 : Ref sig .tc := ⟨.hbm, 443, rfl⟩
abbrev main_call14_call0_v0 : Ref sig .tc := ⟨.hbm, 444, rfl⟩
abbrev main_call14_call0_v1 : Ref sig .tc := ⟨.hbm, 445, rfl⟩
abbrev main_v130 : Ref sig .tc := ⟨.hbm, 446, rfl⟩
abbrev main_v131 : Ref sig .tc := ⟨.hbm, 447, rfl⟩
abbrev main_v132 : Ref sig .tc := ⟨.hbm, 448, rfl⟩
abbrev main_v133 : Ref sig .tc := ⟨.hbm, 449, rfl⟩
abbrev main_v134 : Ref sig .tc := ⟨.hbm, 450, rfl⟩
abbrev main_v135 : Ref sig .tc := ⟨.hbm, 451, rfl⟩
abbrev main_v136 : Ref sig .tc := ⟨.hbm, 452, rfl⟩
abbrev main_v137 : Ref sig .tc := ⟨.hbm, 453, rfl⟩
abbrev main_v138 : Ref sig .tc := ⟨.hbm, 454, rfl⟩
abbrev main_cst_11 : Ref sig .tc := ⟨.hbm, 455, rfl⟩
abbrev main_v139 : Ref sig .tc := ⟨.hbm, 456, rfl⟩
abbrev main_v140 : Ref sig .tc := ⟨.hbm, 457, rfl⟩
abbrev main_v141 : Ref sig .tc := ⟨.hbm, 458, rfl⟩
abbrev main_v142 : Ref sig .tc := ⟨.hbm, 459, rfl⟩
abbrev main_v143 : Ref sig .tc := ⟨.hbm, 460, rfl⟩
abbrev main_v144 : Ref sig .tc := ⟨.hbm, 461, rfl⟩
abbrev main_v145 : Ref sig .tc := ⟨.hbm, 462, rfl⟩
abbrev main_v146 : Ref sig .tc := ⟨.hbm, 463, rfl⟩
abbrev main_v147 : Ref sig .tc := ⟨.hbm, 464, rfl⟩
abbrev main_v148 : Ref sig .tc := ⟨.hbm, 465, rfl⟩
abbrev main_v149 : Ref sig .tc := ⟨.hbm, 466, rfl⟩
abbrev main_c_12 : Ref sig .tc := ⟨.hbm, 467, rfl⟩
abbrev main_v150 : Ref sig .tc := ⟨.hbm, 468, rfl⟩
abbrev main_v151 : Ref sig .tc := ⟨.hbm, 469, rfl⟩
abbrev main_c_13 : Ref sig .tc := ⟨.hbm, 470, rfl⟩
abbrev main_v152 : Ref sig .tc := ⟨.hbm, 471, rfl⟩
abbrev main_v153 : Ref sig .tc := ⟨.hbm, 472, rfl⟩
abbrev main_v154 : Ref sig .tc := ⟨.hbm, 473, rfl⟩
abbrev main_v155 : Ref sig .tc := ⟨.hbm, 474, rfl⟩
abbrev main_v156 : Ref sig .tc := ⟨.hbm, 475, rfl⟩
abbrev main_cst_14 : Ref sig .tc := ⟨.hbm, 476, rfl⟩
abbrev main_v157 : Ref sig .tc := ⟨.hbm, 477, rfl⟩
abbrev main_v158 : Ref sig .tc := ⟨.hbm, 478, rfl⟩
abbrev main_v159 : Ref sig .tc := ⟨.hbm, 479, rfl⟩
abbrev main_v160 : Ref sig .tc := ⟨.hbm, 480, rfl⟩
abbrev main_v161 : Ref sig .tc := ⟨.hbm, 481, rfl⟩
abbrev main_v162 : Ref sig .tc := ⟨.hbm, 482, rfl⟩
abbrev main_v163 : Ref sig .tc := ⟨.hbm, 483, rfl⟩
abbrev main_v164 : Ref sig .tc := ⟨.hbm, 484, rfl⟩
abbrev main_v165 : Ref sig .tc := ⟨.hbm, 485, rfl⟩
abbrev main_v166 : Ref sig .tc := ⟨.hbm, 486, rfl⟩
abbrev main_v167 : Ref sig .tc := ⟨.hbm, 487, rfl⟩
abbrev main_v168 : Ref sig .tc := ⟨.hbm, 488, rfl⟩
abbrev main_call15_cst : Ref sig .tc := ⟨.hbm, 489, rfl⟩
abbrev main_call15_v0 : Ref sig .tc := ⟨.hbm, 490, rfl⟩
abbrev main_v169 : Ref sig .tc := ⟨.hbm, 491, rfl⟩
abbrev main_v170 : Ref sig .tc := ⟨.hbm, 492, rfl⟩
abbrev main_v171 : Ref sig .tc := ⟨.hbm, 493, rfl⟩
abbrev main_v172 : Ref sig .tc := ⟨.hbm, 494, rfl⟩
abbrev main_v173 : Ref sig .tc := ⟨.hbm, 495, rfl⟩
abbrev main_v174 : Ref sig .tc := ⟨.hbm, 496, rfl⟩
abbrev main_v175 : Ref sig .tc := ⟨.hbm, 497, rfl⟩
abbrev main_v176 : Ref sig .tc := ⟨.hbm, 498, rfl⟩
abbrev main_v177 : Ref sig .tc := ⟨.hbm, 499, rfl⟩
abbrev main_call16_cst : Ref sig .tc := ⟨.hbm, 500, rfl⟩
abbrev main_call16_v0 : Ref sig .tc := ⟨.hbm, 501, rfl⟩
abbrev main_v178 : Ref sig .tc := ⟨.hbm, 502, rfl⟩
abbrev main_cst_15 : Ref sig .tc := ⟨.hbm, 503, rfl⟩
abbrev main_v179 : Ref sig .tc := ⟨.hbm, 504, rfl⟩
abbrev main_cst_16 : Ref sig .tc := ⟨.hbm, 505, rfl⟩
abbrev main_v180 : Ref sig .tc := ⟨.hbm, 506, rfl⟩
abbrev main_v181 : Ref sig .tc := ⟨.hbm, 507, rfl⟩
abbrev main_c_17 : Ref sig .tc := ⟨.hbm, 508, rfl⟩
abbrev main_call17_cst : Ref sig .tc := ⟨.hbm, 509, rfl⟩
abbrev main_call17_v0 : Ref sig .tc := ⟨.hbm, 510, rfl⟩
abbrev main_call17_v1 : Ref sig .tc := ⟨.hbm, 511, rfl⟩
abbrev main_call17_cst_0 : Ref sig .tc := ⟨.hbm, 512, rfl⟩
abbrev main_call17_v2 : Ref sig .tc := ⟨.hbm, 513, rfl⟩
abbrev main_call17_v3 : Ref sig .tc := ⟨.hbm, 514, rfl⟩
abbrev main_call17_v4 : Ref sig .tc := ⟨.hbm, 515, rfl⟩
abbrev main_call17_v5 : Ref sig .tc := ⟨.hbm, 516, rfl⟩
abbrev main_call17_v6 : Ref sig .tc := ⟨.hbm, 517, rfl⟩
abbrev main_call17_v7 : Ref sig .tc := ⟨.hbm, 518, rfl⟩
abbrev main_call17_cst_1 : Ref sig .tc := ⟨.hbm, 519, rfl⟩
abbrev main_call17_v8 : Ref sig .tc := ⟨.hbm, 520, rfl⟩
abbrev main_call17_cst_2 : Ref sig .tc := ⟨.hbm, 521, rfl⟩
abbrev main_call17_v9 : Ref sig .tc := ⟨.hbm, 522, rfl⟩
abbrev main_call17_v10 : Ref sig .tc := ⟨.hbm, 523, rfl⟩
abbrev main_call17_v11 : Ref sig .tc := ⟨.hbm, 524, rfl⟩
abbrev main_call17_cst_3 : Ref sig .tc := ⟨.hbm, 525, rfl⟩
abbrev main_call17_v12 : Ref sig .tc := ⟨.hbm, 526, rfl⟩
abbrev main_call17_cst_4 : Ref sig .tc := ⟨.hbm, 527, rfl⟩
abbrev main_call17_call0_v0 : Ref sig .tc := ⟨.hbm, 528, rfl⟩
abbrev main_call17_call0_v1 : Ref sig .tc := ⟨.hbm, 529, rfl⟩
abbrev main_v182 : Ref sig .tc := ⟨.hbm, 530, rfl⟩
abbrev main_v183 : Ref sig .tc := ⟨.hbm, 531, rfl⟩
abbrev main_v184 : Ref sig .tc := ⟨.hbm, 532, rfl⟩
abbrev main_v185 : Ref sig .tc := ⟨.hbm, 533, rfl⟩
abbrev main_v186 : Ref sig .tc := ⟨.hbm, 534, rfl⟩
abbrev main_v187 : Ref sig .tc := ⟨.hbm, 535, rfl⟩
abbrev main_v188 : Ref sig .tc := ⟨.hbm, 536, rfl⟩
abbrev main_v189 : Ref sig .tc := ⟨.hbm, 537, rfl⟩
abbrev main_v190 : Ref sig .tc := ⟨.hbm, 538, rfl⟩
abbrev main_cst_18 : Ref sig .tc := ⟨.hbm, 539, rfl⟩
abbrev main_v191 : Ref sig .tc := ⟨.hbm, 540, rfl⟩
abbrev main_v192 : Ref sig .tc := ⟨.hbm, 541, rfl⟩
abbrev main_v193 : Ref sig .tc := ⟨.hbm, 542, rfl⟩
abbrev main_v194 : Ref sig .tc := ⟨.hbm, 543, rfl⟩
abbrev main_v195 : Ref sig .tc := ⟨.hbm, 544, rfl⟩
abbrev main_v196 : Ref sig .tc := ⟨.hbm, 545, rfl⟩
abbrev main_v197 : Ref sig .tc := ⟨.hbm, 546, rfl⟩
abbrev main_v198 : Ref sig .tc := ⟨.hbm, 547, rfl⟩
abbrev main_v199 : Ref sig .tc := ⟨.hbm, 548, rfl⟩
abbrev main_v200 : Ref sig .tc := ⟨.hbm, 549, rfl⟩
abbrev main_v201 : Ref sig .tc := ⟨.hbm, 550, rfl⟩
abbrev main_c_19 : Ref sig .tc := ⟨.hbm, 551, rfl⟩
abbrev main_v202 : Ref sig .tc := ⟨.hbm, 552, rfl⟩
abbrev main_v203 : Ref sig .tc := ⟨.hbm, 553, rfl⟩
abbrev main_c_20 : Ref sig .tc := ⟨.hbm, 554, rfl⟩
abbrev main_v204 : Ref sig .tc := ⟨.hbm, 555, rfl⟩
abbrev main_v205 : Ref sig .tc := ⟨.hbm, 556, rfl⟩
abbrev main_v206 : Ref sig .tc := ⟨.hbm, 557, rfl⟩
abbrev main_v207 : Ref sig .tc := ⟨.hbm, 558, rfl⟩
abbrev main_v208 : Ref sig .tc := ⟨.hbm, 559, rfl⟩
abbrev main_cst_21 : Ref sig .tc := ⟨.hbm, 560, rfl⟩
abbrev main_v209 : Ref sig .tc := ⟨.hbm, 561, rfl⟩
abbrev main_v210 : Ref sig .tc := ⟨.hbm, 562, rfl⟩
abbrev main_v211 : Ref sig .tc := ⟨.hbm, 563, rfl⟩
abbrev main_v212 : Ref sig .tc := ⟨.hbm, 564, rfl⟩
abbrev main_v213 : Ref sig .tc := ⟨.hbm, 565, rfl⟩
abbrev main_v214 : Ref sig .tc := ⟨.hbm, 566, rfl⟩
abbrev main_v215 : Ref sig .tc := ⟨.hbm, 567, rfl⟩
abbrev main_v216 : Ref sig .tc := ⟨.hbm, 568, rfl⟩
abbrev main_v217 : Ref sig .tc := ⟨.hbm, 569, rfl⟩
abbrev main_v218 : Ref sig .tc := ⟨.hbm, 570, rfl⟩
abbrev main_v219 : Ref sig .tc := ⟨.hbm, 571, rfl⟩
abbrev main_v220 : Ref sig .tc := ⟨.hbm, 572, rfl⟩
abbrev main_call18_cst : Ref sig .tc := ⟨.hbm, 573, rfl⟩
abbrev main_call18_v0 : Ref sig .tc := ⟨.hbm, 574, rfl⟩
abbrev main_v221 : Ref sig .tc := ⟨.hbm, 575, rfl⟩
abbrev main_v222 : Ref sig .tc := ⟨.hbm, 576, rfl⟩
abbrev main_v223 : Ref sig .tc := ⟨.hbm, 577, rfl⟩
abbrev main_v224 : Ref sig .tc := ⟨.hbm, 578, rfl⟩
abbrev main_v225 : Ref sig .tc := ⟨.hbm, 579, rfl⟩
abbrev main_v226 : Ref sig .tc := ⟨.hbm, 580, rfl⟩
abbrev main_v227 : Ref sig .tc := ⟨.hbm, 581, rfl⟩
abbrev main_v228 : Ref sig .tc := ⟨.hbm, 582, rfl⟩
abbrev main_v229 : Ref sig .tc := ⟨.hbm, 583, rfl⟩
abbrev main_call19_cst : Ref sig .tc := ⟨.hbm, 584, rfl⟩
abbrev main_call19_v0 : Ref sig .tc := ⟨.hbm, 585, rfl⟩
abbrev main_v230 : Ref sig .tc := ⟨.hbm, 586, rfl⟩
abbrev main_cst_22 : Ref sig .tc := ⟨.hbm, 587, rfl⟩
abbrev main_v231 : Ref sig .tc := ⟨.hbm, 588, rfl⟩
abbrev main_cst_23 : Ref sig .tc := ⟨.hbm, 589, rfl⟩
abbrev main_v232 : Ref sig .tc := ⟨.hbm, 590, rfl⟩
abbrev main_v233 : Ref sig .tc := ⟨.hbm, 591, rfl⟩
abbrev main_c_24 : Ref sig .tc := ⟨.hbm, 592, rfl⟩
abbrev main_call20_cst : Ref sig .tc := ⟨.hbm, 593, rfl⟩
abbrev main_call20_v0 : Ref sig .tc := ⟨.hbm, 594, rfl⟩
abbrev main_call20_v1 : Ref sig .tc := ⟨.hbm, 595, rfl⟩
abbrev main_call20_cst_0 : Ref sig .tc := ⟨.hbm, 596, rfl⟩
abbrev main_call20_v2 : Ref sig .tc := ⟨.hbm, 597, rfl⟩
abbrev main_call20_v3 : Ref sig .tc := ⟨.hbm, 598, rfl⟩
abbrev main_call20_v4 : Ref sig .tc := ⟨.hbm, 599, rfl⟩
abbrev main_call20_v5 : Ref sig .tc := ⟨.hbm, 600, rfl⟩
abbrev main_call20_v6 : Ref sig .tc := ⟨.hbm, 601, rfl⟩
abbrev main_call20_v7 : Ref sig .tc := ⟨.hbm, 602, rfl⟩
abbrev main_call20_cst_1 : Ref sig .tc := ⟨.hbm, 603, rfl⟩
abbrev main_call20_v8 : Ref sig .tc := ⟨.hbm, 604, rfl⟩
abbrev main_call20_cst_2 : Ref sig .tc := ⟨.hbm, 605, rfl⟩
abbrev main_call20_v9 : Ref sig .tc := ⟨.hbm, 606, rfl⟩
abbrev main_call20_v10 : Ref sig .tc := ⟨.hbm, 607, rfl⟩
abbrev main_call20_v11 : Ref sig .tc := ⟨.hbm, 608, rfl⟩
abbrev main_call20_cst_3 : Ref sig .tc := ⟨.hbm, 609, rfl⟩
abbrev main_call20_v12 : Ref sig .tc := ⟨.hbm, 610, rfl⟩
abbrev main_call20_cst_4 : Ref sig .tc := ⟨.hbm, 611, rfl⟩
abbrev main_call20_call0_v0 : Ref sig .tc := ⟨.hbm, 612, rfl⟩
abbrev main_call20_call0_v1 : Ref sig .tc := ⟨.hbm, 613, rfl⟩
abbrev main_v234 : Ref sig .tc := ⟨.hbm, 614, rfl⟩
abbrev main_v235 : Ref sig .tc := ⟨.hbm, 615, rfl⟩
abbrev main_v236 : Ref sig .tc := ⟨.hbm, 616, rfl⟩
abbrev main_v237 : Ref sig .tc := ⟨.hbm, 617, rfl⟩
abbrev main_v238 : Ref sig .tc := ⟨.hbm, 618, rfl⟩
abbrev main_v239 : Ref sig .tc := ⟨.hbm, 619, rfl⟩
abbrev main_v240 : Ref sig .tc := ⟨.hbm, 620, rfl⟩
abbrev main_v241 : Ref sig .tc := ⟨.hbm, 621, rfl⟩
abbrev main_v242 : Ref sig .tc := ⟨.hbm, 622, rfl⟩
abbrev main_cst_25 : Ref sig .tc := ⟨.hbm, 623, rfl⟩
abbrev main_v243 : Ref sig .tc := ⟨.hbm, 624, rfl⟩
abbrev main_v244 : Ref sig .tc := ⟨.hbm, 625, rfl⟩
abbrev main_v245 : Ref sig .tc := ⟨.hbm, 626, rfl⟩
abbrev main_v246 : Ref sig .tc := ⟨.hbm, 627, rfl⟩
abbrev main_v247 : Ref sig .tc := ⟨.hbm, 628, rfl⟩
abbrev main_v248 : Ref sig .tc := ⟨.hbm, 629, rfl⟩
abbrev main_v249 : Ref sig .tc := ⟨.hbm, 630, rfl⟩
abbrev main_v250 : Ref sig .tc := ⟨.hbm, 631, rfl⟩
abbrev main_v251 : Ref sig .tc := ⟨.hbm, 632, rfl⟩
abbrev main_v252 : Ref sig .tc := ⟨.hbm, 633, rfl⟩
abbrev main_v253 : Ref sig .tc := ⟨.hbm, 634, rfl⟩
abbrev main_cst_26 : Ref sig .tc := ⟨.hbm, 635, rfl⟩
abbrev main_v254 : Ref sig .tc := ⟨.hbm, 636, rfl⟩
abbrev main_v255 : Ref sig .tc := ⟨.hbm, 637, rfl⟩
abbrev main_v256 : Ref sig .tc := ⟨.hbm, 638, rfl⟩
abbrev main_cst_27 : Ref sig .tc := ⟨.hbm, 639, rfl⟩
abbrev main_v257 : Ref sig .tc := ⟨.hbm, 640, rfl⟩
abbrev main_cst_28 : Ref sig .tc := ⟨.hbm, 641, rfl⟩
abbrev main_v258 : Ref sig .tc := ⟨.hbm, 642, rfl⟩
abbrev main_v259 : Ref sig .tc := ⟨.hbm, 643, rfl⟩
abbrev main_v260 : Ref sig .tc := ⟨.hbm, 644, rfl⟩
abbrev main_cst_29 : Ref sig .tc := ⟨.hbm, 645, rfl⟩
abbrev main_v261 : Ref sig .tc := ⟨.hbm, 646, rfl⟩
abbrev main_v262 : Ref sig .tc := ⟨.hbm, 647, rfl⟩
abbrev main_v263 : Ref sig .tc := ⟨.hbm, 648, rfl⟩
abbrev main_v264 : Ref sig .tc := ⟨.hbm, 649, rfl⟩
abbrev main_v265 : Ref sig .tc := ⟨.hbm, 650, rfl⟩
abbrev main_v266 : Ref sig .tc := ⟨.hbm, 651, rfl⟩
abbrev main_v267 : Ref sig .tc := ⟨.hbm, 652, rfl⟩
abbrev main_v268 : Ref sig .tc := ⟨.hbm, 653, rfl⟩
abbrev main_call21_cst : Ref sig .tc := ⟨.hbm, 654, rfl⟩
abbrev main_call21_v0 : Ref sig .tc := ⟨.hbm, 655, rfl⟩
abbrev main_v269 : Ref sig .tc := ⟨.hbm, 656, rfl⟩

abbrev nD : Nat := 1
abbrev τ : Topo := Topo.v7x

variable {F : FTy → Type} [FloatOps F]
-- ==== Proof.Gin.Steps.lean ====
/-
  What a kernel call does to the buffers, and its record among the segments of the program: stated once for
  every call.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No pipeline has a prefetched table. -/
abbrev adm : (p : Fin 9) → (pcfgs (F := F) p).Adm := fun p => (cfgs p).toPCfg_adm
abbrev 𝒱₀ : Variants := Variants.none
/-- No core owes another anything. -/
abbrev L : GSem nD τ sig → Finset Unit := fun _ => ∅
abbrev lv : GSem nD τ sig → Unit → ℕ := fun _ _ => 0
/-- What rides beside the buffers: the generator register and an empty debt. -/
abbrev R (c : Dev nD) : sProp 𝕄 := iprop((∃ r, prngReg c r) ∗ ∃ W, owes (c : Thread nD τ) (0 : CellTallies nD τ sig Unit) W)

/-- The buffers after a call with proof data `dat`, entered from `V`: its arrays as the pipeline leaves them. -/
def exitOf {cfg : Cfg sig Λ₀} {c : Dev nD} (dat : Dat τ (Elt F) Unit ℕ (UR sig nD τ) ℕ cfg c) (V : Valuation τ sig (Elt F)) :
    Valuation τ sig (Elt F) := Pipeline.withArrays cfg.spec c V fun w => dat.arrAt w cfg.N

theorem exitOf_arr {cfg : Cfg sig Λ₀} {c : Dev nD} (dat : Dat τ (Elt F) Unit ℕ (UR sig nD τ) ℕ cfg c) (V : Valuation τ sig (Elt F))
    (hinj : Function.Injective (Pipeline.arrRef cfg.spec)) (w : Fin cfg.W) :
    exitOf dat V (Proc.devRef .tc (Pipeline.arrRef cfg.spec w)) = dat.arrAt w cfg.N := by
  unfold exitOf; exact Pipeline.withArrays_arr cfg.spec hinj c _ _ w

theorem exitOf_of_ne {cfg : Cfg sig Λ₀} {c : Dev nD} (dat : Dat τ (Elt F) Unit ℕ (UR sig nD τ) ℕ cfg c) (V : Valuation τ sig (Elt F))
    (b : Ref sig .tc) (hb : ∀ w, Pipeline.arrRef cfg.spec w ≠ b) : exitOf dat V (Proc.devRef .tc b) = V (Proc.devRef .tc b) := by
  unfold exitOf; exact Pipeline.withArrays_of_ne cfg.spec c _ _ b hb

/-- A buffer that is none of the call's outputs keeps its contents. -/
theorem exitOf_of {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (r : Ref sig .tc) (h : ∀ w : Fin cfg.W, Pipeline.arrRef cfg.spec w = r → (cfg.win w).isOut = false) :
    exitOf dat V (Proc.devRef .tc r) = V (Proc.devRef .tc r) := by
  by_cases hw : ∃ w : Fin cfg.W, Pipeline.arrRef cfg.spec w = r
  · obtain ⟨w, rfl⟩ := hw
    exact (exitOf_arr dat V hinj w).trans ((dat.arrAt_in w (h w rfl) _).trans (hA w))
  · exact exitOf_of_ne dat V r fun w e => hw ⟨w, e⟩

set_option backward.isDefEq.respectTransparency.types false in
/-- The record of call `p`: entered from every unscoped buffer at `W`, left at `exitOf` of it, when its proof data read
    their arrays off `W`, hold everything whole, owe nothing, and its body meets them. -/
def regOf (p : Fin 9) (lf : Pipeline.LaunchFacts (nD := nD) (τ := τ) cfgs p)
    (dats : (p : Fin 9) → (c : Dev nD) → Dat τ (Elt F) Unit ℕ (UR sig nD τ) ℕ (Pipeline.pin (pcfgs (F := F)) adm p) c)
    (W : Dev nD → Valuation τ sig (Elt F))
    (hA : ∀ c w, (dats p c).A w = W c (Proc.devRef .tc (Pipeline.arrRef (Pipeline.pin (pcfgs (F := F)) adm p).spec w)))
    (hΦ : ∀ c t, (dats p c).Φ t = Pipeline.ΦA (Pipeline.pin (pcfgs (F := F)) adm p).spec c)
    (howed : ∀ c t, (dats p c).owed t = 0) (hq : ∀ c w, (dats p c).q w = fullShare)
    (hrec : ∀ c t, (dats p c).recorded t = Set.univ)
    (hbody : ∀ c, BodyObligation (dats p c) (defs₀ (F := F)) Variants.none () Set.univ) :
    Pipeline.RegionSeg (pcfgs (F := F)) adm dats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c t => howed c t
  pre c := iprop(StableHlo.held (c : Thread nD τ) (Pipeline.ucRefs τ sig) (W c) ∗ R c)
  post c := iprop(StableHlo.held (c : Thread nD τ) (Pipeline.ucRefs τ sig) (exitOf (dats p c) (W c)) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => W c b
  hentry c := by
    rw [Pipeline.ownSems0_none]
    have hsplit := Pipeline.arrays_of_unscopedBufs (p := p) (pcfgs (F := F)) adm dats lf.win lf.arr_whole c
      ((dats p c).share_full fun w => hq c w) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c dats ((dats p c).share_full fun w => hq c w)
      (fun b => W c b) (fun b => exitOf (dats p c) (W c) b) ((dats p c).arrAt · (Pipeline.pin (pcfgs (F := F)) adm p).N)
      (fun w => (exitOf_arr (dats p c) (W c) lf.win.arr_inj w).symm)
      (fun b hb => exitOf_of_ne (dats p c) (W c) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

end Cert.Gin

end
-- ==== Proof.Gin.Hosts.lean ====
/-
  The host stretches of the program: none allocates, and each writes the references listed, none of them an argument.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Steps
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The program's arguments. -/
abbrev argRefs : List (Ref sig .tc) := [main_arg0, main_arg1, main_arg2, main_arg3, main_arg4, main_arg5, main_arg6, main_arg7,
  main_arg8, main_arg9, main_arg10, main_arg11, main_arg12, main_arg13]

/-- The references `hostOps0` writes, in order. -/
abbrev hostOps0_W : List (Ref sig .tc) := [
    main_c, main_v0, main_v1, main_c_0, main_v2, main_c_1, main_v3, main_v4, main_v5, main_v6, main_v7, main_v8,
    main_v9, main_v10, main_v11, main_v12, main_v13, main_v14, main_v15, main_v16, main_c_2, main_v17, main_c_3,
    main_v18, main_v19, main_v20, main_v21, main_v22, main_v23, main_v24]
theorem hostOps0_writes : (hostOps0 : List (HloOp τ sig (Elt F))).Forall fun op => op.writes ⊆ (hostOps0_W.map (Proc.devRef (τ := τ) .tc)).toFinset :=
  StableHlo.forall_writes_sub_of_map rfl
theorem hostOps0_fresh : (hostOps0 : List (HloOp τ sig (Elt F))).Forall fun op => op.fresh = ∅ := by simp only [List.Forall]; repeat' constructor
theorem hostOps0_args : ∀ a ∈ argRefs, a ∉ hostOps0_W := ListAll.forall_mem_of_all_decide (by decide +kernel)

/-- The references `hostOps1` writes, in order. -/
abbrev hostOps1_W : List (Ref sig .tc) := [
    main_c_4, main_v26, main_v27, main_c_5, main_v28, main_v29, main_v30, main_v31, main_v32, main_cst, main_v33,
    main_v34, main_v35, main_cst_6, main_v36, main_c_7, main_v37, main_v38, main_v39, main_v40, main_v41, main_v42,
    main_v43, main_v44, main_v45, main_v46]
theorem hostOps1_writes : (hostOps1 : List (HloOp τ sig (Elt F))).Forall fun op => op.writes ⊆ (hostOps1_W.map (Proc.devRef (τ := τ) .tc)).toFinset :=
  StableHlo.forall_writes_sub_of_map rfl
theorem hostOps1_fresh : (hostOps1 : List (HloOp τ sig (Elt F))).Forall fun op => op.fresh = ∅ := by simp only [List.Forall]; repeat' constructor
theorem hostOps1_args : ∀ a ∈ argRefs, a ∉ hostOps1_W := ListAll.forall_mem_of_all_decide (by decide +kernel)

/-- The references `hostOps2` writes, in order. -/
abbrev hostOps2_W : List (Ref sig .tc) := [
    main_v48, main_v49, main_v50, main_v51]
theorem hostOps2_writes : (hostOps2 : List (HloOp τ sig (Elt F))).Forall fun op => op.writes ⊆ (hostOps2_W.map (Proc.devRef (τ := τ) .tc)).toFinset :=
  StableHlo.forall_writes_sub_of_map rfl
theorem hostOps2_fresh : (hostOps2 : List (HloOp τ sig (Elt F))).Forall fun op => op.fresh = ∅ := by simp only [List.Forall]; repeat' constructor
theorem hostOps2_args : ∀ a ∈ argRefs, a ∉ hostOps2_W := ListAll.forall_mem_of_all_decide (by decide +kernel)

/-- The references `hostOps3` writes, in order. -/
abbrev hostOps3_W : List (Ref sig .tc) := [
    main_c_8, main_v53, main_v54, main_c_9, main_v55, main_v56, main_v57, main_v58, main_v59, main_cst_10, main_v60,
    main_v61, main_v62, main_cst_11, main_v63, main_c_12, main_v64, main_v65, main_v66, main_v67, main_v68, main_v69,
    main_v70, main_v71, main_v72, main_v73]
theorem hostOps3_writes : (hostOps3 : List (HloOp τ sig (Elt F))).Forall fun op => op.writes ⊆ (hostOps3_W.map (Proc.devRef (τ := τ) .tc)).toFinset :=
  StableHlo.forall_writes_sub_of_map rfl
theorem hostOps3_fresh : (hostOps3 : List (HloOp τ sig (Elt F))).Forall fun op => op.fresh = ∅ := by simp only [List.Forall]; repeat' constructor
theorem hostOps3_args : ∀ a ∈ argRefs, a ∉ hostOps3_W := ListAll.forall_mem_of_all_decide (by decide +kernel)

/-- The references `hostOps4` writes, in order. -/
abbrev hostOps4_W : List (Ref sig .tc) := [
    main_v75, main_v76, main_v77, main_v78]
theorem hostOps4_writes : (hostOps4 : List (HloOp τ sig (Elt F))).Forall fun op => op.writes ⊆ (hostOps4_W.map (Proc.devRef (τ := τ) .tc)).toFinset :=
  StableHlo.forall_writes_sub_of_map rfl
theorem hostOps4_fresh : (hostOps4 : List (HloOp τ sig (Elt F))).Forall fun op => op.fresh = ∅ := by simp only [List.Forall]; repeat' constructor
theorem hostOps4_args : ∀ a ∈ argRefs, a ∉ hostOps4_W := ListAll.forall_mem_of_all_decide (by decide +kernel)

/-- The references `hostOps5` writes, in order. -/
abbrev hostOps5_W : List (Ref sig .tc) := [
    main_c_13, main_v80, main_v81, main_c_14, main_v82, main_v83, main_v84, main_v85, main_v86, main_cst_15,
    main_v87, main_v88, main_v89, main_cst_16, main_v90, main_c_17, main_v91, main_v92, main_v93, main_v94, main_v95,
    main_v96, main_v97, main_v98, main_v99, main_v100]
theorem hostOps5_writes : (hostOps5 : List (HloOp τ sig (Elt F))).Forall fun op => op.writes ⊆ (hostOps5_W.map (Proc.devRef (τ := τ) .tc)).toFinset :=
  StableHlo.forall_writes_sub_of_map rfl
theorem hostOps5_fresh : (hostOps5 : List (HloOp τ sig (Elt F))).Forall fun op => op.fresh = ∅ := by simp only [List.Forall]; repeat' constructor
theorem hostOps5_args : ∀ a ∈ argRefs, a ∉ hostOps5_W := ListAll.forall_mem_of_all_decide (by decide +kernel)

/-- The references `hostOps6` writes, in order. -/
abbrev hostOps6_W : List (Ref sig .tc) := [
    main_v102, main_v103, main_v104, main_v105]
theorem hostOps6_writes : (hostOps6 : List (HloOp τ sig (Elt F))).Forall fun op => op.writes ⊆ (hostOps6_W.map (Proc.devRef (τ := τ) .tc)).toFinset :=
  StableHlo.forall_writes_sub_of_map rfl
theorem hostOps6_fresh : (hostOps6 : List (HloOp τ sig (Elt F))).Forall fun op => op.fresh = ∅ := by simp only [List.Forall]; repeat' constructor
theorem hostOps6_args : ∀ a ∈ argRefs, a ∉ hostOps6_W := ListAll.forall_mem_of_all_decide (by decide +kernel)

end Cert.Gin

end
-- ==== Proof.Gin.Base.lean ====
/-
  Small facts about a pipeline's proof data that every call uses.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a point where a window is used, what the body leaves in its buffer is the proof data's contents. -/
theorem leaves_live {cfg : Cfg sig Λ₀} {c : Dev nD} (dat : Dat τ (Elt F) Unit ℕ (UR sig nD τ) ℕ cfg c) (w : Fin cfg.W) (t : Fin cfg.N)
    (h : cfg.idle w (cfg.grid.coords t) = false) :
    dat.leavesExact w t = owns (c : Thread nD τ) ((cfg.win w).stage (cfg.slots t w)) fullShare (dat.after w t) := by
  unfold Dat.leavesExact; rw [h]

end Cert.Gin

end
-- ==== Proof.Gin.Mlp.lean ====
/-
  The body of the three perceptron calls (`_mlp`), run once for all of them: what it leaves in its block of
  activations and in the two running sums, at the first grid point and at every later one.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rBlk : Rect S256x256 := Rect.unit (s := S256x256) ![0, 0] S256x256.size inb_S256x256_S256x256_0_0
abbrev rW1 : Rect S256x512 := Rect.unit (s := S256x512) ![0, 0] S256x512.size inb_S256x512_S256x512_0_0
abbrev rB1 : Rect S8x512 := Rect.unit (s := S8x512) ![0, 0] S1x512.size inb_S8x512_S1x512_0_0
abbrev rW2 : Rect S512x256 := Rect.unit (s := S512x256) ![0, 0] S512x256.size inb_S512x256_S512x256_0_0
abbrev rB2 : Rect S8x256 := Rect.unit (s := S8x256) ![0, 0] S1x256.size inb_S8x256_S1x256_0_0
abbrev rSum : Rect S8x256 := Rect.unit (s := S8x256) ![0, 0] S8x256.size inb_S8x256_S8x256_0_0

/-- One store of the whole block covers it. -/
theorem cover_blk (p : Vec F S256x256 .f32) (y : S256x256.Idx) :
    ∃ pc ∈ ([⟨rBlk, p⟩] : List (View.Piece (Elt F) S256x256 .f32)), y ∈ pc.1.set :=
  View.cover_of_tiled [⟨rBlk, p⟩] S256x256.size (by rfl) y

/-- One store of the whole running sum covers it. -/
theorem cover_sum (p : Vec F S8x256 .f32) (y : S8x256.Idx) :
    ∃ pc ∈ ([⟨rSum, p⟩] : List (View.Piece (Elt F) S8x256 .f32)), y ∈ pc.1.set :=
  View.cover_of_tiled [⟨rSum, p⟩] S8x256.size (by rfl) y

/-! ## What the body leaves in its outputs -/

/-- The block of activations the body computes at grid point `i` from its six input blocks. -/
def zBlk (i : grid1.Coords) (x0 x1 : Vec F S256x256 .f32) (x2 : Vec F S256x512 .f32) (x3 : Vec F S8x512 .f32) (x4 : Vec F S512x256 .f32) (x5 : Vec F S8x256 .f32) : Vec F S256x256 .f32 :=
  k1_pay5 i (View.ld x0 rBlk) (View.ld x1 rBlk) (View.ld x2 rW1) (View.ld x3 rB1) (View.ld x4 rW2) (View.ld x5 rB2)

/-- The activations' output block after the body. -/
def zOut (i : grid1.Coords) (x0 x1 : Vec F S256x256 .f32) (x2 : Vec F S256x512 .f32) (x3 : Vec F S8x512 .f32) (x4 : Vec F S512x256 .f32) (x5 : Vec F S8x256 .f32) : Vec F S256x256 .f32 :=
  View.canon [⟨rBlk, zBlk i x0 x1 x2 x3 x4 x5⟩]

/-- The running sums after the first block `z`, -/
def sumFirst (z : Vec F S256x256 .f32) : Vec F S8x256 .f32 := View.canon [⟨rSum, k1_pay1 z⟩]
/-- and after a later block, over the sums `s` before it. -/
def sumNext (z : Vec F S256x256 .f32) (s : Vec F S8x256 .f32) : Vec F S8x256 .f32 := View.canon [⟨rSum, k1_pay3 z (View.ld s rSum)⟩]
/-- The running sums of squares after the first block `z`, -/
def sqFirst (z : Vec F S256x256 .f32) : Vec F S8x256 .f32 := View.canon [⟨rSum, k1_pay2 z⟩]
/-- and after a later block, over the sums `s` before it. -/
def sqNext (z : Vec F S256x256 .f32) (s : Vec F S8x256 .f32) : Vec F S8x256 .f32 := View.canon [⟨rSum, k1_pay4 z (View.ld s rSum)⟩]

/-- The running sums after the block at position `n`, from the blocks `z`. -/
def sumAt (z : ℕ → Vec F S256x256 .f32) : ℕ → Vec F S8x256 .f32
  | 0 => sumFirst (z 0)
  | n + 1 => sumNext (z (n + 1)) (sumAt z n)
/-- The running sums of squares after the block at position `n`, from the blocks `z`. -/
def sqAt (z : ℕ → Vec F S256x256 .f32) : ℕ → Vec F S8x256 .f32
  | 0 => sqFirst (z 0)
  | n + 1 => sqNext (z (n + 1)) (sqAt z n)

/-! ## The body's triples -/

set_option maxHeartbeats 1000000 in
/-- The body at the first grid point: it stores its block and starts both sums with it. -/
theorem mlp_first (c : Dev nD) (E : Set ℕ) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S8x512 .f32) (harg4 : arg4.IsWhole) (arg5 : Memref sig .tc .vmem S512x256 .f32) (harg5 : arg5.IsWhole) (arg6 : Memref sig .tc .vmem S8x256 .f32) (harg6 : arg6.IsWhole) (arg7 : Memref sig .tc .vmem S256x256 .f32) (harg7 : arg7.IsWhole) (arg8 : Memref sig .tc .vmem S8x256 .f32) (harg8 : arg8.IsWhole) (arg9 : Memref sig .tc .vmem S8x256 .f32) (harg9 : arg9.IsWhole)
    (h0 : k1_cond1 i = 1#1) (h1 : ¬k1_cond2 i = 1#1)
    (x0 x1 : Vec F S256x256 .f32) (x2 : Vec F S256x512 .f32) (x3 : Vec F S8x512 .f32) (x4 : Vec F S512x256 .f32) (x5 : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (zOut i x0 x1 x2 x3 x4 x5)
            ∗ owns (c : Thread nD τ) arg8 fullShare (sumFirst (zBlk i x0 x1 x2 x3 x4 x5)) ∗ owns (c : Thread nD τ) arg9 fullShare (sqFirst (zBlk i x0 x1 x2 x3 x4 x5))) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9) K := by
  simp only [cc1__mlp_body_eq_skeleton]; unfold cc1__mlp_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | sl_exact h0 | sl_exact h1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (cover_blk _)
  isplitl [H7]
  · iexists _; isplitr
    swap; · iexact H7
    ipureintro; exact View.read_writes_eq_canon _ _ _ (cover_sum _)
  iexists _; isplitr
  swap; · iexact H8
  ipureintro; exact View.read_writes_eq_canon _ _ _ (cover_sum _)

set_option maxHeartbeats 1000000 in
/-- The body at a later grid point: it stores its block and adds it to both sums. -/
theorem mlp_next (c : Dev nD) (E : Set ℕ) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S8x512 .f32) (harg4 : arg4.IsWhole) (arg5 : Memref sig .tc .vmem S512x256 .f32) (harg5 : arg5.IsWhole) (arg6 : Memref sig .tc .vmem S8x256 .f32) (harg6 : arg6.IsWhole) (arg7 : Memref sig .tc .vmem S256x256 .f32) (harg7 : arg7.IsWhole) (arg8 : Memref sig .tc .vmem S8x256 .f32) (harg8 : arg8.IsWhole) (arg9 : Memref sig .tc .vmem S8x256 .f32) (harg9 : arg9.IsWhole)
    (h0 : ¬k1_cond1 i = 1#1) (h1 : k1_cond2 i = 1#1)
    (x0 x1 : Vec F S256x256 .f32) (x2 : Vec F S256x512 .f32) (x3 : Vec F S8x512 .f32) (x4 : Vec F S512x256 .f32) (x5 : Vec F S8x256 .f32) (s q : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s ∗ owns (c : Thread nD τ) arg9 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (zOut i x0 x1 x2 x3 x4 x5)
            ∗ owns (c : Thread nD τ) arg8 fullShare (sumNext (zBlk i x0 x1 x2 x3 x4 x5) s) ∗ owns (c : Thread nD τ) arg9 fullShare (sqNext (zBlk i x0 x1 x2 x3 x4 x5) q)) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9) K := by
  simp only [cc1__mlp_body_eq_skeleton]; unfold cc1__mlp_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | sl_exact h0 | sl_exact h1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (cover_blk _)
  isplitl [H7]
  · iexists _; isplitr
    swap; · iexact H7
    ipureintro; exact View.read_writes_eq_canon _ _ _ (cover_sum _)
  iexists _; isplitr
  swap; · iexact H8
  ipureintro; exact View.read_writes_eq_canon _ _ _ (cover_sum _)

/-! ## One grid point -/

set_option maxHeartbeats 1000000 in
/-- One grid point of a perceptron call, at position `n` of its grid: the inputs' buffers hold their blocks, the sums'
    buffers what position `n - 1` left (anything at position 0), and `Φ` and `O` pass through. -/
theorem mlp_point (c : Dev nD) (i : grid1.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S8x512 .f32) (harg4 : arg4.IsWhole) (arg5 : Memref sig .tc .vmem S512x256 .f32) (harg5 : arg5.IsWhole) (arg6 : Memref sig .tc .vmem S8x256 .f32) (harg6 : arg6.IsWhole) (arg7 : Memref sig .tc .vmem S256x256 .f32) (harg7 : arg7.IsWhole) (arg8 : Memref sig .tc .vmem S8x256 .f32) (harg8 : arg8.IsWhole) (arg9 : Memref sig .tc .vmem S8x256 .f32) (harg9 : arg9.IsWhole)
    (x0 x1 : Vec F S256x256 .f32) (x2 : Vec F S256x512 .f32) (x3 : Vec F S8x512 .f32) (x4 : Vec F S512x256 .f32) (x5 : Vec F S8x256 .f32) (b0 : Vec F S256x256 .f32 → Vec F S256x256 .f32) (b1 : Vec F S256x256 .f32 → Vec F S256x256 .f32) (b2 : Vec F S256x512 .f32 → Vec F S256x512 .f32) (b3 : Vec F S8x512 .f32 → Vec F S8x512 .f32) (b4 : Vec F S512x256 .f32 → Vec F S512x256 .f32) (b5 : Vec F S8x256 .f32 → Vec F S8x256 .f32) (b6 : Vec F S256x256 .f32 → Vec F S256x256 .f32) (b7 : Vec F S8x256 .f32 → Vec F S8x256 .f32) (b8 : Vec F S8x256 .f32 → Vec F S8x256 .f32)
    (hb0 : ∀ d, b0 d = x0) (hb1 : ∀ d, b1 d = x1) (hb2 : ∀ d, b2 d = x2) (hb3 : ∀ d, b3 d = x3) (hb4 : ∀ d, b4 d = x4) (hb5 : ∀ d, b5 d = x5) (z : ℕ → Vec F S256x256 .f32) (n : ℕ) (hz : z n = zBlk i x0 x1 x2 x3 x4 x5)
    (hfirst : n = 0 → k1_cond1 i = 1#1 ∧ ¬k1_cond2 i = 1#1) (hnext : n ≠ 0 → ¬k1_cond1 i = 1#1 ∧ k1_cond2 i = 1#1)
    (hb7 : n ≠ 0 → ∀ d, b7 d = sumAt z (n - 1)) (hb8 : n ≠ 0 → ∀ d, b8 d = sqAt z (n - 1)) (Φ O : sProp 𝕄) :
    iprop(Φ ∗ O ∗ (∃ d, owns (c : Thread nD τ) arg1 fullShare (b0 d)) ∗ (∃ d, owns (c : Thread nD τ) arg2 fullShare (b1 d)) ∗ (∃ d, owns (c : Thread nD τ) arg3 fullShare (b2 d)) ∗ (∃ d, owns (c : Thread nD τ) arg4 fullShare (b3 d)) ∗ (∃ d, owns (c : Thread nD τ) arg5 fullShare (b4 d)) ∗ (∃ d, owns (c : Thread nD τ) arg6 fullShare (b5 d)) ∗ (∃ d, owns (c : Thread nD τ) arg7 fullShare (b6 d)) ∗ (∃ d, owns (c : Thread nD τ) arg8 fullShare (b7 d)) ∗ (∃ d, owns (c : Thread nD τ) arg9 fullShare (b8 d)))
      ⊢ wp frame (wpE (defs₀ (F := F)) Variants.none c none) Set.univ (cc1__mlp_body i arg1 harg1 arg2 harg2 arg3 harg3 arg4 harg4 arg5 harg5 arg6 harg6 arg7 harg7 arg8 harg8 arg9 harg9)
        (fun _ => iprop(Φ ∗ O ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (zOut i x0 x1 x2 x3 x4 x5)
          ∗ owns (c : Thread nD τ) arg8 fullShare (sumAt z n) ∗ owns (c : Thread nD τ) arg9 fullShare (sqAt z n))) := by
  simp only [hb0, hb1, hb2, hb3, hb4, hb5]
  rcases Nat.eq_zero_or_pos n with rfl | hn
  · rw [show sumAt z 0 = sumFirst (zBlk i x0 x1 x2 x3 x4 x5) from congrArg sumFirst hz,
      show sqAt z 0 = sqFirst (zBlk i x0 x1 x2 x3 x4 x5) from congrArg sqFirst hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (mlp_first c Set.univ i arg1 harg1 arg2 harg2 arg3 harg3 arg4 harg4 arg5 harg5 arg6 harg6 arg7 harg7 arg8 harg8 arg9 harg9 (hfirst rfl).1 (hfirst rfl).2 x0 x1 x2 x3 x4 x5 _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · obtain ⟨k, rfl⟩ : ∃ k, n = k + 1 := ⟨n - 1, by omega⟩
    simp only [hb7 (Nat.succ_ne_zero k), hb8 (Nat.succ_ne_zero k), Nat.add_sub_cancel]
    rw [show sumAt z (k + 1) = sumNext (zBlk i x0 x1 x2 x3 x4 x5) (sumAt z k) from congrArg (sumNext · _) hz,
      show sqAt z (k + 1) = sqNext (zBlk i x0 x1 x2 x3 x4 x5) (sqAt z k) from congrArg (sqNext · _) hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (mlp_next c Set.univ i arg1 harg1 arg2 harg2 arg3 harg3 arg4 harg4 arg5 harg5 arg6 harg6 arg7 harg7 arg8 harg8 arg9 harg9 (hnext (Nat.succ_ne_zero k)).1 (hnext (Nat.succ_ne_zero k)).2 x0 x1 x2 x3 x4 x5 _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-! ## The second and third perceptron calls run the same body -/

theorem cc3_eq : @cc3__mlp_body F _ _ = @cc1__mlp_body F _ _ := by sl_kernel_rfl
theorem cc5_eq : @cc5__mlp_body F _ _ = @cc1__mlp_body F _ _ := by sl_kernel_rfl

end Cert.Gin

end
-- ==== Proof.Gin.Blocks.lean ====
/-
  The bodies of the calls that store one block: the embedding, the normalization and the last layer.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Mlp
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rIn : Rect S16x256 := Rect.unit (s := S16x256) ![0, 0] S16x256.size inb_S16x256_S16x256_0_0
abbrev rTab : Rect S576x256 := Rect.unit (s := S576x256) ![0, 0] S576x256.size inb_S576x256_S576x256_0_0
abbrev rCnt : Rect S256x128 := Rect.unit (s := S256x128) ![0, 0] S256x1.size inb_S256x128_S256x1_0_0

/-- The block of embeddings computed at grid point `i` from the block of indices and the table. -/
def encBlk (i : grid0.Coords) (x0 : Vec F S16x256 .i32) (x1 : Vec F S576x256 .f32) : Vec F S256x256 .f32 :=
  k0_pay1 (BitVec.ofNat 32 (i 0).val) (k0_pay3 (View.ld x1 rTab)) (k0_pay6 (k0_pay2 (View.ld x0 rIn)) (k0_pay4 (View.ld x0 rIn)) (k0_pay5 (View.ld x0 rIn))) (constant S256x256 .f32 0x00000000#32)
/-- The normalized block, from a block of activations, the two sums, the scale and the shift. -/
def bnBlk (x0 : Vec F S256x256 .f32) (x1 x2 x3 x4 : Vec F S8x256 .f32) : Vec F S256x256 .f32 :=
  k2_pay1 (View.ld x1 rSum) (View.ld x2 rSum) (View.ld x3 rB2) (View.ld x4 rB2) (View.ld x0 rBlk)
/-- The last layer's result, from the pooled sums, the counts, the weights and the bias. -/
def lastBlk (x0 : Vec F S256x256 .f32) (x1 : Vec F S256x128 .f32) (x2 : Vec F S256x256 .f32) (x3 : Vec F S8x256 .f32) : Vec F S256x256 .f32 :=
  k8_pay1 (View.ld x1 rCnt) (View.ld x0 rBlk) (View.ld x2 rBlk) (View.ld x3 rB2)
/-- A whole output block holding `z`. -/
abbrev stored (z : Vec F S256x256 .f32) : Vec F S256x256 .f32 := View.canon [⟨rBlk, z⟩]

set_option maxHeartbeats 1000000 in
/-- The embedding body stores its block. -/
theorem enc_run (c : Dev nD) (E : Set ℕ) (i : grid0.Coords) (arg1 : Memref sig .tc .vmem S16x256 .i32) (harg1 : arg1.IsWhole) (arg2 : Memref sig .tc .vmem S576x256 .f32) (harg2 : arg2.IsWhole) (arg3 : Memref sig .tc .vmem S256x256 .f32) (harg3 : arg3.IsWhole)
    (x0 : Vec F S16x256 .i32) (x1 : Vec F S576x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored (encBlk i x0 x1))) -∗ K ⟨⟩))
      ⊢ wp frame (wpE (defs₀ (F := F)) Variants.none c none) E (cc0__encoder_body i arg1 harg1 arg2 harg2 arg3 harg3) K := by
  simp only [cc0__encoder_body_eq_skeleton]; unfold cc0__encoder_body_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro; exact View.read_writes_eq_canon _ _ _ (cover_blk _)

set_option maxHeartbeats 1000000 in
/-- The normalization body stores its block. -/
theorem bn_run (c : Dev nD) (E : Set ℕ) (i : grid2.Coords) (arg1 : Memref sig .tc .vmem S256x256 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S256x256 .f32) (harg6 : arg6.IsWhole)
    (x0 : Vec F S256x256 .f32) (x1 : Vec F S8x256 .f32) (x2 : Vec F S8x256 .f32) (x3 : Vec F S8x256 .f32) (x4 : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stored (bnBlk x0 x1 x2 x3 x4))) -∗ K ⟨⟩))
      ⊢ wp frame (wpE (defs₀ (F := F)) Variants.none c none) E (cc2__bn_body i arg1 harg1 arg2 harg2 arg3 harg3 arg4 harg4 arg5 harg5 arg6 harg6) K := by
  simp only [cc2__bn_body_eq_skeleton]; unfold cc2__bn_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro; exact View.read_writes_eq_canon _ _ _ (cover_blk _)

set_option maxHeartbeats 1000000 in
/-- The last layer's body stores its block. -/
theorem last_run (c : Dev nD) (E : Set ℕ) (i : grid8.Coords) (arg1 : Memref sig .tc .vmem S256x256 .f32) (harg1 : arg1.IsWhole) (arg2 : Memref sig .tc .vmem S256x128 .f32) (harg2 : arg2.IsWhole) (arg3 : Memref sig .tc .vmem S256x256 .f32) (harg3 : arg3.IsWhole) (arg4 : Memref sig .tc .vmem S8x256 .f32) (harg4 : arg4.IsWhole) (arg5 : Memref sig .tc .vmem S256x256 .f32) (harg5 : arg5.IsWhole)
    (x0 : Vec F S256x256 .f32) (x1 : Vec F S256x128 .f32) (x2 : Vec F S256x256 .f32) (x3 : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (stored (lastBlk x0 x1 x2 x3))) -∗ K ⟨⟩))
      ⊢ wp frame (wpE (defs₀ (F := F)) Variants.none c none) E (cc8__final_body i arg1 harg1 arg2 harg2 arg3 harg3 arg4 harg4 arg5 harg5) K := by
  simp only [cc8__final_body_eq_skeleton]; unfold cc8__final_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro; exact View.read_writes_eq_canon _ _ _ (cover_blk _)

/-- The second and third normalization calls run the same body. -/
theorem cc4_eq : @cc4__bn_body F _ = @cc2__bn_body F _ := by sl_kernel_rfl
theorem cc6_eq : @cc6__bn_body F _ = @cc2__bn_body F _ := by sl_kernel_rfl

end Cert.Gin

end
-- ==== Proof.Gin.Region0.lean ====
/-
  The embedding call: what each window's block holds around the body at every grid point.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Base
public import proofs.«01_k».proof.Proof.Gin.Blocks
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

-- the buffers as the call finds them
variable (V : (c : Dev nD) → (b : Ref sig .tc) → Buf (Elt F) ((c : Thread nD τ).loc b))

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The call's proof data: what each buffer holds after the body at point `t`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => stored (encBlk (grid0.coords t) (blk0 V c 0 t) (blk0 V c 1 t))
  Φ _ := Pipeline.ΦA spec0 c
  q _ := fullShare
  owed _ := 0

theorem A_eq0 (c : Dev nD) (w : Fin cfg0.W) : (dat0 V c).A w = V c (Pipeline.arrRef spec0 w) := by dsimp only [dat0]

/-! What the body leaves in each buffer, and what it finds in the inputs'. -/

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = stored (encBlk (grid0.coords t) (blk0 V c 0 t) (blk0 V c 1 t)) := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A_eq0]) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A_eq0]) t d).trans
    (by unfold Dat.fetched Dat.blockOf blk0; rw [A_eq0]; try rfl)

/-- The body at any point, from what the proof data say it finds to what they say it leaves. -/
theorem sound_body0 (c : Dev nD) (t : Fin cfg0.N) :
    iprop((dat0 V c).Φ t.castSucc ∗ (dat0 V c).owesAt () t.castSucc ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)))
      ⊢ wp frame (wpE (defs₀ (F := F)) Variants.none c none) Set.univ (bodyAt0 t)
        (fun _ => iprop((dat0 V c).Φ t.succ ∗ (dat0 V c).owesAt () t.succ ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (enc_run c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_row0 (t : Fin cfg0.N) : defs₀ (F := F) .tc cfg0.body (cfg0.bodyArgs t (cfg0.slots t)) = bodyAt0 t := by
  unfold defs₀; rw [Defs.onTc_tc]

/-- The body meets the proof data at every grid point. -/
theorem body_obligation0 (c : Dev nD) : BodyObligation (dat0 (F := F) V c) (defs₀ (F := F)) Variants.none () Set.univ := fun t => by
  rw [bigSep_W0, bigSep_W0, body_row0]
  exact triple_restated (sound_body0 V c t) rfl .rfl fun _ => .rfl

end

end Cert.Gin

end
-- ==== Proof.Gin.Region1.lean ====
/-
  The first perceptron call: what each window's block holds around the body at every grid point.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Base
public import proofs.«01_k».proof.Proof.Gin.Mlp
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

-- the buffers as the call finds them
variable (V : (c : Dev nD) → (b : Ref sig .tc) → Buf (Elt F) ((c : Thread nD τ).loc b))

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations the call writes at its `n`-th point (nothing beyond the grid). -/
def z1 (c : Dev nD) (n : ℕ) : Vec F S256x256 .f32 :=
  if h : n < cfg1.N then zBlk (grid1.coords ⟨n, h⟩) (blk1 V c 0 ⟨n, h⟩) (blk1 V c 1 ⟨n, h⟩) (blk1 V c 2 ⟨n, h⟩) (blk1 V c 3 ⟨n, h⟩) (blk1 V c 4 ⟨n, h⟩) (blk1 V c 5 ⟨n, h⟩) else View.canon []

theorem z1_at (c : Dev nD) (t : Fin cfg1.N) : z1 V c t.val = zBlk (grid1.coords t) (blk1 V c 0 t) (blk1 V c 1 t) (blk1 V c 2 t) (blk1 V c 3 t) (blk1 V c 4 t) (blk1 V c 5 t) := dif_pos t.isLt

/-- The call's proof data: after the body at point `t` each input buffer holds its block, the activations' buffer the
    block computed, and the two sums' buffers the sums of the blocks so far. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => zOut (grid1.coords t) (blk1 V c 0 t) (blk1 V c 1 t) (blk1 V c 2 t) (blk1 V c 3 t) (blk1 V c 4 t) (blk1 V c 5 t)
    | ⟨7, _⟩ => sumAt (z1 V c) t.val
    | ⟨8, _⟩ => sqAt (z1 V c) t.val
  Φ _ := Pipeline.ΦA spec1 c
  q _ := fullShare
  owed _ := 0

theorem A_eq1 (c : Dev nD) (w : Fin cfg1.W) : (dat1 V c).A w = V c (Pipeline.arrRef spec1 w) := by dsimp only [dat1]

/-! What the body leaves in each buffer, and what it finds in the inputs'. -/

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = zOut (grid1.coords t) (blk1 V c 0 t) (blk1 V c 1 t) (blk1 V c 2 t) (blk1 V c 3 t) (blk1 V c 4 t) (blk1 V c 5 t) := by dsimp only [dat1]
theorem after1_7 (c : Dev nD) (t : Fin cfg1.N) : (dat1 V c).after 7 t = sumAt (z1 V c) t.val := by dsimp only [dat1]
theorem after1_8 (c : Dev nD) (t : Fin cfg1.N) : (dat1 V c).after 8 t = sqAt (z1 V c) t.val := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A_eq1]) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A_eq1]) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A_eq1]) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A_eq1]) t d).trans
    (by unfold Dat.fetched Dat.blockOf blk1; rw [A_eq1]; try rfl)

/-- The body's two branch conditions at a grid point: the first point only, and every later one. -/
theorem conds1 : ∀ t : Fin cfg1.N, (t.val = 0 → k1_cond1 (grid1.coords t) = 1#1 ∧ ¬k1_cond2 (grid1.coords t) = 1#1)
    ∧ (t.val ≠ 0 → ¬k1_cond1 (grid1.coords t) = 1#1 ∧ k1_cond2 (grid1.coords t) = 1#1) := by decide +kernel

/-- The sums' windows are used at every point. -/
theorem live1_7 : ∀ i : grid1.Coords, cfg1.idle 7 i = false := by decide +kernel
theorem live1_8 : ∀ i : grid1.Coords, cfg1.idle 8 i = false := by decide +kernel

/-- The sums' buffers are written back after the last point only. -/
theorem keep1_7 (t : Fin cfg1.N) (h : t.val ≠ 0) : (cfg1.win 7).flush ⟨t.val - 1, (Nat.sub_le _ _).trans_lt t.isLt⟩ = false :=
  (Bool.not_eq_true _).mp fun e => by
    have h1 := t.isLt; have h2 : cfg1.N = 40 := N_1; have h3 := (flush1_7 _).mp e; dsimp only at h3; omega
theorem keep1_8 (t : Fin cfg1.N) (h : t.val ≠ 0) : (cfg1.win 8).flush ⟨t.val - 1, (Nat.sub_le _ _).trans_lt t.isLt⟩ = false :=
  (Bool.not_eq_true _).mp fun e => by
    have h1 := t.isLt; have h2 : cfg1.N = 40 := N_1; have h3 := (flush1_8 _).mp e; dsimp only at h3; omega

theorem body_row1 (t : Fin cfg1.N) : defs₀ (F := F) .tc cfg1.body (cfg1.bodyArgs t (cfg1.slots t)) = bodyAt1 t := by
  unfold defs₀; rw [Defs.onTc_tc]

theorem before1_7 (c : Dev nD) (t : Fin cfg1.N) (h : t.val ≠ 0) (d) : (dat1 V c).before 7 t d = sumAt (z1 V c) (t.val - 1) :=
  ((dat1 V c).before_out_kept 7 rfl t h (keep1_7 t h) live1_7 (fun _ _ => rfl) d).trans (after1_7 V c _)
theorem before1_8 (c : Dev nD) (t : Fin cfg1.N) (h : t.val ≠ 0) (d) : (dat1 V c).before 8 t d = sqAt (z1 V c) (t.val - 1) :=
  ((dat1 V c).before_out_kept 8 rfl t h (keep1_8 t h) live1_8 (fun _ _ => rfl) d).trans (after1_8 V c _)

set_option maxHeartbeats 1000000 in
/-- The body at any point, from what the proof data say it finds to what they say it leaves. -/
theorem sound_body1 (c : Dev nD) (t : Fin cfg1.N) :
    iprop((dat1 V c).Φ t.castSucc ∗ (dat1 V c).owesAt () t.castSucc ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d)) ∗ (∃ d, owns (c : Thread nD τ) (st1_4 t) fullShare ((dat1 V c).before 4 t d)) ∗ (∃ d, owns (c : Thread nD τ) (st1_5 t) fullShare ((dat1 V c).before 5 t d)) ∗ (∃ d, owns (c : Thread nD τ) (st1_6 t) fullShare ((dat1 V c).before 6 t d)) ∗ (∃ d, owns (c : Thread nD τ) (st1_7 t) fullShare ((dat1 V c).before 7 t d)) ∗ (∃ d, owns (c : Thread nD τ) (st1_8 t) fullShare ((dat1 V c).before 8 t d)))
      ⊢ wp frame (wpE (defs₀ (F := F)) Variants.none c none) Set.univ (bodyAt1 t)
        (fun _ => iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t)) := by
  rw [show (dat1 V c).Φ t.succ = (dat1 V c).Φ t.castSucc from rfl,
    show (dat1 V c).owesAt () t.succ = (dat1 V c).owesAt () t.castSucc from rfl,
    leaves_live (dat1 V c) 0 t rfl, after1_0, leaves_live (dat1 V c) 1 t rfl, after1_1, leaves_live (dat1 V c) 2 t rfl, after1_2, leaves_live (dat1 V c) 3 t rfl, after1_3, leaves_live (dat1 V c) 4 t rfl, after1_4, leaves_live (dat1 V c) 5 t rfl, after1_5, leaves_live (dat1 V c) 6 t rfl, after1_6, leaves_live (dat1 V c) 7 t (live1_7 (grid1.coords t)), after1_7, leaves_live (dat1 V c) 8 t (live1_8 (grid1.coords t)), after1_8]
  exact mlp_point c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8))
    (blk1 V c 0 t) (blk1 V c 1 t) (blk1 V c 2 t) (blk1 V c 3 t) (blk1 V c 4 t) (blk1 V c 5 t)
    ((dat1 V c).before 0 t) ((dat1 V c).before 1 t) ((dat1 V c).before 2 t) ((dat1 V c).before 3 t) ((dat1 V c).before 4 t) ((dat1 V c).before 5 t) ((dat1 V c).before 6 t) ((dat1 V c).before 7 t) ((dat1 V c).before 8 t)
    (before1_0 V c t) (before1_1 V c t) (before1_2 V c t) (before1_3 V c t) (before1_4 V c t) (before1_5 V c t)
    (z1 V c) t.val (z1_at V c t) (conds1 t).1 (conds1 t).2 (before1_7 V c t) (before1_8 V c t) _ _

/-- The body meets the proof data at every grid point. -/
theorem body_obligation1 (c : Dev nD) : BodyObligation (dat1 (F := F) V c) (defs₀ (F := F)) Variants.none () Set.univ := fun t => by
  rw [bigSep_W1, bigSep_W1, body_row1]
  exact triple_restated (sound_body1 V c t) rfl .rfl fun _ => .rfl

end

end Cert.Gin

end
-- ==== Proof.Gin.Region2.lean ====
/-
  The first normalization call: what each window's block holds around the body at every grid point.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Base
public import proofs.«01_k».proof.Proof.Gin.Blocks
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

-- the buffers as the call finds them
variable (V : (c : Dev nD) → (b : Ref sig .tc) → Buf (Elt F) ((c : Thread nD τ).loc b))

/-- Window `w`'s block at point `t`, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The call's proof data: what each buffer holds after the body at point `t`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => stored (bnBlk (blk2 V c 0 t) (blk2 V c 1 t) (blk2 V c 2 t) (blk2 V c 3 t) (blk2 V c 4 t))
  Φ _ := Pipeline.ΦA spec2 c
  q _ := fullShare
  owed _ := 0

theorem A_eq2 (c : Dev nD) (w : Fin cfg2.W) : (dat2 V c).A w = V c (Pipeline.arrRef spec2 w) := by dsimp only [dat2]

/-! What the body leaves in each buffer, and what it finds in the inputs'. -/

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = stored (bnBlk (blk2 V c 0 t) (blk2 V c 1 t) (blk2 V c 2 t) (blk2 V c 3 t) (blk2 V c 4 t)) := by dsimp only [dat2]

theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; rw [A_eq2]) t d).trans
    (by unfold Dat.fetched Dat.blockOf blk2; rw [A_eq2]; try rfl)
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; rw [A_eq2]) t d).trans
    (by unfold Dat.fetched Dat.blockOf blk2; rw [A_eq2]; try rfl)
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; rw [A_eq2]) t d).trans
    (by unfold Dat.fetched Dat.blockOf blk2; rw [A_eq2]; try rfl)
theorem before2_3 (c : Dev nD) (t : Fin cfg2.N) (d) : (dat2 V c).before 3 t d = blk2 V c 3 t :=
  ((dat2 V c).before_in_eq_fetched 3 rfl (fun _ => rfl) (fun _ _ _ => rfl) (fun t => by rw [after2_3]; unfold Dat.blockOf blk2; rw [A_eq2]) t d).trans
    (by unfold Dat.fetched Dat.blockOf blk2; rw [A_eq2]; try rfl)
theorem before2_4 (c : Dev nD) (t : Fin cfg2.N) (d) : (dat2 V c).before 4 t d = blk2 V c 4 t :=
  ((dat2 V c).before_in_eq_fetched 4 rfl (fun _ => rfl) (fun _ _ _ => rfl) (fun t => by rw [after2_4]; unfold Dat.blockOf blk2; rw [A_eq2]) t d).trans
    (by unfold Dat.fetched Dat.blockOf blk2; rw [A_eq2]; try rfl)

/-- The body at any point, from what the proof data say it finds to what they say it leaves. -/
theorem sound_body2 (c : Dev nD) (t : Fin cfg2.N) :
    iprop((dat2 V c).Φ t.castSucc ∗ (dat2 V c).owesAt () t.castSucc ∗ (∃ d, owns (c : Thread nD τ) (st2_0 t) fullShare ((dat2 V c).before 0 t d)) ∗ (∃ d, owns (c : Thread nD τ) (st2_1 t) fullShare ((dat2 V c).before 1 t d)) ∗ (∃ d, owns (c : Thread nD τ) (st2_2 t) fullShare ((dat2 V c).before 2 t d)) ∗ (∃ d, owns (c : Thread nD τ) (st2_3 t) fullShare ((dat2 V c).before 3 t d)) ∗ (∃ d, owns (c : Thread nD τ) (st2_4 t) fullShare ((dat2 V c).before 4 t d)) ∗ (∃ d, owns (c : Thread nD τ) (st2_5 t) fullShare ((dat2 V c).before 5 t d)))
      ⊢ wp frame (wpE (defs₀ (F := F)) Variants.none c none) Set.univ (bodyAt2 t)
        (fun _ => iprop((dat2 V c).Φ t.succ ∗ (dat2 V c).owesAt () t.succ ∗ owns (c : Thread nD τ) (st2_0 t) fullShare ((dat2 V c).after 0 t) ∗ owns (c : Thread nD τ) (st2_1 t) fullShare ((dat2 V c).after 1 t) ∗ owns (c : Thread nD τ) (st2_2 t) fullShare ((dat2 V c).after 2 t) ∗ owns (c : Thread nD τ) (st2_3 t) fullShare ((dat2 V c).after 3 t) ∗ owns (c : Thread nD τ) (st2_4 t) fullShare ((dat2 V c).after 4 t) ∗ owns (c : Thread nD τ) (st2_5 t) fullShare ((dat2 V c).after 5 t))) := by
  unfold bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (bn_run c Set.univ (grid2.coords t) _ _ _ _ _ _ _ _ _ _ _ _ (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_row2 (t : Fin cfg2.N) : defs₀ (F := F) .tc cfg2.body (cfg2.bodyArgs t (cfg2.slots t)) = bodyAt2 t := by
  unfold defs₀; rw [Defs.onTc_tc]

/-- The body meets the proof data at every grid point. -/
theorem body_obligation2 (c : Dev nD) : BodyObligation (dat2 (F := F) V c) (defs₀ (F := F)) Variants.none () Set.univ := fun t => by
  rw [bigSep_W2, bigSep_W2, body_row2]
  exact triple_restated (sound_body2 V c t) rfl .rfl fun _ => .rfl

end

end Cert.Gin

end
-- ==== Proof.Gin.Region3.lean ====
/-
  The second perceptron call: what each window's block holds around the body at every grid point.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Base
public import proofs.«01_k».proof.Proof.Gin.Mlp
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

-- the buffers as the call finds them
variable (V : (c : Dev nD) → (b : Ref sig .tc) → Buf (Elt F) ((c : Thread nD τ).loc b))

/-- Window `w`'s block at point `t`, read off its array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activations the call writes at its `n`-th point (nothing beyond the grid). -/
def z3 (c : Dev nD) (n : ℕ) : Vec F S256x256 .f32 :=
  if h : n < cfg3.N then zBlk (grid3.coords ⟨n, h⟩) (blk3 V c 0 ⟨n, h⟩) (blk3 V c 1 ⟨n, h⟩) (blk3 V c 2 ⟨n, h⟩) (blk3 V c 3 ⟨n, h⟩) (blk3 V c 4 ⟨n, h⟩) (blk3 V c 5 ⟨n, h⟩) else View.canon []

theorem z3_at (c : Dev nD) (t : Fin cfg3.N) : z3 V c t.val = zBlk (grid3.coords t) (blk3 V c 0 t) (blk3 V c 1 t) (blk3 V c 2 t) (blk3 V c 3 t) (blk3 V c 4 t) (blk3 V c 5 t) := dif_pos t.isLt

/-- The call's proof data: after the body at point `t` each input buffer holds its block, the activations' buffer the
    block computed, and the two sums' buffers the sums of the blocks so far. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => zOut (grid3.coords t) (blk3 V c 0 t) (blk3 V c 1 t) (blk3 V c 2 t) (blk3 V c 3 t) (blk3 V c 4 t) (blk3 V c 5 t)
    | ⟨7, _⟩ => sumAt (z3 V c) t.val
    | ⟨8, _⟩ => sqAt (z3 V c) t.val
  Φ _ := Pipeline.ΦA spec3 c
  q _ := fullShare
  owed _ := 0

theorem A_eq3 (c : Dev nD) (w : Fin cfg3.W) : (dat3 V c).A w = V c (Pipeline.arrRef spec3 w) := by dsimp only [dat3]

/-! What the body leaves in each buffer, and what it finds in the inputs'. -/

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = blk3 V c 5 t := by dsimp only [dat3]
theorem after3_6 (c : Dev nD) (t : Fin cfg3.N) : (dat3 V c).after 6 t = zOut (grid3.coords t) (blk3 V c 0 t) (blk3 V c 1 t) (blk3 V c 2 t) (blk3 V c 3 t) (blk3 V c 4 t) (blk3 V c 5 t) := by dsimp only [dat3]
theorem after3_7 (c : Dev nD) (t : Fin cfg3.N) : (dat3 V c).after 7 t = sumAt (z3 V c) t.val := by dsimp only [dat3]
theorem after3_8 (c : Dev nD) (t : Fin cfg3.N) : (dat3 V c).after 8 t = sqAt (z3 V c) t.val := by dsimp only [dat3]

theorem before3_0 (c : Dev nD) (t : Fin cfg3.N) (d) : (dat3 V c).before 0 t d = blk3 V c 0 t :=
  ((dat3 V c).before_in_eq_fetched 0 rfl (fun _ => rfl) (fun _ _ _ => rfl) (fun t => by rw [after3_0]; unfold Dat.blockOf blk3; rw [A_eq3]) t d).trans
    (by unfold Dat.fetched Dat.blockOf blk3; rw [A_eq3]; try rfl)
theorem before3_1 (c : Dev nD) (t : Fin cfg3.N) (d) : (dat3 V c).before 1 t d = blk3 V c 1 t :=
  ((dat3 V c).before_in_eq_fetched 1 rfl (fun _ => rfl) (fun _ _ _ => rfl) (fun t => by rw [after3_1]; unfold Dat.blockOf blk3; rw [A_eq3]) t d).trans
    (by unfold Dat.fetched Dat.blockOf blk3; rw [A_eq3]; try rfl)
theorem before3_2 (c : Dev nD) (t : Fin cfg3.N) (d) : (dat3 V c).before 2 t d = blk3 V c 2 t :=
  ((dat3 V c).before_in_eq_fetched 2 rfl (fun _ => rfl) (fun _ _ _ => rfl) (fun t => by rw [after3_2]; unfold Dat.blockOf blk3; rw [A_eq3]) t d).trans
    (by unfold Dat.fetched Dat.blockOf blk3; rw [A_eq3]; try rfl)
theorem before3_3 (c : Dev nD) (t : Fin cfg3.N) (d) : (dat3 V c).before 3 t d = blk3 V c 3 t :=
  ((dat3 V c).before_in_eq_fetched 3 rfl (fun _ => rfl) (fun _ _ _ => rfl) (fun t => by rw [after3_3]; unfold Dat.blockOf blk3; rw [A_eq3]) t d).trans
    (by unfold Dat.fetched Dat.blockOf blk3; rw [A_eq3]; try rfl)
theorem before3_4 (c : Dev nD) (t : Fin cfg3.N) (d) : (dat3 V c).before 4 t d = blk3 V c 4 t :=
  ((dat3 V c).before_in_eq_fetched 4 rfl (fun _ => rfl) (fun _ _ _ => rfl) (fun t => by rw [after3_4]; unfold Dat.blockOf blk3; rw [A_eq3]) t d).trans
    (by unfold Dat.fetched Dat.blockOf blk3; rw [A_eq3]; try rfl)
theorem before3_5 (c : Dev nD) (t : Fin cfg3.N) (d) : (dat3 V c).before 5 t d = blk3 V c 5 t :=
  ((dat3 V c).before_in_eq_fetched 5 rfl (fun _ => rfl) (fun _ _ _ => rfl) (fun t => by rw [after3_5]; unfold Dat.blockOf blk3; rw [A_eq3]) t d).trans
    (by unfold Dat.fetched Dat.blockOf blk3; rw [A_eq3]; try rfl)

/-- The body's two branch conditions at a grid point: the first point only, and every later one. -/
theorem conds3 : ∀ t : Fin cfg3.N, (t.val = 0 → k1_cond1 (grid3.coords t) = 1#1 ∧ ¬k1_cond2 (grid3.coords t) = 1#1)
    ∧ (t.val ≠ 0 → ¬k1_cond1 (grid3.coords t) = 1#1 ∧ k1_cond2 (grid3.coords t) = 1#1) := by decide +kernel

/-- The sums' windows are used at every point. -/
theorem live3_7 : ∀ i : grid3.Coords, cfg3.idle 7 i = false := by decide +kernel
theorem live3_8 : ∀ i : grid3.Coords, cfg3.idle 8 i = false := by decide +kernel

/-- The sums' buffers are written back after the last point only. -/
theorem keep3_7 (t : Fin cfg3.N) (h : t.val ≠ 0) : (cfg3.win 7).flush ⟨t.val - 1, (Nat.sub_le _ _).trans_lt t.isLt⟩ = false :=
  (Bool.not_eq_true _).mp fun e => by
    have h1 := t.isLt; have h2 : cfg3.N = 40 := N_3; have h3 := (flush3_7 _).mp e; dsimp only at h3; omega
theorem keep3_8 (t : Fin cfg3.N) (h : t.val ≠ 0) : (cfg3.win 8).flush ⟨t.val - 1, (Nat.sub_le _ _).trans_lt t.isLt⟩ = false :=
  (Bool.not_eq_true _).mp fun e => by
    have h1 := t.isLt; have h2 : cfg3.N = 40 := N_3; have h3 := (flush3_8 _).mp e; dsimp only at h3; omega

theorem body_row3 (t : Fin cfg3.N) : defs₀ (F := F) .tc cfg3.body (cfg3.bodyArgs t (cfg3.slots t)) = bodyAt3 t := by
  unfold defs₀; rw [Defs.onTc_tc]

theorem before3_7 (c : Dev nD) (t : Fin cfg3.N) (h : t.val ≠ 0) (d) : (dat3 V c).before 7 t d = sumAt (z3 V c) (t.val - 1) :=
  ((dat3 V c).before_out_kept 7 rfl t h (keep3_7 t h) live3_7 (fun _ _ => rfl) d).trans (after3_7 V c _)
theorem before3_8 (c : Dev nD) (t : Fin cfg3.N) (h : t.val ≠ 0) (d) : (dat3 V c).before 8 t d = sqAt (z3 V c) (t.val - 1) :=
  ((dat3 V c).before_out_kept 8 rfl t h (keep3_8 t h) live3_8 (fun _ _ => rfl) d).trans (after3_8 V c _)

set_option maxHeartbeats 1000000 in
/-- The body at any point, from what the proof data say it finds to what they say it leaves. -/
theorem sound_body3 (c : Dev nD) (t : Fin cfg3.N) :
    iprop((dat3 V c).Φ t.castSucc ∗ (dat3 V c).owesAt () t.castSucc ∗ (∃ d, owns (c : Thread nD τ) (st3_0 t) fullShare ((dat3 V c).before 0 t d)) ∗ (∃ d, owns (c : Thread nD τ) (st3_1 t) fullShare ((dat3 V c).before 1 t d)) ∗ (∃ d, owns (c : Thread nD τ) (st3_2 t) fullShare ((dat3 V c).before 2 t d)) ∗ (∃ d, owns (c : Thread nD τ) (st3_3 t) fullShare ((dat3 V c).before 3 t d)) ∗ (∃ d, owns (c : Thread nD τ) (st3_4 t) fullShare ((dat3 V c).before 4 t d)) ∗ (∃ d, owns (c : Thread nD τ) (st3_5 t) fullShare ((dat3 V c).before 5 t d)) ∗ (∃ d, owns (c : Thread nD τ) (st3_6 t) fullShare ((dat3 V c).before 6 t d)) ∗ (∃ d, owns (c : Thread nD τ) (st3_7 t) fullShare ((dat3 V c).before 7 t d)) ∗ (∃ d, owns (c : Thread nD τ) (st3_8 t) fullShare ((dat3 V c).before 8 t d)))
      ⊢ wp frame (wpE (defs₀ (F := F)) Variants.none c none) Set.univ (bodyAt3 t)
        (fun _ => iprop((dat3 V c).Φ t.succ ∗ (dat3 V c).owesAt () t.succ ∗ (dat3 V c).leavesExact 0 t ∗ (dat3 V c).leavesExact 1 t ∗ (dat3 V c).leavesExact 2 t ∗ (dat3 V c).leavesExact 3 t ∗ (dat3 V c).leavesExact 4 t ∗ (dat3 V c).leavesExact 5 t ∗ (dat3 V c).leavesExact 6 t ∗ (dat3 V c).leavesExact 7 t ∗ (dat3 V c).leavesExact 8 t)) := by
  rw [show (dat3 V c).Φ t.succ = (dat3 V c).Φ t.castSucc from rfl,
    show (dat3 V c).owesAt () t.succ = (dat3 V c).owesAt () t.castSucc from rfl,
    leaves_live (dat3 V c) 0 t rfl, after3_0, leaves_live (dat3 V c) 1 t rfl, after3_1, leaves_live (dat3 V c) 2 t rfl, after3_2, leaves_live (dat3 V c) 3 t rfl, after3_3, leaves_live (dat3 V c) 4 t rfl, after3_4, leaves_live (dat3 V c) 5 t rfl, after3_5, leaves_live (dat3 V c) 6 t rfl, after3_6, leaves_live (dat3 V c) 7 t (live3_7 (grid3.coords t)), after3_7, leaves_live (dat3 V c) 8 t (live3_8 (grid3.coords t)), after3_8]
  unfold bodyAt3; rw [cc3_eq]
  exact mlp_point c (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4)) (st3_5 t) (hstage3_5 ((cfg3.slots t 5).cast nbuf3_5)) (st3_6 t) (hstage3_6 ((cfg3.slots t 6).cast nbuf3_6)) (st3_7 t) (hstage3_7 ((cfg3.slots t 7).cast nbuf3_7)) (st3_8 t) (hstage3_8 ((cfg3.slots t 8).cast nbuf3_8))
    (blk3 V c 0 t) (blk3 V c 1 t) (blk3 V c 2 t) (blk3 V c 3 t) (blk3 V c 4 t) (blk3 V c 5 t)
    ((dat3 V c).before 0 t) ((dat3 V c).before 1 t) ((dat3 V c).before 2 t) ((dat3 V c).before 3 t) ((dat3 V c).before 4 t) ((dat3 V c).before 5 t) ((dat3 V c).before 6 t) ((dat3 V c).before 7 t) ((dat3 V c).before 8 t)
    (before3_0 V c t) (before3_1 V c t) (before3_2 V c t) (before3_3 V c t) (before3_4 V c t) (before3_5 V c t)
    (z3 V c) t.val (z3_at V c t) (conds3 t).1 (conds3 t).2 (before3_7 V c t) (before3_8 V c t) _ _

/-- The body meets the proof data at every grid point. -/
theorem body_obligation3 (c : Dev nD) : BodyObligation (dat3 (F := F) V c) (defs₀ (F := F)) Variants.none () Set.univ := fun t => by
  rw [bigSep_W3, bigSep_W3, body_row3]
  exact triple_restated (sound_body3 V c t) rfl .rfl fun _ => .rfl

end

end Cert.Gin

end
-- ==== Proof.Gin.Region4.lean ====
/-
  The second normalization call: what each window's block holds around the body at every grid point.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Base
public import proofs.«01_k».proof.Proof.Gin.Blocks
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

-- the buffers as the call finds them
variable (V : (c : Dev nD) → (b : Ref sig .tc) → Buf (Elt F) ((c : Thread nD τ).loc b))

/-- Window `w`'s block at point `t`, read off its array as the call finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The call's proof data: what each buffer holds after the body at point `t`. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => stored (bnBlk (blk4 V c 0 t) (blk4 V c 1 t) (blk4 V c 2 t) (blk4 V c 3 t) (blk4 V c 4 t))
  Φ _ := Pipeline.ΦA spec4 c
  q _ := fullShare
  owed _ := 0

theorem A_eq4 (c : Dev nD) (w : Fin cfg4.W) : (dat4 V c).A w = V c (Pipeline.arrRef spec4 w) := by dsimp only [dat4]

/-! What the body leaves in each buffer, and what it finds in the inputs'. -/

theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = blk4 V c 2 t := by dsimp only [dat4]
theorem after4_3 (c : Dev nD) (t : Fin cfg4.N) : (dat4 V c).after 3 t = blk4 V c 3 t := by dsimp only [dat4]
theorem after4_4 (c : Dev nD) (t : Fin cfg4.N) : (dat4 V c).after 4 t = blk4 V c 4 t := by dsimp only [dat4]
theorem after4_5 (c : Dev nD) (t : Fin cfg4.N) : (dat4 V c).after 5 t = stored (bnBlk (blk4 V c 0 t) (blk4 V c 1 t) (blk4 V c 2 t) (blk4 V c 3 t) (blk4 V c 4 t)) := by dsimp only [dat4]

theorem before4_0 (c : Dev nD) (t : Fin cfg4.N) (d) : (dat4 V c).before 0 t d = blk4 V c 0 t :=
  ((dat4 V c).before_in_eq_fetched 0 rfl (fun _ => rfl) (fun _ _ _ => rfl) (fun t => by rw [after4_0]; unfold Dat.blockOf blk4; rw [A_eq4]) t d).trans
    (by unfold Dat.fetched Dat.blockOf blk4; rw [A_eq4]; try rfl)
theorem before4_1 (c : Dev nD) (t : Fin cfg4.N) (d) : (dat4 V c).before 1 t d = blk4 V c 1 t :=
  ((dat4 V c).before_in_eq_fetched 1 rfl (fun _ => rfl) (fun _ _ _ => rfl) (fun t => by rw [after4_1]; unfold Dat.blockOf blk4; rw [A_eq4]) t d).trans
    (by unfold Dat.fetched Dat.blockOf blk4; rw [A_eq4]; try rfl)
theorem before4_2 (c : Dev nD) (t : Fin cfg4.N) (d) : (dat4 V c).before 2 t d = blk4 V c 2 t :=
  ((dat4 V c).before_in_eq_fetched 2 rfl (fun _ => rfl) (fun _ _ _ => rfl) (fun t => by rw [after4_2]; unfold Dat.blockOf blk4; rw [A_eq4]) t d).trans
    (by unfold Dat.fetched Dat.blockOf blk4; rw [A_eq4]; try rfl)
theorem before4_3 (c : Dev nD) (t : Fin cfg4.N) (d) : (dat4 V c).before 3 t d = blk4 V c 3 t :=
  ((dat4 V c).before_in_eq_fetched 3 rfl (fun _ => rfl) (fun _ _ _ => rfl) (fun t => by rw [after4_3]; unfold Dat.blockOf blk4; rw [A_eq4]) t d).trans
    (by unfold Dat.fetched Dat.blockOf blk4; rw [A_eq4]; try rfl)
theorem before4_4 (c : Dev nD) (t : Fin cfg4.N) (d) : (dat4 V c).before 4 t d = blk4 V c 4 t :=
  ((dat4 V c).before_in_eq_fetched 4 rfl (fun _ => rfl) (fun _ _ _ => rfl) (fun t => by rw [after4_4]; unfold Dat.blockOf blk4; rw [A_eq4]) t d).trans
    (by unfold Dat.fetched Dat.blockOf blk4; rw [A_eq4]; try rfl)

/-- The body at any point, from what the proof data say it finds to what they say it leaves. -/
theorem sound_body4 (c : Dev nD) (t : Fin cfg4.N) :
    iprop((dat4 V c).Φ t.castSucc ∗ (dat4 V c).owesAt () t.castSucc ∗ (∃ d, owns (c : Thread nD τ) (st4_0 t) fullShare ((dat4 V c).before 0 t d)) ∗ (∃ d, owns (c : Thread nD τ) (st4_1 t) fullShare ((dat4 V c).before 1 t d)) ∗ (∃ d, owns (c : Thread nD τ) (st4_2 t) fullShare ((dat4 V c).before 2 t d)) ∗ (∃ d, owns (c : Thread nD τ) (st4_3 t) fullShare ((dat4 V c).before 3 t d)) ∗ (∃ d, owns (c : Thread nD τ) (st4_4 t) fullShare ((dat4 V c).before 4 t d)) ∗ (∃ d, owns (c : Thread nD τ) (st4_5 t) fullShare ((dat4 V c).before 5 t d)))
      ⊢ wp frame (wpE (defs₀ (F := F)) Variants.none c none) Set.univ (bodyAt4 t)
        (fun _ => iprop((dat4 V c).Φ t.succ ∗ (dat4 V c).owesAt () t.succ ∗ owns (c : Thread nD τ) (st4_0 t) fullShare ((dat4 V c).after 0 t) ∗ owns (c : Thread nD τ) (st4_1 t) fullShare ((dat4 V c).after 1 t) ∗ owns (c : Thread nD τ) (st4_2 t) fullShare ((dat4 V c).after 2 t) ∗ owns (c : Thread nD τ) (st4_3 t) fullShare ((dat4 V c).after 3 t) ∗ owns (c : Thread nD τ) (st4_4 t) fullShare ((dat4 V c).after 4 t) ∗ owns (c : Thread nD τ) (st4_5 t) fullShare ((dat4 V c).after 5 t))) := by
  unfold bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    cc4_eq, after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (bn_run c Set.univ (grid4.coords t) _ _ _ _ _ _ _ _ _ _ _ _ (blk4 V c 0 t) (blk4 V c 1 t) (blk4 V c 2 t) (blk4 V c 3 t) (blk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_row4 (t : Fin cfg4.N) : defs₀ (F := F) .tc cfg4.body (cfg4.bodyArgs t (cfg4.slots t)) = bodyAt4 t := by
  unfold defs₀; rw [Defs.onTc_tc]

/-- The body meets the proof data at every grid point. -/
theorem body_obligation4 (c : Dev nD) : BodyObligation (dat4 (F := F) V c) (defs₀ (F := F)) Variants.none () Set.univ := fun t => by
  rw [bigSep_W4, bigSep_W4, body_row4]
  exact triple_restated (sound_body4 V c t) rfl .rfl fun _ => .rfl

end

end Cert.Gin

end
-- ==== Proof.Gin.Region5.lean ====
/-
  The third perceptron call: what each window's block holds around the body at every grid point.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Base
public import proofs.«01_k».proof.Proof.Gin.Mlp
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

-- the buffers as the call finds them
variable (V : (c : Dev nD) → (b : Ref sig .tc) → Buf (Elt F) ((c : Thread nD τ).loc b))

/-- Window `w`'s block at point `t`, read off its array as the call finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The activations the call writes at its `n`-th point (nothing beyond the grid). -/
def z5 (c : Dev nD) (n : ℕ) : Vec F S256x256 .f32 :=
  if h : n < cfg5.N then zBlk (grid5.coords ⟨n, h⟩) (blk5 V c 0 ⟨n, h⟩) (blk5 V c 1 ⟨n, h⟩) (blk5 V c 2 ⟨n, h⟩) (blk5 V c 3 ⟨n, h⟩) (blk5 V c 4 ⟨n, h⟩) (blk5 V c 5 ⟨n, h⟩) else View.canon []

theorem z5_at (c : Dev nD) (t : Fin cfg5.N) : z5 V c t.val = zBlk (grid5.coords t) (blk5 V c 0 t) (blk5 V c 1 t) (blk5 V c 2 t) (blk5 V c 3 t) (blk5 V c 4 t) (blk5 V c 5 t) := dif_pos t.isLt

/-- The call's proof data: after the body at point `t` each input buffer holds its block, the activations' buffer the
    block computed, and the two sums' buffers the sums of the blocks so far. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => blk5 V c 4 t
    | ⟨5, _⟩ => blk5 V c 5 t
    | ⟨6, _⟩ => zOut (grid5.coords t) (blk5 V c 0 t) (blk5 V c 1 t) (blk5 V c 2 t) (blk5 V c 3 t) (blk5 V c 4 t) (blk5 V c 5 t)
    | ⟨7, _⟩ => sumAt (z5 V c) t.val
    | ⟨8, _⟩ => sqAt (z5 V c) t.val
  Φ _ := Pipeline.ΦA spec5 c
  q _ := fullShare
  owed _ := 0

theorem A_eq5 (c : Dev nD) (w : Fin cfg5.W) : (dat5 V c).A w = V c (Pipeline.arrRef spec5 w) := by dsimp only [dat5]

/-! What the body leaves in each buffer, and what it finds in the inputs'. -/

theorem after5_0 (c : Dev nD) (t : Fin cfg5.N) : (dat5 V c).after 0 t = blk5 V c 0 t := by dsimp only [dat5]
theorem after5_1 (c : Dev nD) (t : Fin cfg5.N) : (dat5 V c).after 1 t = blk5 V c 1 t := by dsimp only [dat5]
theorem after5_2 (c : Dev nD) (t : Fin cfg5.N) : (dat5 V c).after 2 t = blk5 V c 2 t := by dsimp only [dat5]
theorem after5_3 (c : Dev nD) (t : Fin cfg5.N) : (dat5 V c).after 3 t = blk5 V c 3 t := by dsimp only [dat5]
theorem after5_4 (c : Dev nD) (t : Fin cfg5.N) : (dat5 V c).after 4 t = blk5 V c 4 t := by dsimp only [dat5]
theorem after5_5 (c : Dev nD) (t : Fin cfg5.N) : (dat5 V c).after 5 t = blk5 V c 5 t := by dsimp only [dat5]
theorem after5_6 (c : Dev nD) (t : Fin cfg5.N) : (dat5 V c).after 6 t = zOut (grid5.coords t) (blk5 V c 0 t) (blk5 V c 1 t) (blk5 V c 2 t) (blk5 V c 3 t) (blk5 V c 4 t) (blk5 V c 5 t) := by dsimp only [dat5]
theorem after5_7 (c : Dev nD) (t : Fin cfg5.N) : (dat5 V c).after 7 t = sumAt (z5 V c) t.val := by dsimp only [dat5]
theorem after5_8 (c : Dev nD) (t : Fin cfg5.N) : (dat5 V c).after 8 t = sqAt (z5 V c) t.val := by dsimp only [dat5]

theorem before5_0 (c : Dev nD) (t : Fin cfg5.N) (d) : (dat5 V c).before 0 t d = blk5 V c 0 t :=
  ((dat5 V c).before_in_eq_fetched 0 rfl (fun _ => rfl) (fun _ _ _ => rfl) (fun t => by rw [after5_0]; unfold Dat.blockOf blk5; rw [A_eq5]) t d).trans
    (by unfold Dat.fetched Dat.blockOf blk5; rw [A_eq5]; try rfl)
theorem before5_1 (c : Dev nD) (t : Fin cfg5.N) (d) : (dat5 V c).before 1 t d = blk5 V c 1 t :=
  ((dat5 V c).before_in_eq_fetched 1 rfl (fun _ => rfl) (fun _ _ _ => rfl) (fun t => by rw [after5_1]; unfold Dat.blockOf blk5; rw [A_eq5]) t d).trans
    (by unfold Dat.fetched Dat.blockOf blk5; rw [A_eq5]; try rfl)
theorem before5_2 (c : Dev nD) (t : Fin cfg5.N) (d) : (dat5 V c).before 2 t d = blk5 V c 2 t :=
  ((dat5 V c).before_in_eq_fetched 2 rfl (fun _ => rfl) (fun _ _ _ => rfl) (fun t => by rw [after5_2]; unfold Dat.blockOf blk5; rw [A_eq5]) t d).trans
    (by unfold Dat.fetched Dat.blockOf blk5; rw [A_eq5]; try rfl)
theorem before5_3 (c : Dev nD) (t : Fin cfg5.N) (d) : (dat5 V c).before 3 t d = blk5 V c 3 t :=
  ((dat5 V c).before_in_eq_fetched 3 rfl (fun _ => rfl) (fun _ _ _ => rfl) (fun t => by rw [after5_3]; unfold Dat.blockOf blk5; rw [A_eq5]) t d).trans
    (by unfold Dat.fetched Dat.blockOf blk5; rw [A_eq5]; try rfl)
theorem before5_4 (c : Dev nD) (t : Fin cfg5.N) (d) : (dat5 V c).before 4 t d = blk5 V c 4 t :=
  ((dat5 V c).before_in_eq_fetched 4 rfl (fun _ => rfl) (fun _ _ _ => rfl) (fun t => by rw [after5_4]; unfold Dat.blockOf blk5; rw [A_eq5]) t d).trans
    (by unfold Dat.fetched Dat.blockOf blk5; rw [A_eq5]; try rfl)
theorem before5_5 (c : Dev nD) (t : Fin cfg5.N) (d) : (dat5 V c).before 5 t d = blk5 V c 5 t :=
  ((dat5 V c).before_in_eq_fetched 5 rfl (fun _ => rfl) (fun _ _ _ => rfl) (fun t => by rw [after5_5]; unfold Dat.blockOf blk5; rw [A_eq5]) t d).trans
    (by unfold Dat.fetched Dat.blockOf blk5; rw [A_eq5]; try rfl)

/-- The body's two branch conditions at a grid point: the first point only, and every later one. -/
theorem conds5 : ∀ t : Fin cfg5.N, (t.val = 0 → k1_cond1 (grid5.coords t) = 1#1 ∧ ¬k1_cond2 (grid5.coords t) = 1#1)
    ∧ (t.val ≠ 0 → ¬k1_cond1 (grid5.coords t) = 1#1 ∧ k1_cond2 (grid5.coords t) = 1#1) := by decide +kernel

/-- The sums' windows are used at every point. -/
theorem live5_7 : ∀ i : grid5.Coords, cfg5.idle 7 i = false := by decide +kernel
theorem live5_8 : ∀ i : grid5.Coords, cfg5.idle 8 i = false := by decide +kernel

/-- The sums' buffers are written back after the last point only. -/
theorem keep5_7 (t : Fin cfg5.N) (h : t.val ≠ 0) : (cfg5.win 7).flush ⟨t.val - 1, (Nat.sub_le _ _).trans_lt t.isLt⟩ = false :=
  (Bool.not_eq_true _).mp fun e => by
    have h1 := t.isLt; have h2 : cfg5.N = 40 := N_5; have h3 := (flush5_7 _).mp e; dsimp only at h3; omega
theorem keep5_8 (t : Fin cfg5.N) (h : t.val ≠ 0) : (cfg5.win 8).flush ⟨t.val - 1, (Nat.sub_le _ _).trans_lt t.isLt⟩ = false :=
  (Bool.not_eq_true _).mp fun e => by
    have h1 := t.isLt; have h2 : cfg5.N = 40 := N_5; have h3 := (flush5_8 _).mp e; dsimp only at h3; omega

theorem body_row5 (t : Fin cfg5.N) : defs₀ (F := F) .tc cfg5.body (cfg5.bodyArgs t (cfg5.slots t)) = bodyAt5 t := by
  unfold defs₀; rw [Defs.onTc_tc]

theorem before5_7 (c : Dev nD) (t : Fin cfg5.N) (h : t.val ≠ 0) (d) : (dat5 V c).before 7 t d = sumAt (z5 V c) (t.val - 1) :=
  ((dat5 V c).before_out_kept 7 rfl t h (keep5_7 t h) live5_7 (fun _ _ => rfl) d).trans (after5_7 V c _)
theorem before5_8 (c : Dev nD) (t : Fin cfg5.N) (h : t.val ≠ 0) (d) : (dat5 V c).before 8 t d = sqAt (z5 V c) (t.val - 1) :=
  ((dat5 V c).before_out_kept 8 rfl t h (keep5_8 t h) live5_8 (fun _ _ => rfl) d).trans (after5_8 V c _)

set_option maxHeartbeats 1000000 in
/-- The body at any point, from what the proof data say it finds to what they say it leaves. -/
theorem sound_body5 (c : Dev nD) (t : Fin cfg5.N) :
    iprop((dat5 V c).Φ t.castSucc ∗ (dat5 V c).owesAt () t.castSucc ∗ (∃ d, owns (c : Thread nD τ) (st5_0 t) fullShare ((dat5 V c).before 0 t d)) ∗ (∃ d, owns (c : Thread nD τ) (st5_1 t) fullShare ((dat5 V c).before 1 t d)) ∗ (∃ d, owns (c : Thread nD τ) (st5_2 t) fullShare ((dat5 V c).before 2 t d)) ∗ (∃ d, owns (c : Thread nD τ) (st5_3 t) fullShare ((dat5 V c).before 3 t d)) ∗ (∃ d, owns (c : Thread nD τ) (st5_4 t) fullShare ((dat5 V c).before 4 t d)) ∗ (∃ d, owns (c : Thread nD τ) (st5_5 t) fullShare ((dat5 V c).before 5 t d)) ∗ (∃ d, owns (c : Thread nD τ) (st5_6 t) fullShare ((dat5 V c).before 6 t d)) ∗ (∃ d, owns (c : Thread nD τ) (st5_7 t) fullShare ((dat5 V c).before 7 t d)) ∗ (∃ d, owns (c : Thread nD τ) (st5_8 t) fullShare ((dat5 V c).before 8 t d)))
      ⊢ wp frame (wpE (defs₀ (F := F)) Variants.none c none) Set.univ (bodyAt5 t)
        (fun _ => iprop((dat5 V c).Φ t.succ ∗ (dat5 V c).owesAt () t.succ ∗ (dat5 V c).leavesExact 0 t ∗ (dat5 V c).leavesExact 1 t ∗ (dat5 V c).leavesExact 2 t ∗ (dat5 V c).leavesExact 3 t ∗ (dat5 V c).leavesExact 4 t ∗ (dat5 V c).leavesExact 5 t ∗ (dat5 V c).leavesExact 6 t ∗ (dat5 V c).leavesExact 7 t ∗ (dat5 V c).leavesExact 8 t)) := by
  rw [show (dat5 V c).Φ t.succ = (dat5 V c).Φ t.castSucc from rfl,
    show (dat5 V c).owesAt () t.succ = (dat5 V c).owesAt () t.castSucc from rfl,
    leaves_live (dat5 V c) 0 t rfl, after5_0, leaves_live (dat5 V c) 1 t rfl, after5_1, leaves_live (dat5 V c) 2 t rfl, after5_2, leaves_live (dat5 V c) 3 t rfl, after5_3, leaves_live (dat5 V c) 4 t rfl, after5_4, leaves_live (dat5 V c) 5 t rfl, after5_5, leaves_live (dat5 V c) 6 t rfl, after5_6, leaves_live (dat5 V c) 7 t (live5_7 (grid5.coords t)), after5_7, leaves_live (dat5 V c) 8 t (live5_8 (grid5.coords t)), after5_8]
  unfold bodyAt5; rw [cc5_eq]
  exact mlp_point c (grid5.coords t) (st5_0 t) (hstage5_0 ((cfg5.slots t 0).cast nbuf5_0)) (st5_1 t) (hstage5_1 ((cfg5.slots t 1).cast nbuf5_1)) (st5_2 t) (hstage5_2 ((cfg5.slots t 2).cast nbuf5_2)) (st5_3 t) (hstage5_3 ((cfg5.slots t 3).cast nbuf5_3)) (st5_4 t) (hstage5_4 ((cfg5.slots t 4).cast nbuf5_4)) (st5_5 t) (hstage5_5 ((cfg5.slots t 5).cast nbuf5_5)) (st5_6 t) (hstage5_6 ((cfg5.slots t 6).cast nbuf5_6)) (st5_7 t) (hstage5_7 ((cfg5.slots t 7).cast nbuf5_7)) (st5_8 t) (hstage5_8 ((cfg5.slots t 8).cast nbuf5_8))
    (blk5 V c 0 t) (blk5 V c 1 t) (blk5 V c 2 t) (blk5 V c 3 t) (blk5 V c 4 t) (blk5 V c 5 t)
    ((dat5 V c).before 0 t) ((dat5 V c).before 1 t) ((dat5 V c).before 2 t) ((dat5 V c).before 3 t) ((dat5 V c).before 4 t) ((dat5 V c).before 5 t) ((dat5 V c).before 6 t) ((dat5 V c).before 7 t) ((dat5 V c).before 8 t)
    (before5_0 V c t) (before5_1 V c t) (before5_2 V c t) (before5_3 V c t) (before5_4 V c t) (before5_5 V c t)
    (z5 V c) t.val (z5_at V c t) (conds5 t).1 (conds5 t).2 (before5_7 V c t) (before5_8 V c t) _ _

/-- The body meets the proof data at every grid point. -/
theorem body_obligation5 (c : Dev nD) : BodyObligation (dat5 (F := F) V c) (defs₀ (F := F)) Variants.none () Set.univ := fun t => by
  rw [bigSep_W5, bigSep_W5, body_row5]
  exact triple_restated (sound_body5 V c t) rfl .rfl fun _ => .rfl

end

end Cert.Gin

end
-- ==== Proof.Gin.Region6.lean ====
/-
  The third normalization call: what each window's block holds around the body at every grid point.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Base
public import proofs.«01_k».proof.Proof.Gin.Blocks
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

-- the buffers as the call finds them
variable (V : (c : Dev nD) → (b : Ref sig .tc) → Buf (Elt F) ((c : Thread nD τ).loc b))

/-- Window `w`'s block at point `t`, read off its array as the call finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The call's proof data: what each buffer holds after the body at point `t`. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => blk6 V c 3 t
    | ⟨4, _⟩ => blk6 V c 4 t
    | ⟨5, _⟩ => stored (bnBlk (blk6 V c 0 t) (blk6 V c 1 t) (blk6 V c 2 t) (blk6 V c 3 t) (blk6 V c 4 t))
  Φ _ := Pipeline.ΦA spec6 c
  q _ := fullShare
  owed _ := 0

theorem A_eq6 (c : Dev nD) (w : Fin cfg6.W) : (dat6 V c).A w = V c (Pipeline.arrRef spec6 w) := by dsimp only [dat6]

/-! What the body leaves in each buffer, and what it finds in the inputs'. -/

theorem after6_0 (c : Dev nD) (t : Fin cfg6.N) : (dat6 V c).after 0 t = blk6 V c 0 t := by dsimp only [dat6]
theorem after6_1 (c : Dev nD) (t : Fin cfg6.N) : (dat6 V c).after 1 t = blk6 V c 1 t := by dsimp only [dat6]
theorem after6_2 (c : Dev nD) (t : Fin cfg6.N) : (dat6 V c).after 2 t = blk6 V c 2 t := by dsimp only [dat6]
theorem after6_3 (c : Dev nD) (t : Fin cfg6.N) : (dat6 V c).after 3 t = blk6 V c 3 t := by dsimp only [dat6]
theorem after6_4 (c : Dev nD) (t : Fin cfg6.N) : (dat6 V c).after 4 t = blk6 V c 4 t := by dsimp only [dat6]
theorem after6_5 (c : Dev nD) (t : Fin cfg6.N) : (dat6 V c).after 5 t = stored (bnBlk (blk6 V c 0 t) (blk6 V c 1 t) (blk6 V c 2 t) (blk6 V c 3 t) (blk6 V c 4 t)) := by dsimp only [dat6]

theorem before6_0 (c : Dev nD) (t : Fin cfg6.N) (d) : (dat6 V c).before 0 t d = blk6 V c 0 t :=
  ((dat6 V c).before_in_eq_fetched 0 rfl (fun _ => rfl) (fun _ _ _ => rfl) (fun t => by rw [after6_0]; unfold Dat.blockOf blk6; rw [A_eq6]) t d).trans
    (by unfold Dat.fetched Dat.blockOf blk6; rw [A_eq6]; try rfl)
theorem before6_1 (c : Dev nD) (t : Fin cfg6.N) (d) : (dat6 V c).before 1 t d = blk6 V c 1 t :=
  ((dat6 V c).before_in_eq_fetched 1 rfl (fun _ => rfl) (fun _ _ _ => rfl) (fun t => by rw [after6_1]; unfold Dat.blockOf blk6; rw [A_eq6]) t d).trans
    (by unfold Dat.fetched Dat.blockOf blk6; rw [A_eq6]; try rfl)
theorem before6_2 (c : Dev nD) (t : Fin cfg6.N) (d) : (dat6 V c).before 2 t d = blk6 V c 2 t :=
  ((dat6 V c).before_in_eq_fetched 2 rfl (fun _ => rfl) (fun _ _ _ => rfl) (fun t => by rw [after6_2]; unfold Dat.blockOf blk6; rw [A_eq6]) t d).trans
    (by unfold Dat.fetched Dat.blockOf blk6; rw [A_eq6]; try rfl)
theorem before6_3 (c : Dev nD) (t : Fin cfg6.N) (d) : (dat6 V c).before 3 t d = blk6 V c 3 t :=
  ((dat6 V c).before_in_eq_fetched 3 rfl (fun _ => rfl) (fun _ _ _ => rfl) (fun t => by rw [after6_3]; unfold Dat.blockOf blk6; rw [A_eq6]) t d).trans
    (by unfold Dat.fetched Dat.blockOf blk6; rw [A_eq6]; try rfl)
theorem before6_4 (c : Dev nD) (t : Fin cfg6.N) (d) : (dat6 V c).before 4 t d = blk6 V c 4 t :=
  ((dat6 V c).before_in_eq_fetched 4 rfl (fun _ => rfl) (fun _ _ _ => rfl) (fun t => by rw [after6_4]; unfold Dat.blockOf blk6; rw [A_eq6]) t d).trans
    (by unfold Dat.fetched Dat.blockOf blk6; rw [A_eq6]; try rfl)

/-- The body at any point, from what the proof data say it finds to what they say it leaves. -/
theorem sound_body6 (c : Dev nD) (t : Fin cfg6.N) :
    iprop((dat6 V c).Φ t.castSucc ∗ (dat6 V c).owesAt () t.castSucc ∗ (∃ d, owns (c : Thread nD τ) (st6_0 t) fullShare ((dat6 V c).before 0 t d)) ∗ (∃ d, owns (c : Thread nD τ) (st6_1 t) fullShare ((dat6 V c).before 1 t d)) ∗ (∃ d, owns (c : Thread nD τ) (st6_2 t) fullShare ((dat6 V c).before 2 t d)) ∗ (∃ d, owns (c : Thread nD τ) (st6_3 t) fullShare ((dat6 V c).before 3 t d)) ∗ (∃ d, owns (c : Thread nD τ) (st6_4 t) fullShare ((dat6 V c).before 4 t d)) ∗ (∃ d, owns (c : Thread nD τ) (st6_5 t) fullShare ((dat6 V c).before 5 t d)))
      ⊢ wp frame (wpE (defs₀ (F := F)) Variants.none c none) Set.univ (bodyAt6 t)
        (fun _ => iprop((dat6 V c).Φ t.succ ∗ (dat6 V c).owesAt () t.succ ∗ owns (c : Thread nD τ) (st6_0 t) fullShare ((dat6 V c).after 0 t) ∗ owns (c : Thread nD τ) (st6_1 t) fullShare ((dat6 V c).after 1 t) ∗ owns (c : Thread nD τ) (st6_2 t) fullShare ((dat6 V c).after 2 t) ∗ owns (c : Thread nD τ) (st6_3 t) fullShare ((dat6 V c).after 3 t) ∗ owns (c : Thread nD τ) (st6_4 t) fullShare ((dat6 V c).after 4 t) ∗ owns (c : Thread nD τ) (st6_5 t) fullShare ((dat6 V c).after 5 t))) := by
  unfold bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    cc6_eq, after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (bn_run c Set.univ (grid6.coords t) _ _ _ _ _ _ _ _ _ _ _ _ (blk6 V c 0 t) (blk6 V c 1 t) (blk6 V c 2 t) (blk6 V c 3 t) (blk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_row6 (t : Fin cfg6.N) : defs₀ (F := F) .tc cfg6.body (cfg6.bodyArgs t (cfg6.slots t)) = bodyAt6 t := by
  unfold defs₀; rw [Defs.onTc_tc]

/-- The body meets the proof data at every grid point. -/
theorem body_obligation6 (c : Dev nD) : BodyObligation (dat6 (F := F) V c) (defs₀ (F := F)) Variants.none () Set.univ := fun t => by
  rw [bigSep_W6, bigSep_W6, body_row6]
  exact triple_restated (sound_body6 V c t) rfl .rfl fun _ => .rfl

end

end Cert.Gin

end
-- ==== Proof.Gin.Pool.lean ====
/-
  The pooling body, run at the first grid point and at a later one: the sums over each graph and the counts.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Mlp
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rIds : Rect S1x1x256 := Rect.unit (s := S1x1x256) ![0, 0, 0] S1x1x256.size inb_S1x1x256_S1x1x256_0_0_0
abbrev rCnts : Rect S256x128 := Rect.unit (s := S256x128) ![0, 0] S256x128.size inb_S256x128_S256x128_0_0

/-- One store of all the counts covers them. -/
theorem cover_cnt (p : Vec F S256x128 .f32) (y : S256x128.Idx) :
    ∃ pc ∈ ([⟨rCnts, p⟩] : List (View.Piece (Elt F) S256x128 .f32)), y ∈ pc.1.set :=
  View.cover_of_tiled [⟨rCnts, p⟩] S256x128.size (by rfl) y

/-- The sums over each graph after the block of rows `h`, with graph numbers `b`, when it is the first, -/
def poolFirst (h : Vec F S256x256 .f32) (b : Vec F S1x1x256 .i32) : Vec F S256x256 .f32 :=
  View.canon [⟨rBlk, k7_pay2 (View.ld b rIds) (View.ld h rBlk)⟩]
/-- and over the sums `s` before it when it is not. -/
def poolNext (h : Vec F S256x256 .f32) (b : Vec F S1x1x256 .i32) (s : Vec F S256x256 .f32) : Vec F S256x256 .f32 :=
  View.canon [⟨rBlk, k7_pay4 (View.ld b rIds) (View.ld h rBlk) (View.ld s rBlk)⟩]
/-- The counts after the first block, -/
def cntFirst (b : Vec F S1x1x256 .i32) : Vec F S256x128 .f32 := View.canon [⟨rCnts, k7_pay3 (View.ld b rIds)⟩]
/-- and after a later one. -/
def cntNext (b : Vec F S1x1x256 .i32) (s : Vec F S256x128 .f32) : Vec F S256x128 .f32 := View.canon [⟨rCnts, k7_pay5 (View.ld b rIds) (View.ld s rCnts)⟩]

/-- The sums over each graph after the block at position `n`. -/
def poolAt (h : ℕ → Vec F S256x256 .f32) (b : ℕ → Vec F S1x1x256 .i32) : ℕ → Vec F S256x256 .f32
  | 0 => poolFirst (h 0) (b 0)
  | n + 1 => poolNext (h (n + 1)) (b (n + 1)) (poolAt h b n)
/-- The counts after the block at position `n`. -/
def cntAt (b : ℕ → Vec F S1x1x256 .i32) : ℕ → Vec F S256x128 .f32
  | 0 => cntFirst (b 0)
  | n + 1 => cntNext (b (n + 1)) (cntAt b n)

set_option maxHeartbeats 1000000 in
/-- The body at the first grid point: it starts both results. -/
theorem pool_first (c : Dev nD) (E : Set ℕ) (i : grid7.Coords) (arg1 : Memref sig .tc .vmem S256x256 .f32) (harg1 : arg1.IsWhole) (arg2 : Memref sig .tc .vmem S1x1x256 .i32) (harg2 : arg2.IsWhole) (arg3 : Memref sig .tc .vmem S256x256 .f32) (harg3 : arg3.IsWhole) (arg4 : Memref sig .tc .vmem S256x128 .f32) (harg4 : arg4.IsWhole)
    (h0 : k7_cond1 i = 1#1) (h1 : ¬k7_cond2 i = 1#1)
    (x0 : Vec F S256x256 .f32) (x1 : Vec F S1x1x256 .i32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (poolFirst x0 x1) ∗ owns (c : Thread nD τ) arg4 fullShare (cntFirst x1)) -∗ K ⟨⟩))
      ⊢ wp frame (wpE (defs₀ (F := F)) Variants.none c none) E (cc7__pool_body i arg1 harg1 arg2 harg2 arg3 harg3 arg4 harg4) K := by
  simp only [cc7__pool_body_eq_skeleton]; unfold cc7__pool_body_skel
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact h0 | sl_exact h1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover_blk _)
  iexists _; isplitr
  swap; · iexact H3
  ipureintro; exact View.read_writes_eq_canon _ _ _ (cover_cnt _)

set_option maxHeartbeats 1000000 in
/-- The body at a later grid point: it adds to both results. -/
theorem pool_next (c : Dev nD) (E : Set ℕ) (i : grid7.Coords) (arg1 : Memref sig .tc .vmem S256x256 .f32) (harg1 : arg1.IsWhole) (arg2 : Memref sig .tc .vmem S1x1x256 .i32) (harg2 : arg2.IsWhole) (arg3 : Memref sig .tc .vmem S256x256 .f32) (harg3 : arg3.IsWhole) (arg4 : Memref sig .tc .vmem S256x128 .f32) (harg4 : arg4.IsWhole)
    (h0 : ¬k7_cond1 i = 1#1) (h1 : k7_cond2 i = 1#1)
    (x0 : Vec F S256x256 .f32) (x1 : Vec F S1x1x256 .i32) (s : Vec F S256x256 .f32)  (q : Vec F S256x128 .f32) (K : PUnit → sProp 𝕄) :
    iprop(owns (c : Thread nD τ) arg1 fullShare x0 ∗ owns (c : Thread nD τ) arg2 fullShare x1 ∗ owns (c : Thread nD τ) arg3 fullShare s ∗ owns (c : Thread nD τ) arg4 fullShare q
        ∗ (iprop(owns (c : Thread nD τ) arg1 fullShare x0 ∗ owns (c : Thread nD τ) arg2 fullShare x1 ∗ owns (c : Thread nD τ) arg3 fullShare (poolNext x0 x1 s) ∗ owns (c : Thread nD τ) arg4 fullShare (cntNext x1 q)) -∗ K ⟨⟩))
      ⊢ wp frame (wpE (defs₀ (F := F)) Variants.none c none) E (cc7__pool_body i arg1 harg1 arg2 harg2 arg3 harg3 arg4 harg4) K := by
  simp only [cc7__pool_body_eq_skeleton]; unfold cc7__pool_body_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | sl_exact h0 | sl_exact h1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover_blk _)
  iexists _; isplitr
  swap; · iexact H3
  ipureintro; exact View.read_writes_eq_canon _ _ _ (cover_cnt _)

end Cert.Gin

end
-- ==== Proof.Gin.Region7.lean ====
/-
  The pooling call: what each window's block holds around the body at every grid point.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Base
public import proofs.«01_k».proof.Proof.Gin.Pool
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

-- the buffers as the call finds them
variable (V : (c : Dev nD) → (b : Ref sig .tc) → Buf (Elt F) ((c : Thread nD τ).loc b))

/-- Window `w`'s block at point `t`, read off its array as the call finds it. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The rows and the graph numbers the call reads at its `n`-th point (nothing beyond the grid). -/
def rows7 (c : Dev nD) (n : ℕ) : Vec F S256x256 .f32 := if h : n < cfg7.N then blk7 V c 0 ⟨n, h⟩ else View.canon []
def ids7 (c : Dev nD) (n : ℕ) : Vec F S1x1x256 .i32 := if h : n < cfg7.N then blk7 V c 1 ⟨n, h⟩ else fun _ => (0#32 : BitVec 32)

theorem rows7_at (c : Dev nD) (t : Fin cfg7.N) : rows7 V c t.val = blk7 V c 0 t := dif_pos t.isLt
theorem ids7_at (c : Dev nD) (t : Fin cfg7.N) : ids7 V c t.val = blk7 V c 1 t := dif_pos t.isLt

/-- The call's proof data: what each buffer holds after the body at point `t`. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => poolAt (rows7 V c) (ids7 V c) t.val
    | ⟨3, _⟩ => cntAt (ids7 V c) t.val
  Φ _ := Pipeline.ΦA spec7 c
  q _ := fullShare
  owed _ := 0

theorem A_eq7 (c : Dev nD) (w : Fin cfg7.W) : (dat7 V c).A w = V c (Pipeline.arrRef spec7 w) := by dsimp only [dat7]

/-! What the body leaves in each buffer, and what it finds in the inputs'. -/

theorem after7_0 (c : Dev nD) (t : Fin cfg7.N) : (dat7 V c).after 0 t = blk7 V c 0 t := by dsimp only [dat7]
theorem after7_1 (c : Dev nD) (t : Fin cfg7.N) : (dat7 V c).after 1 t = blk7 V c 1 t := by dsimp only [dat7]
theorem after7_2 (c : Dev nD) (t : Fin cfg7.N) : (dat7 V c).after 2 t = poolAt (rows7 V c) (ids7 V c) t.val := by dsimp only [dat7]
theorem after7_3 (c : Dev nD) (t : Fin cfg7.N) : (dat7 V c).after 3 t = cntAt (ids7 V c) t.val := by dsimp only [dat7]

theorem before7_0 (c : Dev nD) (t : Fin cfg7.N) (d) : (dat7 V c).before 0 t d = blk7 V c 0 t :=
  ((dat7 V c).before_in_eq_fetched 0 rfl (fun _ => rfl) (fun _ _ _ => rfl) (fun t => by rw [after7_0]; unfold Dat.blockOf blk7; rw [A_eq7]) t d).trans
    (by unfold Dat.fetched Dat.blockOf blk7; rw [A_eq7]; try rfl)
theorem before7_1 (c : Dev nD) (t : Fin cfg7.N) (d) : (dat7 V c).before 1 t d = blk7 V c 1 t :=
  ((dat7 V c).before_in_eq_fetched 1 rfl (fun _ => rfl) (fun _ _ _ => rfl) (fun t => by rw [after7_1]; unfold Dat.blockOf blk7; rw [A_eq7]) t d).trans
    (by unfold Dat.fetched Dat.blockOf blk7; rw [A_eq7]; try rfl)

/-- The body's two branch conditions at a grid point: the first point only, and every later one. -/
theorem conds7 : ∀ t : Fin cfg7.N, (t.val = 0 → k7_cond1 (grid7.coords t) = 1#1 ∧ ¬k7_cond2 (grid7.coords t) = 1#1)
    ∧ (t.val ≠ 0 → ¬k7_cond1 (grid7.coords t) = 1#1 ∧ k7_cond2 (grid7.coords t) = 1#1) := by decide +kernel

/-- The sums' windows are used at every point. -/
theorem live7_2 : ∀ i : grid7.Coords, cfg7.idle 2 i = false := by decide +kernel
theorem live7_3 : ∀ i : grid7.Coords, cfg7.idle 3 i = false := by decide +kernel

/-- The sums' buffers are written back after the last point only. -/
theorem keep7_2 (t : Fin cfg7.N) (h : t.val ≠ 0) : (cfg7.win 2).flush ⟨t.val - 1, (Nat.sub_le _ _).trans_lt t.isLt⟩ = false :=
  (Bool.not_eq_true _).mp fun e => by
    have h1 := t.isLt; have h2 : cfg7.N = 40 := N_7; have h3 := (flush7_2 _).mp e; dsimp only at h3; omega
theorem keep7_3 (t : Fin cfg7.N) (h : t.val ≠ 0) : (cfg7.win 3).flush ⟨t.val - 1, (Nat.sub_le _ _).trans_lt t.isLt⟩ = false :=
  (Bool.not_eq_true _).mp fun e => by
    have h1 := t.isLt; have h2 : cfg7.N = 40 := N_7; have h3 := (flush7_3 _).mp e; dsimp only at h3; omega

theorem before7_2 (c : Dev nD) (t : Fin cfg7.N) (h : t.val ≠ 0) (d) : (dat7 V c).before 2 t d = poolAt (rows7 V c) (ids7 V c) (t.val - 1) :=
  ((dat7 V c).before_out_kept 2 rfl t h (keep7_2 t h) live7_2 (fun _ _ => rfl) d).trans (after7_2 V c _)
theorem before7_3 (c : Dev nD) (t : Fin cfg7.N) (h : t.val ≠ 0) (d) : (dat7 V c).before 3 t d = cntAt (ids7 V c) (t.val - 1) :=
  ((dat7 V c).before_out_kept 3 rfl t h (keep7_3 t h) live7_3 (fun _ _ => rfl) d).trans (after7_3 V c _)

set_option maxHeartbeats 1000000 in
/-- The body at any point, from what the proof data say it finds to what they say it leaves. -/
theorem sound_body7 (c : Dev nD) (t : Fin cfg7.N) :
    iprop((dat7 V c).Φ t.castSucc ∗ (dat7 V c).owesAt () t.castSucc ∗ (∃ d, owns (c : Thread nD τ) (st7_0 t) fullShare ((dat7 V c).before 0 t d)) ∗ (∃ d, owns (c : Thread nD τ) (st7_1 t) fullShare ((dat7 V c).before 1 t d)) ∗ (∃ d, owns (c : Thread nD τ) (st7_2 t) fullShare ((dat7 V c).before 2 t d)) ∗ (∃ d, owns (c : Thread nD τ) (st7_3 t) fullShare ((dat7 V c).before 3 t d)))
      ⊢ wp frame (wpE (defs₀ (F := F)) Variants.none c none) Set.univ (bodyAt7 t)
        (fun _ => iprop((dat7 V c).Φ t.succ ∗ (dat7 V c).owesAt () t.succ ∗ (dat7 V c).leavesExact 0 t ∗ (dat7 V c).leavesExact 1 t ∗ (dat7 V c).leavesExact 2 t ∗ (dat7 V c).leavesExact 3 t)) := by
  unfold bodyAt7
  simp only [before7_0, before7_1]
  rw [show (dat7 V c).Φ t.succ = (dat7 V c).Φ t.castSucc from rfl,
    show (dat7 V c).owesAt () t.succ = (dat7 V c).owesAt () t.castSucc from rfl,
    leaves_live (dat7 V c) 0 t rfl, after7_0, leaves_live (dat7 V c) 1 t rfl, after7_1, leaves_live (dat7 V c) 2 t (live7_2 (grid7.coords t)), after7_2, leaves_live (dat7 V c) 3 t (live7_3 (grid7.coords t)), after7_3]
  have hrow := rows7_at V c t
  have hid := ids7_at V c t
  have h7 := conds7 t
  have hb2 := before7_2 V c t
  have hb3 := before7_3 V c t
  generalize t.val = n at hrow hid h7 hb2 hb3 ⊢
  rcases Nat.eq_zero_or_pos n with rfl | hn
  · rw [show poolAt (rows7 V c) (ids7 V c) 0 = poolFirst (blk7 V c 0 t) (blk7 V c 1 t) by rw [← hrow, ← hid]; rfl,
      show cntAt (ids7 V c) 0 = cntFirst (blk7 V c 1 t) by rw [← hid]; rfl]
    iintro ⟨HΦ, Ho, ⟨%d0, H0⟩, ⟨%d1, H1⟩, ⟨%d2, H2⟩, ⟨%d3, H3⟩⟩
    iapply (pool_first c Set.univ (grid7.coords t) _ _ _ _ _ _ _ _ (h7.1 rfl).1 (h7.1 rfl).2 (blk7 V c 0 t) (blk7 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · obtain ⟨k, rfl⟩ : ∃ k, n = k + 1 := ⟨n - 1, by omega⟩
    simp only [hb2 (Nat.succ_ne_zero k), hb3 (Nat.succ_ne_zero k), Nat.add_sub_cancel]
    rw [show poolAt (rows7 V c) (ids7 V c) (k + 1) = poolNext (blk7 V c 0 t) (blk7 V c 1 t) (poolAt (rows7 V c) (ids7 V c) k) by rw [← hrow, ← hid]; rfl,
      show cntAt (ids7 V c) (k + 1) = cntNext (blk7 V c 1 t) (cntAt (ids7 V c) k) by rw [← hid]; rfl]
    iintro ⟨HΦ, Ho, ⟨%d0, H0⟩, ⟨%d1, H1⟩, ⟨%d2, H2⟩, ⟨%d3, H3⟩⟩
    iapply (pool_next c Set.univ (grid7.coords t) _ _ _ _ _ _ _ _ (h7.2 (Nat.succ_ne_zero k)).1 (h7.2 (Nat.succ_ne_zero k)).2 (blk7 V c 0 t) (blk7 V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem body_row7 (t : Fin cfg7.N) : defs₀ (F := F) .tc cfg7.body (cfg7.bodyArgs t (cfg7.slots t)) = bodyAt7 t := by
  unfold defs₀; rw [Defs.onTc_tc]

/-- The body meets the proof data at every grid point. -/
theorem body_obligation7 (c : Dev nD) : BodyObligation (dat7 (F := F) V c) (defs₀ (F := F)) Variants.none () Set.univ := fun t => by
  rw [bigSep_W7, bigSep_W7, body_row7]
  exact triple_restated (sound_body7 V c t) rfl .rfl fun _ => .rfl

end

end Cert.Gin

end
-- ==== Proof.Gin.Region8.lean ====
/-
  The last call: what each window's block holds around the body.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Base
public import proofs.«01_k».proof.Proof.Gin.Blocks
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

-- the buffers as the call finds them
variable (V : (c : Dev nD) → (b : Ref sig .tc) → Buf (Elt F) ((c : Thread nD τ).loc b))

/-- Window `w`'s block at point `t`, read off its array as the call finds it. -/
def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The call's proof data: what each buffer holds after the body at point `t`. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => blk8 V c 2 t
    | ⟨3, _⟩ => blk8 V c 3 t
    | ⟨4, _⟩ => stored (lastBlk (blk8 V c 0 t) (blk8 V c 1 t) (blk8 V c 2 t) (blk8 V c 3 t))
  Φ _ := Pipeline.ΦA spec8 c
  q _ := fullShare
  owed _ := 0

theorem A_eq8 (c : Dev nD) (w : Fin cfg8.W) : (dat8 V c).A w = V c (Pipeline.arrRef spec8 w) := by dsimp only [dat8]

/-! What the body leaves in each buffer, and what it finds in the inputs'. -/

theorem after8_0 (c : Dev nD) (t : Fin cfg8.N) : (dat8 V c).after 0 t = blk8 V c 0 t := by dsimp only [dat8]
theorem after8_1 (c : Dev nD) (t : Fin cfg8.N) : (dat8 V c).after 1 t = blk8 V c 1 t := by dsimp only [dat8]
theorem after8_2 (c : Dev nD) (t : Fin cfg8.N) : (dat8 V c).after 2 t = blk8 V c 2 t := by dsimp only [dat8]
theorem after8_3 (c : Dev nD) (t : Fin cfg8.N) : (dat8 V c).after 3 t = blk8 V c 3 t := by dsimp only [dat8]
theorem after8_4 (c : Dev nD) (t : Fin cfg8.N) : (dat8 V c).after 4 t = stored (lastBlk (blk8 V c 0 t) (blk8 V c 1 t) (blk8 V c 2 t) (blk8 V c 3 t)) := by dsimp only [dat8]

theorem before8_0 (c : Dev nD) (t : Fin cfg8.N) (d) : (dat8 V c).before 0 t d = blk8 V c 0 t :=
  ((dat8 V c).before_in_eq_fetched 0 rfl (fun _ => rfl) (fun _ _ _ => rfl) (fun t => by rw [after8_0]; unfold Dat.blockOf blk8; rw [A_eq8]) t d).trans
    (by unfold Dat.fetched Dat.blockOf blk8; rw [A_eq8]; try rfl)
theorem before8_1 (c : Dev nD) (t : Fin cfg8.N) (d) : (dat8 V c).before 1 t d = blk8 V c 1 t :=
  ((dat8 V c).before_in_eq_fetched 1 rfl (fun _ => rfl) (fun _ _ _ => rfl) (fun t => by rw [after8_1]; unfold Dat.blockOf blk8; rw [A_eq8]) t d).trans
    (by unfold Dat.fetched Dat.blockOf blk8; rw [A_eq8]; try rfl)
theorem before8_2 (c : Dev nD) (t : Fin cfg8.N) (d) : (dat8 V c).before 2 t d = blk8 V c 2 t :=
  ((dat8 V c).before_in_eq_fetched 2 rfl (fun _ => rfl) (fun _ _ _ => rfl) (fun t => by rw [after8_2]; unfold Dat.blockOf blk8; rw [A_eq8]) t d).trans
    (by unfold Dat.fetched Dat.blockOf blk8; rw [A_eq8]; try rfl)
theorem before8_3 (c : Dev nD) (t : Fin cfg8.N) (d) : (dat8 V c).before 3 t d = blk8 V c 3 t :=
  ((dat8 V c).before_in_eq_fetched 3 rfl (fun _ => rfl) (fun _ _ _ => rfl) (fun t => by rw [after8_3]; unfold Dat.blockOf blk8; rw [A_eq8]) t d).trans
    (by unfold Dat.fetched Dat.blockOf blk8; rw [A_eq8]; try rfl)

/-- The body at any point, from what the proof data say it finds to what they say it leaves. -/
theorem sound_body8 (c : Dev nD) (t : Fin cfg8.N) :
    iprop((dat8 V c).Φ t.castSucc ∗ (dat8 V c).owesAt () t.castSucc ∗ (∃ d, owns (c : Thread nD τ) (st8_0 t) fullShare ((dat8 V c).before 0 t d)) ∗ (∃ d, owns (c : Thread nD τ) (st8_1 t) fullShare ((dat8 V c).before 1 t d)) ∗ (∃ d, owns (c : Thread nD τ) (st8_2 t) fullShare ((dat8 V c).before 2 t d)) ∗ (∃ d, owns (c : Thread nD τ) (st8_3 t) fullShare ((dat8 V c).before 3 t d)) ∗ (∃ d, owns (c : Thread nD τ) (st8_4 t) fullShare ((dat8 V c).before 4 t d)))
      ⊢ wp frame (wpE (defs₀ (F := F)) Variants.none c none) Set.univ (bodyAt8 t)
        (fun _ => iprop((dat8 V c).Φ t.succ ∗ (dat8 V c).owesAt () t.succ ∗ owns (c : Thread nD τ) (st8_0 t) fullShare ((dat8 V c).after 0 t) ∗ owns (c : Thread nD τ) (st8_1 t) fullShare ((dat8 V c).after 1 t) ∗ owns (c : Thread nD τ) (st8_2 t) fullShare ((dat8 V c).after 2 t) ∗ owns (c : Thread nD τ) (st8_3 t) fullShare ((dat8 V c).after 3 t) ∗ owns (c : Thread nD τ) (st8_4 t) fullShare ((dat8 V c).after 4 t))) := by
  unfold bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (last_run c Set.univ (grid8.coords t) _ _ _ _ _ _ _ _ _ _ (blk8 V c 0 t) (blk8 V c 1 t) (blk8 V c 2 t) (blk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_row8 (t : Fin cfg8.N) : defs₀ (F := F) .tc cfg8.body (cfg8.bodyArgs t (cfg8.slots t)) = bodyAt8 t := by
  unfold defs₀; rw [Defs.onTc_tc]

/-- The body meets the proof data at every grid point. -/
theorem body_obligation8 (c : Dev nD) : BodyObligation (dat8 (F := F) V c) (defs₀ (F := F)) Variants.none () Set.univ := fun t => by
  rw [bigSep_W8, bigSep_W8, body_row8]
  exact triple_restated (sound_body8 V c t) rfl .rfl fun _ => .rfl

end

end Cert.Gin

end
-- ==== Proof.Gin.Fold.lean ====
/-
  The buffers between the steps of the program, from the launch to the return, and the proof data of every call.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Hosts
public import proofs.«01_k».proof.Proof.Gin.Region0
public import proofs.«01_k».proof.Proof.Gin.Region1
public import proofs.«01_k».proof.Proof.Gin.Region2
public import proofs.«01_k».proof.Proof.Gin.Region3
public import proofs.«01_k».proof.Proof.Gin.Region4
public import proofs.«01_k».proof.Proof.Gin.Region5
public import proofs.«01_k».proof.Proof.Gin.Region6
public import proofs.«01_k».proof.Proof.Gin.Region7
public import proofs.«01_k».proof.Proof.Gin.Region8
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
theorem args0 (c : Dev nD) : ∀ a ∈ argRefs, W0 m ρ c (Proc.devRef .tc a) = m ((c : Thread nD τ).loc a) := fun _ _ => rfl

/-- After `hostOps0`. -/
abbrev W1 : Dev nD → Valuation τ sig (Elt F) := fun c => StableHlo.after hostOps0 (W0 m ρ c)
theorem keep_W1 (c : Dev nD) (r : Ref sig .tc) (h : r ∉ hostOps0_W) : W1 m ρ c (Proc.devRef .tc r) = W0 m ρ c (Proc.devRef .tc r) :=
  StableHlo.after_of_writes_sub hostOps0 _ hostOps0_writes h
theorem args1 (c : Dev nD) : ∀ a ∈ argRefs, W1 m ρ c (Proc.devRef .tc a) = m ((c : Thread nD τ).loc a) :=
  fun a ha => (keep_W1 m ρ c a (hostOps0_args a ha)).trans (args0 m ρ c a ha)

/-- What call 0 finds, and what it leaves. -/
abbrev V1 : (c : Dev nD) → (b : Ref sig .tc) → Buf (Elt F) ((c : Thread nD τ).loc b) := fun c b => W1 m ρ c b
def W2 (c : Dev nD) : Valuation τ sig (Elt F) := exitOf (dat0 (V1 m ρ) c) (W1 m ρ c)
theorem out_W2 (c : Dev nD) (w : Fin cfg0.W) :
    W2 m ρ c (Proc.devRef .tc (Pipeline.arrRef spec0 w)) = (dat0 (V1 m ρ) c).arrAt w cfg0.N := by
  unfold W2; exact exitOf_arr (dat0 (V1 m ρ) c) (W1 m ρ c) launch0.win.arr_inj w
theorem keep_W2 (c : Dev nD) (r : Ref sig .tc) (h : ∀ w : Fin cfg0.W, Pipeline.arrRef spec0 w = r → (cfg0.win w).isOut = false) :
    W2 m ρ c (Proc.devRef .tc r) = W1 m ρ c (Proc.devRef .tc r) := by
  unfold W2; exact exitOf_of (dat0 (V1 m ρ) c) (W1 m ρ c) launch0.win.arr_inj (A_eq0 (V1 m ρ) c) r h
theorem args2 (c : Dev nD) : ∀ a ∈ argRefs, W2 m ρ c (Proc.devRef .tc a) = m ((c : Thread nD τ).loc a) :=
  fun a ha => (keep_W2 m ρ c a ((ListAll.forall_mem_of_all_decide (by decide +kernel) :
    ∀ a ∈ argRefs, ∀ w : Fin cfg0.W, Pipeline.arrRef spec0 w = a → (cfg0.win w).isOut = false) a ha)).trans (args1 m ρ c a ha)

/-- After `hostOps1`. -/
abbrev W3 : Dev nD → Valuation τ sig (Elt F) := fun c => StableHlo.after hostOps1 (W2 m ρ c)
theorem keep_W3 (c : Dev nD) (r : Ref sig .tc) (h : r ∉ hostOps1_W) : W3 m ρ c (Proc.devRef .tc r) = W2 m ρ c (Proc.devRef .tc r) :=
  StableHlo.after_of_writes_sub hostOps1 _ hostOps1_writes h
theorem args3 (c : Dev nD) : ∀ a ∈ argRefs, W3 m ρ c (Proc.devRef .tc a) = m ((c : Thread nD τ).loc a) :=
  fun a ha => (keep_W3 m ρ c a (hostOps1_args a ha)).trans (args2 m ρ c a ha)

/-- What call 1 finds, and what it leaves. -/
abbrev V3 : (c : Dev nD) → (b : Ref sig .tc) → Buf (Elt F) ((c : Thread nD τ).loc b) := fun c b => W3 m ρ c b
def W4 (c : Dev nD) : Valuation τ sig (Elt F) := exitOf (dat1 (V3 m ρ) c) (W3 m ρ c)
theorem out_W4 (c : Dev nD) (w : Fin cfg1.W) :
    W4 m ρ c (Proc.devRef .tc (Pipeline.arrRef spec1 w)) = (dat1 (V3 m ρ) c).arrAt w cfg1.N := by
  unfold W4; exact exitOf_arr (dat1 (V3 m ρ) c) (W3 m ρ c) launch1.win.arr_inj w
theorem keep_W4 (c : Dev nD) (r : Ref sig .tc) (h : ∀ w : Fin cfg1.W, Pipeline.arrRef spec1 w = r → (cfg1.win w).isOut = false) :
    W4 m ρ c (Proc.devRef .tc r) = W3 m ρ c (Proc.devRef .tc r) := by
  unfold W4; exact exitOf_of (dat1 (V3 m ρ) c) (W3 m ρ c) launch1.win.arr_inj (A_eq1 (V3 m ρ) c) r h
theorem args4 (c : Dev nD) : ∀ a ∈ argRefs, W4 m ρ c (Proc.devRef .tc a) = m ((c : Thread nD τ).loc a) :=
  fun a ha => (keep_W4 m ρ c a ((ListAll.forall_mem_of_all_decide (by decide +kernel) :
    ∀ a ∈ argRefs, ∀ w : Fin cfg1.W, Pipeline.arrRef spec1 w = a → (cfg1.win w).isOut = false) a ha)).trans (args3 m ρ c a ha)

/-- After `hostOps2`. -/
abbrev W5 : Dev nD → Valuation τ sig (Elt F) := fun c => StableHlo.after hostOps2 (W4 m ρ c)
theorem keep_W5 (c : Dev nD) (r : Ref sig .tc) (h : r ∉ hostOps2_W) : W5 m ρ c (Proc.devRef .tc r) = W4 m ρ c (Proc.devRef .tc r) :=
  StableHlo.after_of_writes_sub hostOps2 _ hostOps2_writes h
theorem args5 (c : Dev nD) : ∀ a ∈ argRefs, W5 m ρ c (Proc.devRef .tc a) = m ((c : Thread nD τ).loc a) :=
  fun a ha => (keep_W5 m ρ c a (hostOps2_args a ha)).trans (args4 m ρ c a ha)

/-- What call 2 finds, and what it leaves. -/
abbrev V5 : (c : Dev nD) → (b : Ref sig .tc) → Buf (Elt F) ((c : Thread nD τ).loc b) := fun c b => W5 m ρ c b
def W6 (c : Dev nD) : Valuation τ sig (Elt F) := exitOf (dat2 (V5 m ρ) c) (W5 m ρ c)
theorem out_W6 (c : Dev nD) (w : Fin cfg2.W) :
    W6 m ρ c (Proc.devRef .tc (Pipeline.arrRef spec2 w)) = (dat2 (V5 m ρ) c).arrAt w cfg2.N := by
  unfold W6; exact exitOf_arr (dat2 (V5 m ρ) c) (W5 m ρ c) launch2.win.arr_inj w
theorem keep_W6 (c : Dev nD) (r : Ref sig .tc) (h : ∀ w : Fin cfg2.W, Pipeline.arrRef spec2 w = r → (cfg2.win w).isOut = false) :
    W6 m ρ c (Proc.devRef .tc r) = W5 m ρ c (Proc.devRef .tc r) := by
  unfold W6; exact exitOf_of (dat2 (V5 m ρ) c) (W5 m ρ c) launch2.win.arr_inj (A_eq2 (V5 m ρ) c) r h
theorem args6 (c : Dev nD) : ∀ a ∈ argRefs, W6 m ρ c (Proc.devRef .tc a) = m ((c : Thread nD τ).loc a) :=
  fun a ha => (keep_W6 m ρ c a ((ListAll.forall_mem_of_all_decide (by decide +kernel) :
    ∀ a ∈ argRefs, ∀ w : Fin cfg2.W, Pipeline.arrRef spec2 w = a → (cfg2.win w).isOut = false) a ha)).trans (args5 m ρ c a ha)

/-- After `hostOps3`. -/
abbrev W7 : Dev nD → Valuation τ sig (Elt F) := fun c => StableHlo.after hostOps3 (W6 m ρ c)
theorem keep_W7 (c : Dev nD) (r : Ref sig .tc) (h : r ∉ hostOps3_W) : W7 m ρ c (Proc.devRef .tc r) = W6 m ρ c (Proc.devRef .tc r) :=
  StableHlo.after_of_writes_sub hostOps3 _ hostOps3_writes h
theorem args7 (c : Dev nD) : ∀ a ∈ argRefs, W7 m ρ c (Proc.devRef .tc a) = m ((c : Thread nD τ).loc a) :=
  fun a ha => (keep_W7 m ρ c a (hostOps3_args a ha)).trans (args6 m ρ c a ha)

/-- What call 3 finds, and what it leaves. -/
abbrev V7 : (c : Dev nD) → (b : Ref sig .tc) → Buf (Elt F) ((c : Thread nD τ).loc b) := fun c b => W7 m ρ c b
def W8 (c : Dev nD) : Valuation τ sig (Elt F) := exitOf (dat3 (V7 m ρ) c) (W7 m ρ c)
theorem out_W8 (c : Dev nD) (w : Fin cfg3.W) :
    W8 m ρ c (Proc.devRef .tc (Pipeline.arrRef spec3 w)) = (dat3 (V7 m ρ) c).arrAt w cfg3.N := by
  unfold W8; exact exitOf_arr (dat3 (V7 m ρ) c) (W7 m ρ c) launch3.win.arr_inj w
theorem keep_W8 (c : Dev nD) (r : Ref sig .tc) (h : ∀ w : Fin cfg3.W, Pipeline.arrRef spec3 w = r → (cfg3.win w).isOut = false) :
    W8 m ρ c (Proc.devRef .tc r) = W7 m ρ c (Proc.devRef .tc r) := by
  unfold W8; exact exitOf_of (dat3 (V7 m ρ) c) (W7 m ρ c) launch3.win.arr_inj (A_eq3 (V7 m ρ) c) r h
theorem args8 (c : Dev nD) : ∀ a ∈ argRefs, W8 m ρ c (Proc.devRef .tc a) = m ((c : Thread nD τ).loc a) :=
  fun a ha => (keep_W8 m ρ c a ((ListAll.forall_mem_of_all_decide (by decide +kernel) :
    ∀ a ∈ argRefs, ∀ w : Fin cfg3.W, Pipeline.arrRef spec3 w = a → (cfg3.win w).isOut = false) a ha)).trans (args7 m ρ c a ha)

/-- After `hostOps4`. -/
abbrev W9 : Dev nD → Valuation τ sig (Elt F) := fun c => StableHlo.after hostOps4 (W8 m ρ c)
theorem keep_W9 (c : Dev nD) (r : Ref sig .tc) (h : r ∉ hostOps4_W) : W9 m ρ c (Proc.devRef .tc r) = W8 m ρ c (Proc.devRef .tc r) :=
  StableHlo.after_of_writes_sub hostOps4 _ hostOps4_writes h
theorem args9 (c : Dev nD) : ∀ a ∈ argRefs, W9 m ρ c (Proc.devRef .tc a) = m ((c : Thread nD τ).loc a) :=
  fun a ha => (keep_W9 m ρ c a (hostOps4_args a ha)).trans (args8 m ρ c a ha)

/-- What call 4 finds, and what it leaves. -/
abbrev V9 : (c : Dev nD) → (b : Ref sig .tc) → Buf (Elt F) ((c : Thread nD τ).loc b) := fun c b => W9 m ρ c b
def W10 (c : Dev nD) : Valuation τ sig (Elt F) := exitOf (dat4 (V9 m ρ) c) (W9 m ρ c)
theorem out_W10 (c : Dev nD) (w : Fin cfg4.W) :
    W10 m ρ c (Proc.devRef .tc (Pipeline.arrRef spec4 w)) = (dat4 (V9 m ρ) c).arrAt w cfg4.N := by
  unfold W10; exact exitOf_arr (dat4 (V9 m ρ) c) (W9 m ρ c) launch4.win.arr_inj w
theorem keep_W10 (c : Dev nD) (r : Ref sig .tc) (h : ∀ w : Fin cfg4.W, Pipeline.arrRef spec4 w = r → (cfg4.win w).isOut = false) :
    W10 m ρ c (Proc.devRef .tc r) = W9 m ρ c (Proc.devRef .tc r) := by
  unfold W10; exact exitOf_of (dat4 (V9 m ρ) c) (W9 m ρ c) launch4.win.arr_inj (A_eq4 (V9 m ρ) c) r h
theorem args10 (c : Dev nD) : ∀ a ∈ argRefs, W10 m ρ c (Proc.devRef .tc a) = m ((c : Thread nD τ).loc a) :=
  fun a ha => (keep_W10 m ρ c a ((ListAll.forall_mem_of_all_decide (by decide +kernel) :
    ∀ a ∈ argRefs, ∀ w : Fin cfg4.W, Pipeline.arrRef spec4 w = a → (cfg4.win w).isOut = false) a ha)).trans (args9 m ρ c a ha)

/-- After `hostOps5`. -/
abbrev W11 : Dev nD → Valuation τ sig (Elt F) := fun c => StableHlo.after hostOps5 (W10 m ρ c)
theorem keep_W11 (c : Dev nD) (r : Ref sig .tc) (h : r ∉ hostOps5_W) : W11 m ρ c (Proc.devRef .tc r) = W10 m ρ c (Proc.devRef .tc r) :=
  StableHlo.after_of_writes_sub hostOps5 _ hostOps5_writes h
theorem args11 (c : Dev nD) : ∀ a ∈ argRefs, W11 m ρ c (Proc.devRef .tc a) = m ((c : Thread nD τ).loc a) :=
  fun a ha => (keep_W11 m ρ c a (hostOps5_args a ha)).trans (args10 m ρ c a ha)

/-- What call 5 finds, and what it leaves. -/
abbrev V11 : (c : Dev nD) → (b : Ref sig .tc) → Buf (Elt F) ((c : Thread nD τ).loc b) := fun c b => W11 m ρ c b
def W12 (c : Dev nD) : Valuation τ sig (Elt F) := exitOf (dat5 (V11 m ρ) c) (W11 m ρ c)
theorem out_W12 (c : Dev nD) (w : Fin cfg5.W) :
    W12 m ρ c (Proc.devRef .tc (Pipeline.arrRef spec5 w)) = (dat5 (V11 m ρ) c).arrAt w cfg5.N := by
  unfold W12; exact exitOf_arr (dat5 (V11 m ρ) c) (W11 m ρ c) launch5.win.arr_inj w
theorem keep_W12 (c : Dev nD) (r : Ref sig .tc) (h : ∀ w : Fin cfg5.W, Pipeline.arrRef spec5 w = r → (cfg5.win w).isOut = false) :
    W12 m ρ c (Proc.devRef .tc r) = W11 m ρ c (Proc.devRef .tc r) := by
  unfold W12; exact exitOf_of (dat5 (V11 m ρ) c) (W11 m ρ c) launch5.win.arr_inj (A_eq5 (V11 m ρ) c) r h
theorem args12 (c : Dev nD) : ∀ a ∈ argRefs, W12 m ρ c (Proc.devRef .tc a) = m ((c : Thread nD τ).loc a) :=
  fun a ha => (keep_W12 m ρ c a ((ListAll.forall_mem_of_all_decide (by decide +kernel) :
    ∀ a ∈ argRefs, ∀ w : Fin cfg5.W, Pipeline.arrRef spec5 w = a → (cfg5.win w).isOut = false) a ha)).trans (args11 m ρ c a ha)

/-- After `hostOps6`. -/
abbrev W13 : Dev nD → Valuation τ sig (Elt F) := fun c => StableHlo.after hostOps6 (W12 m ρ c)
theorem keep_W13 (c : Dev nD) (r : Ref sig .tc) (h : r ∉ hostOps6_W) : W13 m ρ c (Proc.devRef .tc r) = W12 m ρ c (Proc.devRef .tc r) :=
  StableHlo.after_of_writes_sub hostOps6 _ hostOps6_writes h
theorem args13 (c : Dev nD) : ∀ a ∈ argRefs, W13 m ρ c (Proc.devRef .tc a) = m ((c : Thread nD τ).loc a) :=
  fun a ha => (keep_W13 m ρ c a (hostOps6_args a ha)).trans (args12 m ρ c a ha)

/-- What call 6 finds, and what it leaves. -/
abbrev V13 : (c : Dev nD) → (b : Ref sig .tc) → Buf (Elt F) ((c : Thread nD τ).loc b) := fun c b => W13 m ρ c b
def W14 (c : Dev nD) : Valuation τ sig (Elt F) := exitOf (dat6 (V13 m ρ) c) (W13 m ρ c)
theorem out_W14 (c : Dev nD) (w : Fin cfg6.W) :
    W14 m ρ c (Proc.devRef .tc (Pipeline.arrRef spec6 w)) = (dat6 (V13 m ρ) c).arrAt w cfg6.N := by
  unfold W14; exact exitOf_arr (dat6 (V13 m ρ) c) (W13 m ρ c) launch6.win.arr_inj w
theorem keep_W14 (c : Dev nD) (r : Ref sig .tc) (h : ∀ w : Fin cfg6.W, Pipeline.arrRef spec6 w = r → (cfg6.win w).isOut = false) :
    W14 m ρ c (Proc.devRef .tc r) = W13 m ρ c (Proc.devRef .tc r) := by
  unfold W14; exact exitOf_of (dat6 (V13 m ρ) c) (W13 m ρ c) launch6.win.arr_inj (A_eq6 (V13 m ρ) c) r h
theorem args14 (c : Dev nD) : ∀ a ∈ argRefs, W14 m ρ c (Proc.devRef .tc a) = m ((c : Thread nD τ).loc a) :=
  fun a ha => (keep_W14 m ρ c a ((ListAll.forall_mem_of_all_decide (by decide +kernel) :
    ∀ a ∈ argRefs, ∀ w : Fin cfg6.W, Pipeline.arrRef spec6 w = a → (cfg6.win w).isOut = false) a ha)).trans (args13 m ρ c a ha)

/-- What call 7 finds, and what it leaves. -/
abbrev V14 : (c : Dev nD) → (b : Ref sig .tc) → Buf (Elt F) ((c : Thread nD τ).loc b) := fun c b => W14 m ρ c b
def W15 (c : Dev nD) : Valuation τ sig (Elt F) := exitOf (dat7 (V14 m ρ) c) (W14 m ρ c)
theorem out_W15 (c : Dev nD) (w : Fin cfg7.W) :
    W15 m ρ c (Proc.devRef .tc (Pipeline.arrRef spec7 w)) = (dat7 (V14 m ρ) c).arrAt w cfg7.N := by
  unfold W15; exact exitOf_arr (dat7 (V14 m ρ) c) (W14 m ρ c) launch7.win.arr_inj w
theorem keep_W15 (c : Dev nD) (r : Ref sig .tc) (h : ∀ w : Fin cfg7.W, Pipeline.arrRef spec7 w = r → (cfg7.win w).isOut = false) :
    W15 m ρ c (Proc.devRef .tc r) = W14 m ρ c (Proc.devRef .tc r) := by
  unfold W15; exact exitOf_of (dat7 (V14 m ρ) c) (W14 m ρ c) launch7.win.arr_inj (A_eq7 (V14 m ρ) c) r h
theorem args15 (c : Dev nD) : ∀ a ∈ argRefs, W15 m ρ c (Proc.devRef .tc a) = m ((c : Thread nD τ).loc a) :=
  fun a ha => (keep_W15 m ρ c a ((ListAll.forall_mem_of_all_decide (by decide +kernel) :
    ∀ a ∈ argRefs, ∀ w : Fin cfg7.W, Pipeline.arrRef spec7 w = a → (cfg7.win w).isOut = false) a ha)).trans (args14 m ρ c a ha)

/-- What call 8 finds, and what it leaves. -/
abbrev V15 : (c : Dev nD) → (b : Ref sig .tc) → Buf (Elt F) ((c : Thread nD τ).loc b) := fun c b => W15 m ρ c b
def W16 (c : Dev nD) : Valuation τ sig (Elt F) := exitOf (dat8 (V15 m ρ) c) (W15 m ρ c)
theorem out_W16 (c : Dev nD) (w : Fin cfg8.W) :
    W16 m ρ c (Proc.devRef .tc (Pipeline.arrRef spec8 w)) = (dat8 (V15 m ρ) c).arrAt w cfg8.N := by
  unfold W16; exact exitOf_arr (dat8 (V15 m ρ) c) (W15 m ρ c) launch8.win.arr_inj w
theorem keep_W16 (c : Dev nD) (r : Ref sig .tc) (h : ∀ w : Fin cfg8.W, Pipeline.arrRef spec8 w = r → (cfg8.win w).isOut = false) :
    W16 m ρ c (Proc.devRef .tc r) = W15 m ρ c (Proc.devRef .tc r) := by
  unfold W16; exact exitOf_of (dat8 (V15 m ρ) c) (W15 m ρ c) launch8.win.arr_inj (A_eq8 (V15 m ρ) c) r h
theorem args16 (c : Dev nD) : ∀ a ∈ argRefs, W16 m ρ c (Proc.devRef .tc a) = m ((c : Thread nD τ).loc a) :=
  fun a ha => (keep_W16 m ρ c a ((ListAll.forall_mem_of_all_decide (by decide +kernel) :
    ∀ a ∈ argRefs, ∀ w : Fin cfg8.W, Pipeline.arrRef spec8 w = a → (cfg8.win w).isOut = false) a ha)).trans (args15 m ρ c a ha)

/-- Every call's proof data, each at what the call finds. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V14 m ρ) c
  | ⟨8, _⟩ => fun c => dat8 (V15 m ρ) c

end Cert.Gin

end
-- ==== Proof.Gin.Run.lean ====
/-
  The launch: every execution of the program ends, with every buffer as the last step leaves it.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gin.Fold
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The record of each call. -/

set_option backward.isDefEq.respectTransparency.types false

def reg0 : Pipeline.RegionSeg (pcfgs (F := F)) adm (pdats m ρ) () defs₀ 𝒱₀ L lv 0 :=
  regOf 0 launch0 (pdats m ρ) (W1 m ρ) (fun c w => A_eq0 (V1 m ρ) c w) (fun _ _ => rfl) (fun _ _ => rfl) (fun _ _ => rfl)
    (fun _ _ => rfl) (body_obligation0 (V1 m ρ))

def reg1 : Pipeline.RegionSeg (pcfgs (F := F)) adm (pdats m ρ) () defs₀ 𝒱₀ L lv 1 :=
  regOf 1 launch1 (pdats m ρ) (W3 m ρ) (fun c w => A_eq1 (V3 m ρ) c w) (fun _ _ => rfl) (fun _ _ => rfl) (fun _ _ => rfl)
    (fun _ _ => rfl) (body_obligation1 (V3 m ρ))

def reg2 : Pipeline.RegionSeg (pcfgs (F := F)) adm (pdats m ρ) () defs₀ 𝒱₀ L lv 2 :=
  regOf 2 launch2 (pdats m ρ) (W5 m ρ) (fun c w => A_eq2 (V5 m ρ) c w) (fun _ _ => rfl) (fun _ _ => rfl) (fun _ _ => rfl)
    (fun _ _ => rfl) (body_obligation2 (V5 m ρ))

def reg3 : Pipeline.RegionSeg (pcfgs (F := F)) adm (pdats m ρ) () defs₀ 𝒱₀ L lv 3 :=
  regOf 3 launch3 (pdats m ρ) (W7 m ρ) (fun c w => A_eq3 (V7 m ρ) c w) (fun _ _ => rfl) (fun _ _ => rfl) (fun _ _ => rfl)
    (fun _ _ => rfl) (body_obligation3 (V7 m ρ))

def reg4 : Pipeline.RegionSeg (pcfgs (F := F)) adm (pdats m ρ) () defs₀ 𝒱₀ L lv 4 :=
  regOf 4 launch4 (pdats m ρ) (W9 m ρ) (fun c w => A_eq4 (V9 m ρ) c w) (fun _ _ => rfl) (fun _ _ => rfl) (fun _ _ => rfl)
    (fun _ _ => rfl) (body_obligation4 (V9 m ρ))

def reg5 : Pipeline.RegionSeg (pcfgs (F := F)) adm (pdats m ρ) () defs₀ 𝒱₀ L lv 5 :=
  regOf 5 launch5 (pdats m ρ) (W11 m ρ) (fun c w => A_eq5 (V11 m ρ) c w) (fun _ _ => rfl) (fun _ _ => rfl) (fun _ _ => rfl)
    (fun _ _ => rfl) (body_obligation5 (V11 m ρ))

def reg6 : Pipeline.RegionSeg (pcfgs (F := F)) adm (pdats m ρ) () defs₀ 𝒱₀ L lv 6 :=
  regOf 6 launch6 (pdats m ρ) (W13 m ρ) (fun c w => A_eq6 (V13 m ρ) c w) (fun _ _ => rfl) (fun _ _ => rfl) (fun _ _ => rfl)
    (fun _ _ => rfl) (body_obligation6 (V13 m ρ))

def reg7 : Pipeline.RegionSeg (pcfgs (F := F)) adm (pdats m ρ) () defs₀ 𝒱₀ L lv 7 :=
  regOf 7 launch7 (pdats m ρ) (W14 m ρ) (fun c w => A_eq7 (V14 m ρ) c w) (fun _ _ => rfl) (fun _ _ => rfl) (fun _ _ => rfl)
    (fun _ _ => rfl) (body_obligation7 (V14 m ρ))

def reg8 : Pipeline.RegionSeg (pcfgs (F := F)) adm (pdats m ρ) () defs₀ 𝒱₀ L lv 8 :=
  regOf 8 launch8 (pdats m ρ) (W15 m ρ) (fun c w => A_eq8 (V15 m ρ) c w) (fun _ _ => rfl) (fun _ _ => rfl) (fun _ _ => rfl)
    (fun _ _ => rfl) (body_obligation8 (V15 m ρ))

/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A reference that is not scoped is among those held between steps. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What is held at the return. -/
abbrev Tₙ (c : Dev nD) : sProp 𝕄 := iprop(StableHlo.held (c : Thread nD τ) (Pipeline.ucRefs τ sig) (W16 m ρ c) ∗ ∃ r, prngReg c r)

theorem last_step (c : Dev nD) : iprop(StableHlo.held (c : Thread nD τ) (Pipeline.ucRefs τ sig) (W16 m ρ c) ∗ R c)
    ⊢ iprop(Tₙ m ρ c ∗ ∃ W, owes (c : Thread nD τ) (0 : CellTallies nD τ sig Unit) W) := by
  iintro ⟨Hh, Hp, HO⟩
  isplitr [HO]
  · isplitl [Hh] <;> iassumption
  iexact HO

/-- The program's steps in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .region (reg7 m ρ),
    .region (reg8 m ρ) ]
theorem main_run (c : Dev nD) : main (F := F) c = Pipeline.Seg.run (segs m ρ) := (main_chain c).trans (by chain_rfl)

theorem no_unscoped : ∀ sm : SemLoc sig, sm.isScoped .tc = true := by decide

/-- From any memory with zero counters every fair execution ends without a fault, with every buffer that outlives the
    calls at `W16` and every counter at zero. -/
theorem run_final : θ_run defs (onTc (τ := τ) (main (F := F))) ⟨m, fun _ => 0, ρ⟩ (fun r =>
    (∀ c : Dev nD, ∀ b ∈ Pipeline.ucRefs τ sig, r.2.mem (((c : Thread nD τ)).1, b) = W16 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_step m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => ⟨h, funext fun g => hz g (.inr (no_unscoped g.2))⟩)

end Cert.Gin

end
-- ==== Proof.Gin.Frames.lean ====
/-
  The frames: each program ends, leaves its arguments as they were, and leaves every counter at zero.
-/
module

public import proofs.«01_k».proof.Defs
public import proofs.«01_k».proof.Proof.Gen.Kernel
public import proofs.«01_k».proof.Proof.Gen.ReferenceIdeal.Run
public import proofs.«01_k».proof.Proof.Gin.Run
public import Idealize.ShloMosaic.Lib.Quiescent

@[expose] public section

set_option maxRecDepth 16384

noncomputable section

namespace Cert.Gin

open Cert.KernelIdeal Cert.KernelIdeal.Gen
open Idealize.ShloMosaic Idealize.ShloMosaic.TcCoe Idealize.ShloMosaic.Tactic Idealize.SL.Sem

variable {F : FTy → Type} [FloatOps F]

/-- The kernel ends, at any float type, with its arguments as they were and every counter at zero. -/
theorem kernel_kept (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run _ _ _).mono (fun r h =>
    have k : ∀ c : Dev nD, ∀ a ∈ argRefs, a.isScoped = false → r.2.mem ((c.tc : Thread nD τ).loc a) = m ((c.tc : Thread nD τ).loc a) :=
      fun c a ha hs => (h.1 c _ (mem_uc a (by simp [hs]))).trans (args16 m ρ c a ha)
    ⟨fun c => ⟨k c main_arg0 (by decide) rfl, k c main_arg1 (by decide) rfl, k c main_arg2 (by decide) rfl, k c main_arg3 (by decide) rfl, k c main_arg4 (by decide) rfl, k c main_arg5 (by decide) rfl, k c main_arg6 (by decide) rfl, k c main_arg7 (by decide) rfl, k c main_arg8 (by decide) rfl, k c main_arg9 (by decide) rfl, k c main_arg10 (by decide) rfl, k c main_arg11 (by decide) rfl, k c main_arg12 (by decide) rfl, k c main_arg13 (by decide) rfl⟩, h.2⟩)
    (run_final m ρ)

/-- The idealized kernel's frame, stated at the bit-exact floats. -/
def quiescent_bits : Prop :=
  ∀ (m : (ℓ : Loc nD τ sig) → Buf (Elt Bits) ℓ) (g : Dev nD → PrngReg), True →
    θ_run (Cert.KernelIdeal.defs (F := Bits)) (onTc (τ := τ) (Cert.KernelIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0)

/-- The kernel and the idealized kernel are one program at the bit-exact floats. -/
theorem quiescent_eq : @quiescent_Kernel Cert.Kernel.Gen.facts = quiescent_bits := by sl_kernel_rfl

/-- The kernel's frame. -/
theorem frame_kernel : @quiescent_Kernel Cert.Kernel.Gen.facts :=
  quiescent_eq.mpr fun m g _ => kernel_kept m g

/-- The idealized kernel's frame. -/
theorem frame_ideal : quiescent_KernelIdeal := fun m g _ => kernel_kept m g

/-- The reference's frame: it declares no counter, and writes no argument. -/
theorem frame_reference : @quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run m g)

end Cert.Gin

end
-- ==== Proof.Gin.Words.lean ====
/-
  Words and scalars of the ideal floats: the row mask, the one-hot entries, and the printed constants.
-/
module

public import Idealize.ShloMosaic.Lib.Pointwise

@[expose] public section

set_option maxRecDepth 16384

noncomputable section

namespace Cert.Gin

open Idealize.ShloMosaic Idealize.SL.Sem

/-- A comparison's bit, selecting. -/
theorem select_ofBool {α : Type} (p : Prop) [Decidable p] (b : BitVec 1) (hb : b = BitVec.ofBool (decide p)) (x y : α) :
    Scalar.select b x y = if p then x else y := by
  subst hb
  by_cases h : p <;> simp [Scalar.select, h]

/-- A small natural number as a signed word. -/
theorem toInt_ofNat (n : ℕ) (h : n < 2 ^ 31) : (BitVec.ofNat 32 n).toInt = n := by
  rw [BitVec.toInt_eq_toNat_cond, BitVec.toNat_ofNat, Nat.mod_eq_of_lt (by omega), if_pos (by omega)]

/-- The row mask: row `r` of block `i` is a node. -/
theorem mask_select {α : Type} (i r : ℕ) (hi : i < 40) (hr : r < 256) (x y : α) :
    Scalar.select (IntOp.cmpi .slt (IntOp.addi (Scalar.muli (BitVec.ofNat 32 i) 256#32) (BitVec.ofNat 32 r)) 10000#32) x y
      = if i * 256 + r < 10000 then x else y := by
  refine select_ofBool _ _ ?_ x y
  have e : IntOp.addi (Scalar.muli (BitVec.ofNat 32 i) 256#32) (BitVec.ofNat 32 r) = BitVec.ofNat 32 (i * 256 + r) := by
    apply BitVec.eq_of_toNat_eq
    simp [IntOp.addi, Scalar.muli, IntOp.muli]
  rw [e]
  show BitVec.ofBool (BitVec.slt _ _) = _
  congr 1
  rw [BitVec.slt, toInt_ofNat _ (by omega), show (10000#32 : BitVec 32).toInt = 10000 from rfl]
  simp only [decide_eq_decide]; omega

/-- A one-hot entry. -/
theorem onehot (n : ℕ) (w : BitVec 32) :
    (FloatOps.sitofp (F := Ideal) .f32 (BitVec.setWidth 32 (IntOp.cmpi .eq (BitVec.ofNat 32 n) w)) : EReal)
      = ((if w = BitVec.ofNat 32 n then (1 : ℝ) else 0 : ℝ) : EReal) := by
  by_cases h : w = BitVec.ofNat 32 n
  · subst h
    simp [IntOp.cmpi, FloatOps.sitofp]
  · have h' : ¬ BitVec.ofNat 32 n = w := fun e => h e.symm
    have h2 : (BitVec.ofNat 32 n == w) = false := by simpa using h'
    simp [IntOp.cmpi, FloatOps.sitofp, h, h2]

/-- The constant two. -/
theorem ofBits_two : Ideal.ofBits .f32 0x40000000#32 = ((2 : ℝ) : EReal) := by
  simp [Ideal.ofBits, Ideal.ieee, -EReal.coe_mul]; norm_num

/-- The number of nodes. -/
theorem ofBits_nodes : Ideal.ofBits .f32 0x461C4000#32 = ((10000 : ℝ) : EReal) := by
  simp [Ideal.ofBits, Ideal.ieee, -EReal.coe_mul]; norm_num

/-- The guard added to a variance. -/
def eps : ℝ := (Ideal.ofBits .f32 0x3727C5AC#32).toReal

theorem ofBits_eps_val : Ideal.ofBits .f32 0x3727C5AC#32 = ((10995116 / 2 ^ 40 : ℝ) : EReal) := by
  simp [Ideal.ofBits, Ideal.ieee, -EReal.coe_mul]; norm_num

theorem ofBits_eps : Ideal.ofBits .f32 0x3727C5AC#32 = (eps : EReal) := by
  rw [eps, ofBits_eps_val, EReal.toReal_coe]

theorem eps_pos : 0 < eps := by
  rw [eps, ofBits_eps_val, EReal.toReal_coe]; norm_num

/-- Division of reals by a real other than zero. -/
theorem div_coe (a b : ℝ) (hb : b ≠ 0) : Ideal.div (a : EReal) (b : EReal) = ((a / b : ℝ) : EReal) := by
  rw [Ideal.div_coe hb, ← EReal.coe_mul]; congr 1; ring

/-- The inverse square root of a positive real. -/
theorem rsqrt_coe (a : ℝ) (ha : 0 < a) : Ideal.rsqrt (a : EReal) = (((Real.sqrt a)⁻¹ : ℝ) : EReal) := by
  rw [Ideal.rsqrt_coe, if_neg (by linarith), if_neg (by linarith)]

theorem sqrt_coe (a : ℝ) (ha : 0 ≤ a) : Ideal.sqrt (a : EReal) = ((Real.sqrt a : ℝ) : EReal) := by
  show (if a < 0 then ⊥ else (Real.sqrt a : EReal)) = _
  rw [if_neg (by linarith)]

/-- A sum of reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

end Cert.Gin

end
-- ==== Proof.Gin.Spec.lean ====
/-
  The network over the reals: what both programs compute.
-/
module

public import proofs.«01_k».proof.Proof.Gin.Words

@[expose] public section

noncomputable section

namespace Cert.Gin

/-- The two-layer perceptron of one row, each layer followed by a rectifier. -/
def mlpR (W1 : Fin 256 → Fin 512 → ℝ) (b1 : Fin 512 → ℝ) (W2 : Fin 512 → Fin 256 → ℝ) (b2 : Fin 256 → ℝ) (u : Fin 256 → ℝ) (j : Fin 256) : ℝ :=
  max (∑ k, max (∑ l, u l * W1 l k + b1 k) 0 * W2 k j + b2 j) 0

/-- The mean of squares less the square of the mean, from a sum and a sum of squares over the nodes. -/
def varR (S Q : ℝ) : ℝ := Q / 10000 - S / 10000 * (S / 10000)

/-- One normalized entry, from the sum and the sum of squares of its column. -/
def bnR (S Q g b z : ℝ) : ℝ :=
  z * (g * (Real.sqrt (varR S Q + eps))⁻¹) + (b - S / 10000 * (g * (Real.sqrt (varR S Q + eps))⁻¹))

/-- The real content of the arguments. -/
structure Net where
  /-- the categories of each node -/
  x : Fin 10000 → Fin 9 → Fin 64
  /-- the edges' sources -/
  src : Fin 160000 → Fin 10000
  /-- and the words of their destinations, which may name no node -/
  dst : Fin 160000 → BitVec 32
  /-- the word of each node's graph, which may name none -/
  batch : Fin 10000 → BitVec 32
  emb : Fin 9 → Fin 64 → Fin 256 → ℝ
  W1 : Fin 3 → Fin 256 → Fin 512 → ℝ
  b1 : Fin 3 → Fin 512 → ℝ
  W2 : Fin 3 → Fin 512 → Fin 256 → ℝ
  b2 : Fin 3 → Fin 256 → ℝ
  g : Fin 3 → Fin 256 → ℝ
  be : Fin 3 → Fin 256 → ℝ

/-- The features of the nodes: one row of the table for each category, added. -/
def Net.enc (N : Net) (r : Fin 10000) (j : Fin 256) : ℝ := ∑ f, N.emb f (N.x r f) j

/-- The messages a node receives, added. -/
def Net.agg (N : Net) (h : Fin 10000 → Fin 256 → ℝ) (r : Fin 10000) (j : Fin 256) : ℝ :=
  ∑ e, if (N.dst e).toInt = (r.val : ℤ) then h (N.src e) j else 0

/-- The activations of layer `i`. -/
def Net.act (N : Net) (i : Fin 3) (h : Fin 10000 → Fin 256 → ℝ) (r : Fin 10000) (j : Fin 256) : ℝ :=
  mlpR (N.W1 i) (N.b1 i) (N.W2 i) (N.b2 i) (fun l => 2 * h r l + N.agg h r l) j

/-- A column's sum and its sum of squares. -/
def colSum (z : Fin 10000 → Fin 256 → ℝ) (j : Fin 256) : ℝ := ∑ r, z r j
def colSq (z : Fin 10000 → Fin 256 → ℝ) (j : Fin 256) : ℝ := ∑ r, z r j * z r j

/-- Layer `i`: the activations normalized over the nodes. -/
def Net.layer (N : Net) (i : Fin 3) (h : Fin 10000 → Fin 256 → ℝ) (r : Fin 10000) (j : Fin 256) : ℝ :=
  bnR (colSum (N.act i h) j) (colSq (N.act i h) j) (N.g i j) (N.be i j) (N.act i h r j)

/-- The features after no, one, two and three layers. -/
def Net.h0 (N : Net) := N.enc
def Net.h1 (N : Net) := N.layer 0 N.h0
def Net.h2 (N : Net) := N.layer 1 N.h1
def Net.h3 (N : Net) := N.layer 2 N.h2

/-- The features of a graph's nodes, added, and their number. -/
def Net.pool (N : Net) (g j : Fin 256) : ℝ := ∑ r, if (N.batch r).toInt = (g.val : ℤ) then N.h3 r j else 0
def Net.cnt (N : Net) (g : Fin 256) : ℝ := ∑ r, if (N.batch r).toInt = (g.val : ℤ) then 1 else 0

/-- The mean square distance from the mean, in its two forms. -/
theorem var_eq (z : Fin 10000 → ℝ) :
    (∑ r, (z r - (∑ s, z s) / 10000) * (z r - (∑ s, z s) / 10000)) / 10000 = varR (∑ r, z r) (∑ r, z r * z r) := by
  have : ∀ r, (z r - (∑ s, z s) / 10000) * (z r - (∑ s, z s) / 10000)
      = z r * z r - 2 * ((∑ s, z s) / 10000) * z r + ((∑ s, z s) / 10000) * ((∑ s, z s) / 10000) := fun r => by ring
  simp only [this, Finset.sum_add_distrib, Finset.sum_sub_distrib, ← Finset.mul_sum, Finset.sum_const, Finset.card_univ, Fintype.card_fin, varR]
  simp only [nsmul_eq_mul]; push_cast; ring

/-- A variance is not negative. -/
theorem var_nonneg (z : Fin 10000 → ℝ) : 0 ≤ varR (∑ r, z r) (∑ r, z r * z r) := by
  rw [← var_eq]
  exact div_nonneg (Finset.sum_nonneg fun r _ => mul_self_nonneg _) (by norm_num)

theorem var_pos (z : Fin 10000 → ℝ) : 0 < varR (∑ r, z r) (∑ r, z r * z r) + eps :=
  add_pos_of_nonneg_of_pos (var_nonneg z) eps_pos

end Cert.Gin

end
-- ==== Proof.Gin.Pays.lean ====
/-
  What the kernels' blocks hold, read at an index over the ideal floats.
-/
module

public import proofs.«01_k».proof.Proof.Gin.Mlp
public import proofs.«01_k».proof.Proof.Gin.Blocks
public import proofs.«01_k».proof.Proof.Gin.Pool
public import proofs.«01_k».proof.Proof.Gin.Spec
public import Idealize.ShloMosaic.Lib.Pipeline.ValueKit

@[expose] public section

set_option maxRecDepth 16384

noncomputable section

namespace Cert.Gin

open Cert.KernelIdeal Cert.KernelIdeal.Gen
open Idealize.ShloMosaic Idealize.ShloMosaic.TcCoe Idealize.SL.Sem

/-- The activations' block: the perceptron of each node's row, and zero beyond the nodes. -/
theorem zBlk_at (i : grid1.Coords) (x0 x1 : Vec Ideal S256x256 .f32) (x2 : Vec Ideal S256x512 .f32) (x3 : Vec Ideal S8x512 .f32)
    (x4 : Vec Ideal S512x256 .f32) (x5 : Vec Ideal S8x256 .f32) (r j : Fin 256)
    (u a : Fin 256 → ℝ) (W1 : Fin 256 → Fin 512 → ℝ) (b1 : Fin 512 → ℝ) (W2 : Fin 512 → Fin 256 → ℝ) (b2 : Fin 256 → ℝ)
    (h0 : (i 0).val * 256 + r.val < 10000 → ∀ l, x0 (ix2 r l) = u l) (h1 : (i 0).val * 256 + r.val < 10000 → ∀ l, x1 (ix2 r l) = a l)
    (h2 : ∀ l k, x2 (ix2 l k) = W1 l k) (h3 : ∀ k, x3 (ix2 0 k) = b1 k) (h4 : ∀ k j, x4 (ix2 k j) = W2 k j) (h5 : ∀ j, x5 (ix2 0 j) = b2 j) :
    zBlk (F := Ideal) i x0 x1 x2 x3 x4 x5 (ix2 r j)
      = if (i 0).val * 256 + r.val < 10000 then ((mlpR W1 b1 W2 b2 (fun l => 2 * u l + a l) j : ℝ) : EReal) else 0 := by
  have hi : (i 0).val < 40 := (i 0).isLt
  pointwise [zBlk, k1_pay5]
  refine (mask_select _ _ hi r.isLt _ _).trans ?_
  by_cases hr : (i 0).val * 256 + r.val < 10000
  · rw [if_pos hr, if_pos hr]
    simp only [h0 hr, h1 hr, h2, h3, h4, h5, ofBits_two, ← EReal.coe_mul, ← EReal.coe_add, sum_coe, ← EReal.coe_zero, max_coe, mlpR]
  · rw [if_neg hr, if_neg hr]

theorem sumFirst_at (z : Vec Ideal S256x256 .f32) (a : Fin 8) (j : Fin 256) :
    sumFirst (F := Ideal) z (ix2 a j) = ∑ x : Fin 32, z (ix2 ⟨a.val * 32 + x.val, by omega⟩ j) := by
  rw [sumFirst, View.canon_cons_unit_lit _ _ _ (by decide)]
  pointwise [k1_pay1]

theorem sumNext_at (z : Vec Ideal S256x256 .f32) (s : Vec Ideal S8x256 .f32) (a : Fin 8) (j : Fin 256) :
    sumNext (F := Ideal) z s (ix2 a j) = s (ix2 a j) + ∑ x : Fin 32, z (ix2 ⟨a.val * 32 + x.val, by omega⟩ j) := by
  rw [sumNext, View.canon_cons_unit_lit _ _ _ (by decide)]
  pointwise [k1_pay3, k1_pay1]

theorem sqFirst_at (z : Vec Ideal S256x256 .f32) (a : Fin 8) (j : Fin 256) :
    sqFirst (F := Ideal) z (ix2 a j) = ∑ x : Fin 32, z (ix2 ⟨a.val * 32 + x.val, by omega⟩ j) * z (ix2 ⟨a.val * 32 + x.val, by omega⟩ j) := by
  rw [sqFirst, View.canon_cons_unit_lit _ _ _ (by decide)]
  pointwise [k1_pay2]

theorem sqNext_at (z : Vec Ideal S256x256 .f32) (s : Vec Ideal S8x256 .f32) (a : Fin 8) (j : Fin 256) :
    sqNext (F := Ideal) z s (ix2 a j) = s (ix2 a j) + ∑ x : Fin 32, z (ix2 ⟨a.val * 32 + x.val, by omega⟩ j) * z (ix2 ⟨a.val * 32 + x.val, by omega⟩ j) := by
  rw [sqNext, View.canon_cons_unit_lit _ _ _ (by decide)]
  pointwise [k1_pay4, k1_pay2]

theorem stored_at (z : Vec Ideal S256x256 .f32) (r j : Fin 256) : stored z (ix2 r j) = z (ix2 r j) := by
  rw [stored, View.canon_cons_unit_lit _ _ _ (by decide)]

/-- The normalized block. -/
theorem bnBlk_at (x0 : Vec Ideal S256x256 .f32) (x1 x2 x3 x4 : Vec Ideal S8x256 .f32) (r j : Fin 256) (z S Q g b : ℝ)
    (h0 : x0 (ix2 r j) = z) (h1 : ∑ a, x1 (ix2 a j) = S) (h2 : ∑ a, x2 (ix2 a j) = Q) (h3 : x3 (ix2 0 j) = g) (h4 : x4 (ix2 0 j) = b)
    (hp : 0 < varR S Q + eps) :
    bnBlk (F := Ideal) x0 x1 x2 x3 x4 (ix2 r j) = ((bnR S Q g b z : ℝ) : EReal) := by
  pointwise [bnBlk, k2_pay1]
  simp only [h0, h1, h2, h3, h4, ofBits_nodes, ofBits_eps]
  rw [div_coe _ _ (by norm_num), div_coe _ _ (by norm_num), ← EReal.coe_mul, ← EReal.coe_sub, ← EReal.coe_add,
    show Q / 10000 - S / 10000 * (S / 10000) + eps = varR S Q + eps from rfl, rsqrt_coe _ hp]
  simp only [← EReal.coe_mul, ← EReal.coe_sub, ← EReal.coe_add]
  rfl

theorem lastBlk_at (x0 : Vec Ideal S256x256 .f32) (x1 : Vec Ideal S256x128 .f32) (x2 : Vec Ideal S256x256 .f32) (x3 : Vec Ideal S8x256 .f32) (r j : Fin 256) :
    lastBlk (F := Ideal) x0 x1 x2 x3 (ix2 r j) = max (∑ x, Ideal.div (x0 (ix2 r x)) (max (x1 (ix2 r 0)) 1) * x2 (ix2 x j) + x3 (ix2 0 j)) 0 := by
  pointwise [lastBlk, k8_pay1]

theorem poolFirst_at (h : Vec Ideal S256x256 .f32) (v : Vec Ideal S1x1x256 .i32) (g j : Fin 256) :
    poolFirst (F := Ideal) h v (ix2 g j) = ∑ x : Fin 256, if v (ix3 0 0 x) = BitVec.ofNat 32 g.val then h (ix2 x j) else 0 := by
  rw [poolFirst, View.canon_cons_unit_lit _ _ _ (by decide)]
  pointwise [k7_pay2, k7_pay1]
  simp only [onehot]
  refine Finset.sum_congr rfl fun x _ => ?_
  split <;> simp

theorem poolNext_at (h : Vec Ideal S256x256 .f32) (v : Vec Ideal S1x1x256 .i32) (s : Vec Ideal S256x256 .f32) (g j : Fin 256) :
    poolNext (F := Ideal) h v s (ix2 g j) = s (ix2 g j) + ∑ x : Fin 256, if v (ix3 0 0 x) = BitVec.ofNat 32 g.val then h (ix2 x j) else 0 := by
  rw [poolNext, View.canon_cons_unit_lit _ _ _ (by decide)]
  pointwise [k7_pay4, k7_pay1, k7_pay2]
  simp only [onehot]
  congr 1
  refine Finset.sum_congr rfl fun x _ => ?_
  split <;> simp

theorem cntFirst_at (v : Vec Ideal S1x1x256 .i32) (g : Fin 256) (j : Fin 128) :
    cntFirst (F := Ideal) v (ix2 g j) = ((∑ x : Fin 256, if v (ix3 0 0 x) = BitVec.ofNat 32 g.val then (1 : ℝ) else 0 : ℝ) : EReal) := by
  rw [cntFirst, View.canon_cons_unit_lit _ _ _ (by decide)]
  pointwise [k7_pay3, k7_pay1]
  simp only [onehot, sum_coe]

theorem cntNext_at (v : Vec Ideal S1x1x256 .i32) (s : Vec Ideal S256x128 .f32) (g : Fin 256) (j : Fin 128) :
    cntNext (F := Ideal) v s (ix2 g j) = s (ix2 g j) + ((∑ x : Fin 256, if v (ix3 0 0 x) = BitVec.ofNat 32 g.val then (1 : ℝ) else 0 : ℝ) : EReal) := by
  rw [cntNext, View.canon_cons_unit_lit _ _ _ (by decide)]
  pointwise [k7_pay5, k7_pay1, k7_pay3]
  simp only [onehot, sum_coe]

/-- A shifted category as a column of the table. -/
theorem hot (n c : ℕ) (k : Fin 576) (h : c + n < 576) :
    (IntOp.addi (BitVec.ofNat 32 n) (BitVec.ofNat 32 c) = BitVec.ofNat 32 k.val) = (k = ⟨c + n, h⟩) := by
  have hk := k.isLt
  rw [eq_iff_iff, Fin.ext_iff]
  constructor
  · intro e
    have e' := congrArg BitVec.toNat e
    simp only [IntOp.addi, BitVec.toNat_add, BitVec.toNat_ofNat] at e'
    dsimp only
    omega
  · intro e
    apply BitVec.eq_of_toNat_eq
    simp only [IntOp.addi, BitVec.toNat_add, BitVec.toNat_ofNat]
    dsimp only at e
    omega

/-- The embedding's block: one row of the table for each category of the node, added; zero beyond the nodes. -/
theorem encBlk_at (i : grid0.Coords) (x0 : Vec Ideal S16x256 .i32) (x1 : Vec Ideal S576x256 .f32) (r j : Fin 256)
    (X : Fin 9 → Fin 64) (T : Fin 9 → Fin 64 → Fin 256 → ℝ)
    (h0 : (i 0).val * 256 + r.val < 10000 → ∀ f : Fin 9, x0 (ix2 ⟨f.val, by omega⟩ r) = BitVec.ofNat 32 (X f).val)
    (h1 : ∀ (f : Fin 9) (v : Fin 64) (j : Fin 256), x1 (ix2 ⟨64 * f.val + v.val, by omega⟩ j) = T f v j) :
    encBlk (F := Ideal) i x0 x1 (ix2 r j)
      = if (i 0).val * 256 + r.val < 10000 then ((∑ f, T f (X f) j : ℝ) : EReal) else 0 := by
  have hi : (i 0).val < 40 := (i 0).isLt
  have hT : ∀ k j, x1 (ix2 k j) = ((T ⟨k.val / 64, by omega⟩ ⟨k.val % 64, by omega⟩ j : ℝ) : EReal) := fun k j => by
    rw [← h1]; congr 2; apply Fin.ext; simp; omega
  pointwise [encBlk, k0_pay1, k0_pay2, k0_pay3, k0_pay4, k0_pay5, k0_pay6]
  refine (mask_select _ _ hi r.isLt _ _).trans ?_
  by_cases hr : (i 0).val * 256 + r.val < 10000
  · rw [if_pos hr, if_pos hr]
    have e : ∀ f : Fin 9, x0 (ix2 ⟨f.val, by omega⟩ r) = BitVec.ofNat 32 (X f).val := h0 hr
    have e0 : x0 (ix2 0 r) = _ := e 0
    have e1 : x0 (ix2 1 r) = _ := e 1
    have e2 : x0 (ix2 2 r) = _ := e 2
    have e3 : x0 (ix2 3 r) = _ := e 3
    have e4 : x0 (ix2 4 r) = _ := e 4
    have e5 : x0 (ix2 5 r) = _ := e 5
    have e6 : x0 (ix2 6 r) = _ := e 6
    have e7 : x0 (ix2 7 r) = _ := e 7
    have e8 : x0 (ix2 8 r) = _ := e 8
    have b : ∀ (c : ℕ) (n : Fin 64), c ≤ 512 → c + n.val < 576 := fun c n hc => by omega
    simp only [onehot, e0, e1, e2, e3, e4, e5, e6, e7, e8, hT, ← EReal.coe_add, ← EReal.coe_mul, sum_coe,
      hot _ 0 _ (b 0 _ (by decide)), hot _ 64 _ (b 64 _ (by decide)), hot _ 128 _ (b 128 _ (by decide)), hot _ 192 _ (b 192 _ (by decide)),
      hot _ 256 _ (b 256 _ (by decide)), hot _ 320 _ (b 320 _ (by decide)), hot _ 384 _ (b 384 _ (by decide)), hot _ 448 _ (b 448 _ (by decide)),
      hot _ 512 _ (b 512 _ (by decide))]
    congr 1
    simp only [add_mul, Finset.sum_add_distrib, ite_mul, one_mul, zero_mul, Finset.sum_ite_eq', Finset.mem_univ, if_true]
    have q : ∀ (f : Fin 9) (v : Fin 64) (k : ℕ) (hk : k < 576), k = 64 * f.val + v.val →
        T ⟨k / 64, by omega⟩ ⟨k % 64, by omega⟩ j = T f v j := fun f v k hk e => by
      congr 1
      · congr 1; omega
      · apply Fin.ext; dsimp only; omega
    rw [Fin.sum_univ_castSucc, Fin.sum_univ_eight]
    refine congrArg₂ _ (congrArg₂ _ (congrArg₂ _ (congrArg₂ _ (congrArg₂ _ (congrArg₂ _ (congrArg₂ _ (congrArg₂ _ ?_ ?_) ?_) ?_) ?_) ?_) ?_) ?_) ?_
    all_goals (refine q _ _ _ (by omega) ?_; rfl)
  · rw [if_neg hr, if_neg hr]

end Cert.Gin

end
-- ==== Proof.Gin.Sums.lean ====
/-
  The accumulated blocks as sums over all rows: the columns' sums, the sums of squares, the pooled sums and the counts.
-/
module

public import proofs.«01_k».proof.Proof.Gin.Pays

@[expose] public section

set_option maxRecDepth 16384

noncomputable section

namespace Cert.Gin

open Cert.KernelIdeal Cert.KernelIdeal.Gen
open Idealize.ShloMosaic Idealize.ShloMosaic.TcCoe Idealize.SL.Sem

/-- Values of the nodes, extended by zero to the padding rows. -/
def pad {α : Type} [Zero α] (h : Fin 10000 → Fin 256 → α) (r : ℕ) (j : Fin 256) : α := if hr : r < 10000 then h ⟨r, hr⟩ j else 0

/-- An array of padded rows holds `h` at the nodes. -/
def Rows (A : FVec Ideal S10240x256 .f32) (h : Fin 10000 → Fin 256 → ℝ) : Prop :=
  ∀ (r : Fin 10240) (hr : r.val < 10000) (j : Fin 256), A (ix2 r j) = ((h ⟨r.val, hr⟩ j : ℝ) : EReal)

/-- An array of padded rows holds `h` at the nodes and zero beyond. -/
def RowsPad (A : FVec Ideal S10240x256 .f32) (h : Fin 10000 → Fin 256 → ℝ) : Prop :=
  ∀ (r : Fin 10240) (j : Fin 256), A (ix2 r j) = ((pad h r.val j : ℝ) : EReal)

theorem RowsPad.rows {A : FVec Ideal S10240x256 .f32} {h : Fin 10000 → Fin 256 → ℝ} (H : RowsPad A h) : Rows A h := fun r hr j => by
  rw [H, pad, dif_pos hr]

/-- The operands of a perceptron call. -/
structure MlpIn (A0 A1 : FVec Ideal S10240x256 .f32) (A2 : FVec Ideal S256x512 .f32) (A3 : FVec Ideal S8x512 .f32) (A4 : FVec Ideal S512x256 .f32)
    (A5 : FVec Ideal S8x256 .f32) (N : Net) (i : Fin 3) (h : Fin 10000 → Fin 256 → ℝ) : Prop where
  h0 : Rows A0 h
  h1 : Rows A1 (N.agg h)
  h2 : ∀ l k, A2 (ix2 l k) = ((N.W1 i l k : ℝ) : EReal)
  h3 : ∀ k, A3 (ix2 0 k) = ((N.b1 i k : ℝ) : EReal)
  h4 : ∀ k j, A4 (ix2 k j) = ((N.W2 i k j : ℝ) : EReal)
  h5 : ∀ j, A5 (ix2 0 j) = ((N.b2 i j : ℝ) : EReal)

/-- The operands of a normalization call. -/
structure BnIn (A0 : FVec Ideal S10240x256 .f32) (A1 A2 A3 A4 : FVec Ideal S8x256 .f32) (N : Net) (i : Fin 3) (z : Fin 10000 → Fin 256 → ℝ) : Prop where
  h0 : Rows A0 z
  h1 : ∀ j, ∑ a, A1 (ix2 a j) = ((colSum z j : ℝ) : EReal)
  h2 : ∀ j, ∑ a, A2 (ix2 a j) = ((colSq z j : ℝ) : EReal)
  h3 : ∀ j, A3 (ix2 0 j) = ((N.g i j : ℝ) : EReal)
  h4 : ∀ j, A4 (ix2 0 j) = ((N.be i j : ℝ) : EReal)

/-- A sum over the blocks, the groups of a block and the rows of a group is a sum over the padded rows. -/
theorem sum_rows {M : Type} [AddCommMonoid M] (f : ℕ → M) :
    ∑ a : Fin 8, ∑ t ∈ Finset.range 40, ∑ x : Fin 32, f (t * 256 + (a.val * 32 + x.val)) = ∑ r ∈ Finset.range 10240, f r := by
  rw [Finset.sum_comm, ← Fin.sum_univ_eq_sum_range (fun t => ∑ a : Fin 8, ∑ x : Fin 32, f (t * 256 + (a.val * 32 + x.val))) 40,
    ← Fin.sum_univ_eq_sum_range f 10240, Fin.sum_univ_tiles 40 256 rfl (fun r : Fin 10240 => f r.val)]
  refine Finset.sum_congr rfl fun t _ => ?_
  rw [Fin.sum_univ_tiles 8 32 rfl (fun r : Fin 256 => f (t.val * 256 + r.val))]

/-- The same over blocks of rows. -/
theorem sum_blocks {M : Type} [AddCommMonoid M] (f : ℕ → M) :
    ∑ t ∈ Finset.range 40, ∑ x : Fin 256, f (t * 256 + x.val) = ∑ r ∈ Finset.range 10240, f r := by
  rw [← Fin.sum_univ_eq_sum_range (fun t => ∑ x : Fin 256, f (t * 256 + x.val)) 40,
    ← Fin.sum_univ_eq_sum_range f 10240, Fin.sum_univ_tiles 40 256 rfl (fun r : Fin 10240 => f r.val)]

/-- Padding rows that hold zero do not count. -/
theorem sum_pad {M : Type} [AddCommMonoid M] (f : ℕ → M) (g : Fin 10000 → M) (h : ∀ r, f r.val = g r) (h0 : ∀ r, 10000 ≤ r → r < 10240 → f r = 0) :
    ∑ r ∈ Finset.range 10240, f r = ∑ r, g r := by
  rw [← Finset.sum_range_add_sum_Ico f (show 10000 ≤ 10240 by decide),
    Finset.sum_eq_zero (s := Finset.Ico 10000 10240) (fun r hr => h0 r (Finset.mem_Ico.1 hr).1 (Finset.mem_Ico.1 hr).2), add_zero,
    ← Fin.sum_univ_eq_sum_range f 10000]
  exact Finset.sum_congr rfl fun r _ => h r

/-- The running sums after block `n`. -/
theorem sumAt_at (z : ℕ → Vec Ideal S256x256 .f32) (Z : ℕ → Fin 256 → ℝ) (hz : ∀ n, n < 40 → ∀ r j, z n (ix2 r j) = ((Z (n * 256 + r.val) j : ℝ) : EReal))
    (a : Fin 8) (j : Fin 256) : ∀ n, n < 40 → sumAt z n (ix2 a j) = ((∑ t ∈ Finset.range (n + 1), ∑ x : Fin 32, Z (t * 256 + (a.val * 32 + x.val)) j : ℝ) : EReal)
  | 0, h => by
    rw [sumAt, sumFirst_at, Finset.sum_range_one, ← sum_coe]
    exact Finset.sum_congr rfl fun x _ => hz 0 h _ j
  | n + 1, h => by
    rw [sumAt, sumNext_at, sumAt_at z Z hz a j n (by omega), Finset.sum_range_succ _ (n + 1), EReal.coe_add, ← sum_coe Finset.univ]
    exact congrArg _ (Finset.sum_congr rfl fun x _ => hz (n + 1) h _ j)

/-- The running sums of squares after block `n`. -/
theorem sqAt_at (z : ℕ → Vec Ideal S256x256 .f32) (Z : ℕ → Fin 256 → ℝ) (hz : ∀ n, n < 40 → ∀ r j, z n (ix2 r j) = ((Z (n * 256 + r.val) j : ℝ) : EReal))
    (a : Fin 8) (j : Fin 256) : ∀ n, n < 40 → sqAt z n (ix2 a j)
      = ((∑ t ∈ Finset.range (n + 1), ∑ x : Fin 32, Z (t * 256 + (a.val * 32 + x.val)) j * Z (t * 256 + (a.val * 32 + x.val)) j : ℝ) : EReal)
  | 0, h => by
    rw [sqAt, sqFirst_at, Finset.sum_range_one, ← sum_coe]
    exact Finset.sum_congr rfl fun x _ => by rw [hz 0 h _ j, ← EReal.coe_mul]
  | n + 1, h => by
    rw [sqAt, sqNext_at, sqAt_at z Z hz a j n (by omega), Finset.sum_range_succ _ (n + 1), EReal.coe_add, ← sum_coe Finset.univ]
    exact congrArg _ (Finset.sum_congr rfl fun x _ => by rw [hz (n + 1) h _ j, ← EReal.coe_mul])

/-- All the sums together are the columns' sums over the nodes. -/
theorem sumAt_total (z : ℕ → Vec Ideal S256x256 .f32) (Z : Fin 10000 → Fin 256 → ℝ) (hz : ∀ n, n < 40 → ∀ r j, z n (ix2 r j) = ((pad Z (n * 256 + r.val) j : ℝ) : EReal))
    (j : Fin 256) : ∑ a : Fin 8, sumAt z 39 (ix2 a j) = ((colSum Z j : ℝ) : EReal) := by
  simp only [fun a => sumAt_at z (pad Z) hz a j 39 (by decide), sum_coe]
  congr 1
  rw [sum_rows (fun r => pad Z r j), colSum]
  exact sum_pad _ _ (fun r => by simp only [pad, r.isLt, dif_pos]) (fun r h _ => by rw [pad, dif_neg (by omega)])

/-- All the sums of squares together are the columns' over the nodes. -/
theorem sqAt_total (z : ℕ → Vec Ideal S256x256 .f32) (Z : Fin 10000 → Fin 256 → ℝ) (hz : ∀ n, n < 40 → ∀ r j, z n (ix2 r j) = ((pad Z (n * 256 + r.val) j : ℝ) : EReal))
    (j : Fin 256) : ∑ a : Fin 8, sqAt z 39 (ix2 a j) = ((colSq Z j : ℝ) : EReal) := by
  simp only [fun a => sqAt_at z (pad Z) hz a j 39 (by decide), sum_coe]
  congr 1
  rw [sum_rows (fun r => pad Z r j * pad Z r j), colSq]
  exact sum_pad _ _ (fun r => by simp only [pad, r.isLt, dif_pos]) (fun r h _ => by rw [pad, dif_neg (by omega), mul_zero])

/-- The pooled sums after block `n`. -/
theorem poolAt_at (h : ℕ → Vec Ideal S256x256 .f32) (b : ℕ → Vec Ideal S1x1x256 .i32) (H : ℕ → Fin 256 → EReal) (B : ℕ → BitVec 32)
    (hh : ∀ n, n < 40 → ∀ r j, h n (ix2 r j) = H (n * 256 + r.val) j) (hb : ∀ n, n < 40 → ∀ r, b n (ix3 0 0 r) = B (n * 256 + r.val))
    (g j : Fin 256) : ∀ n, n < 40 → poolAt h b n (ix2 g j)
      = ∑ t ∈ Finset.range (n + 1), ∑ x : Fin 256, if B (t * 256 + x.val) = BitVec.ofNat 32 g.val then H (t * 256 + x.val) j else 0
  | 0, hn => by
    rw [poolAt, poolFirst_at, Finset.sum_range_one]
    exact Finset.sum_congr rfl fun x _ => by rw [hh 0 hn, hb 0 hn]
  | n + 1, hn => by
    rw [poolAt, poolNext_at, poolAt_at h b H B hh hb g j n (by omega), Finset.sum_range_succ _ (n + 1)]
    exact congrArg _ (Finset.sum_congr rfl fun x _ => by rw [hh (n + 1) hn, hb (n + 1) hn])

/-- The counts after block `n`. -/
theorem cntAt_at (b : ℕ → Vec Ideal S1x1x256 .i32) (B : ℕ → BitVec 32) (hb : ∀ n, n < 40 → ∀ r, b n (ix3 0 0 r) = B (n * 256 + r.val))
    (g : Fin 256) (j : Fin 128) : ∀ n, n < 40 → cntAt b n (ix2 g j)
      = ((∑ t ∈ Finset.range (n + 1), ∑ x : Fin 256, if B (t * 256 + x.val) = BitVec.ofNat 32 g.val then (1 : ℝ) else 0 : ℝ) : EReal)
  | 0, hn => by
    rw [cntAt, cntFirst_at, Finset.sum_range_one]
    exact congrArg _ (Finset.sum_congr rfl fun x _ => by rw [hb 0 hn])
  | n + 1, hn => by
    rw [cntAt, cntNext_at, cntAt_at b B hb g j n (by omega), Finset.sum_range_succ _ (n + 1), EReal.coe_add]
    exact congrArg _ (congrArg _ (Finset.sum_congr rfl fun x _ => by rw [hb (n + 1) hn]))

end Cert.Gin

end
-- ==== Proof.Gin.Arr0.lean ====
/-
  The embedding call: its array, from its operands' contents.
-/
module

public import proofs.«01_k».proof.Proof.Gin.Sums
public import proofs.«01_k».proof.Proof.Gin.Region0

@[expose] public section

set_option maxRecDepth 16384

noncomputable section

namespace Cert.Gin

open Cert.KernelIdeal Cert.KernelIdeal.Gen
open Idealize.ShloMosaic Idealize.ShloMosaic.TcCoe Idealize.SL.Sem
open Idealize.ShloMosaic.Pipeline (Dat Cfg Window)

/-- The windows' blocks and the grid's coordinate at each point. -/
theorem idx0 : ∀ t : Fin cfg0.N, (grid0.coords t 0).val = t.val ∧ win0_0.index t = ![0, t.val] ∧ win0_1.index t = ![0, 0] ∧ win0_2.index t = ![t.val, 0] :=
  (by decide +kernel : ∀ t : Fin grid0.N, _)

/-- The categories, one column for each padded row. -/
def Cats (A : Vec Ideal S16x10240 .i32) (x : Fin 10000 → Fin 9 → Fin 64) : Prop :=
  ∀ (f : Fin 9) (r : Fin 10240) (hr : r.val < 10000), A (ix2 ⟨f.val, by omega⟩ r) = BitVec.ofNat 32 (x ⟨r.val, hr⟩ f).val

/-- The nine tables in one. -/
def Table (A : FVec Ideal S576x256 .f32) (T : Fin 9 → Fin 64 → Fin 256 → ℝ) : Prop :=
  ∀ (f : Fin 9) (v : Fin 64) (j : Fin 256), A (ix2 ⟨64 * f.val + v.val, by omega⟩ j) = ((T f v j : ℝ) : EReal)

section
variable (V : (c : Dev nD) → (b : Ref sig .tc) → Buf (Elt Ideal) ((c.tc : Thread nD τ).loc b)) (c : Dev nD)

/-! The input blocks, read off their arrays. -/

theorem row0_0 (t : Fin cfg0.N) (f : Fin 16) (r : Fin 256) (h : t.val * 256 + r.val < 10240) :
    (blk0 V c 0 t : Vec Ideal S16x256 .i32) (ix2 f r) = (V c main_v5 : Vec Ideal S16x10240 .i32) (ix2 f ⟨t.val * 256 + r.val, h⟩) := by
  blk_ext [blk0, idx0 t]
theorem all0_1 (t : Fin cfg0.N) : (blk0 V c 1 t : FVec Ideal S576x256 .f32) = V c main_v6 := by blk_ext! [blk0, idx0 t]

/-- The features' array. -/
theorem e0_arr (N : Net) (h0 : Cats (V c main_v5) N.x) (h1 : Table (V c main_v6) N.emb)
    (A : FVec Ideal S10240x256 .f32) (hA : A = (dat0 V c).arrAt 2 cfg0.N) : Rows A N.enc := by
  have P : ∀ (y : S10240x256.Idx) (hr : (y 0).val < 10000), A y = ((N.enc ⟨(y 0).val, hr⟩ (y 1) : ℝ) : EReal) := by
    rw [hA]
    refine fun y => (dat0 V c).arrAt_forall_of_covers 2 (fun (y : S10240x256.Idx) v => ∀ hr : (y 0).val < 10000, v
      = ((N.enc ⟨(y 0).val, hr⟩ (y 1) : ℝ) : EReal)) (by decide +kernel) (fun t hf y hr => ?_) y
    have hr' : t.val * 256 + (y 0).val < 10000 := by
      revert hr; blk_simp [idx0 t]; exact id
    have e0 : ((((cfg0.win 2).blk t).view.emb y : S10240x256.Idx) 0).val = t.val * 256 + (y 0).val := by blk_simp [idx0 t]
    have e1 : (((cfg0.win 2).blk t).view.emb y : S10240x256.Idx) 1 = (y 1 : Fin 256) := by apply Fin.ext; blk_simp [idx0 t]
    have hy : y = ix2 (y 0) (y 1) := by blk_ext
    have hb := encBlk_at (grid0.coords t) (blk0 V c 0 t) (blk0 V c 1 t) (y 0) (y 1) (N.x ⟨_, hr'⟩) N.emb
      (fun _ f => (row0_0 V c t ⟨f.val, by omega⟩ (y 0) (by omega)).trans (h0 f ⟨t.val * 256 + (y 0).val, by omega⟩ hr'))
      (fun f v j => (congrFun (all0_1 V c t) _).trans (h1 f v j))
    rw [if_pos (by rw [(idx0 t).1]; exact hr')] at hb
    have hz : N.enc ⟨_, hr⟩ ((((cfg0.win 2).blk t).view.emb y : S10240x256.Idx) 1) = N.enc ⟨_, hr'⟩ (y 1) :=
      congrArg₂ N.enc (Fin.ext e0) e1
    rw [hz]
    refine Eq.trans ?_ hb
    blk_simp
    rw [after0_2, stored, View.canon_cons_unit_lit _ _ _ (by decide)]
    exact congrArg _ hy
  exact fun r hr j => P (ix2 r j) hr

end

end Cert.Gin

end
-- ==== Proof.Gin.Arr7.lean ====
/-
  The pooling call: its arrays, from its operands' contents.
-/
module

public import proofs.«01_k».proof.Proof.Gin.Sums
public import proofs.«01_k».proof.Proof.Gin.Region7

@[expose] public section

set_option maxRecDepth 16384

noncomputable section

namespace Cert.Gin

open Cert.KernelIdeal Cert.KernelIdeal.Gen
open Idealize.ShloMosaic Idealize.ShloMosaic.TcCoe Idealize.SL.Sem
open Idealize.ShloMosaic.Pipeline (Dat Cfg Window)

/-- The windows' blocks at each point. -/
theorem idx7 : ∀ t : Fin cfg7.N, win7_0.index t = ![t.val, 0] ∧ win7_1.index t = ![t.val, 0, 0] :=
  (by decide +kernel : ∀ t : Fin grid7.N, _)

/-- The last grid point. -/
def end7 : Fin cfg7.N := ⟨39, by rw [show cfg7.N = 40 from N_7]; decide⟩
theorem whole7_2 : (cfg7.win 2).WholeAt end7 := by decide +kernel
theorem whole7_3 : (cfg7.win 3).WholeAt end7 := by decide +kernel

/-- The graph of each padded row: none (a number past the graphs) for the padding. -/
def word (b : Fin 10000 → BitVec 32) (r : ℕ) : BitVec 32 := if hr : r < 10000 then b ⟨r, hr⟩ else 999#32

/-- The graphs' numbers, in blocks of 256 rows. -/
def Ids (A : Vec Ideal S40x1x256 .i32) (b : Fin 10000 → BitVec 32) : Prop :=
  ∀ (t : Fin 40) (x : Fin 256), A (ix3 t 0 x) = word b (t.val * 256 + x.val)

/-- A row's number is a graph's just when it is a node of that graph. -/
theorem word_eq (b : Fin 10000 → BitVec 32) (r : Fin 10000) (g : Fin 256) : (word b r.val = BitVec.ofNat 32 g.val) = ((b r).toInt = (g.val : ℤ)) := by
  have hg : (BitVec.ofNat 32 g.val).toInt = (g.val : ℤ) := toInt_ofNat _ (by omega)
  rw [word, dif_pos r.isLt, eq_iff_iff, ← hg]
  exact ⟨fun e => congrArg BitVec.toInt e, fun e => BitVec.eq_of_toInt_eq e⟩

theorem word_ne (b : Fin 10000 → BitVec 32) (r : ℕ) (hr : 10000 ≤ r) (g : Fin 256) : ¬word b r = BitVec.ofNat 32 g.val := by
  rw [word, dif_neg (by omega)]
  intro e
  have := congrArg BitVec.toNat e
  simp only [BitVec.toNat_ofNat] at this
  omega

/-- A padded row by its number. -/
def rowOf (A : FVec Ideal S10240x256 .f32) (R : ℕ) (j : Fin 256) : EReal := if hR : R < 10240 then A (ix2 ⟨R, hR⟩ j) else 0

section
variable (V : (c : Dev nD) → (b : Ref sig .tc) → Buf (Elt Ideal) ((c.tc : Thread nD τ).loc b)) (c : Dev nD)

/-! The input blocks, read off their arrays. -/

theorem row7_0 (t : Fin cfg7.N) (r j : Fin 256) (h : t.val * 256 + r.val < 10240) :
    (blk7 V c 0 t : FVec Ideal S256x256 .f32) (ix2 r j) = (V c main_v106 : FVec Ideal S10240x256 .f32) (ix2 ⟨t.val * 256 + r.val, h⟩ j) := by
  blk_ext [blk7, idx7 t]
theorem row7_1 (t : Fin cfg7.N) (r : Fin 256) (h : t.val < 40) :
    (blk7 V c 1 t : Vec Ideal S1x1x256 .i32) (ix3 0 0 r) = (V c main_v20 : Vec Ideal S40x1x256 .i32) (ix3 ⟨t.val, h⟩ 0 r) := by
  blk_ext [blk7, idx7 t]

variable (b : Fin 10000 → BitVec 32) (H1 : Ids (V c main_v20) b)
include H1

/-- The numbers' blocks. -/
theorem ids7_word (n : ℕ) (hn : n < 40) (r : Fin 256) : ids7 V c n (ix3 0 0 r) = word b (n * 256 + r.val) := by
  have hN : cfg7.N = 40 := N_7
  obtain ⟨t, rfl⟩ : ∃ t : Fin cfg7.N, t.val = n := ⟨⟨n, by omega⟩, rfl⟩
  rw [ids7_at]
  exact (row7_1 V c t r hn).trans (H1 ⟨t.val, hn⟩ r)

/-- The counts' array. -/
theorem c7_arr (A : FVec Ideal S256x128 .f32) (hA : A = (dat7 V c).arrAt 3 cfg7.N) (g : Fin 256) (j : Fin 128) :
    A (ix2 g j) = ((∑ r : Fin 10000, if (b r).toInt = (g.val : ℤ) then (1 : ℝ) else 0 : ℝ) : EReal) := by
  have e : (dat7 V c).arrAt 3 cfg7.N = (cntAt (ids7 V c) 39 : FVec Ideal S256x128 .f32) := by
    refine (dat7 V c).arrAt_eq_of_after_last 3 end7 whole7_3 _ fun j => ?_
    blk_simp
    rw [after7_3]
    rfl
  rw [hA.trans e, cntAt_at (ids7 V c) (word b) (ids7_word V c b H1) g j 39 (by decide)]
  congr 1
  rw [sum_blocks (fun r => if word b r = BitVec.ofNat 32 g.val then (1 : ℝ) else 0)]
  exact sum_pad _ _ (fun r => by simp only [word_eq]) (fun r h _ => if_neg (word_ne b r h g))

/-- The pooled sums' array. -/
theorem p7_arr (h : Fin 10000 → Fin 256 → ℝ) (H0 : Rows (V c main_v106) h)
    (A : FVec Ideal S256x256 .f32) (hA : A = (dat7 V c).arrAt 2 cfg7.N) (g j : Fin 256) :
    A (ix2 g j) = ((∑ r : Fin 10000, if (b r).toInt = (g.val : ℤ) then h r j else 0 : ℝ) : EReal) := by
  have hN : cfg7.N = 40 := N_7
  have e : (dat7 V c).arrAt 2 cfg7.N = (poolAt (rows7 V c) (ids7 V c) 39 : FVec Ideal S256x256 .f32) := by
    refine (dat7 V c).arrAt_eq_of_after_last 2 end7 whole7_2 _ fun j => ?_
    blk_simp
    rw [after7_2]
    rfl
  have hh : ∀ n, n < 40 → ∀ (r j : Fin 256), rows7 V c n (ix2 r j) = rowOf (V c main_v106) (n * 256 + r.val) j :=
    fun n hn r j => by
      obtain ⟨t, rfl⟩ : ∃ t : Fin cfg7.N, t.val = n := ⟨⟨n, by omega⟩, rfl⟩
      have hR : t.val * 256 + r.val < 10240 := by omega
      rw [rows7_at]
      rw [rowOf, dif_pos hR]
      exact row7_0 V c t r j hR
  rw [hA.trans e, poolAt_at (rows7 V c) (ids7 V c) (rowOf (V c main_v106)) (word b) hh (ids7_word V c b H1) g j 39 (by decide),
    sum_blocks (fun R => if word b R = BitVec.ofNat 32 g.val then rowOf (V c main_v106) R j else 0), ← sum_coe]
  refine sum_pad _ _ (fun r => ?_) (fun r h _ => if_neg (word_ne b r h g))
  have hr := r.isLt
  simp only [word_eq]
  by_cases hg : (b r).toInt = (g.val : ℤ)
  · rw [if_pos hg, if_pos hg, rowOf, dif_pos (by omega)]
    exact H0 ⟨r.val, by omega⟩ hr j
  · rw [if_neg hg, if_neg hg, EReal.coe_zero]

end

end Cert.Gin

end
-- ==== Proof.Gin.Places.lean ====
/-
  Rows picked and added by an index, and blocks laid over an array at its origin, read at an index.
-/
module

public import proofs.«01_k».proof.Proof.Gin.Words
public import Idealize.ShloMosaic.Lib.Routing.Ops
public import Idealize.ShloMosaic.Lib.Routing.OpsSet

@[expose] public section

set_option maxRecDepth 16384

noncomputable section

namespace Cert.Gin

open Idealize.ShloMosaic Idealize.SL.Sem

/-- A sequence of `n` entries. -/
abbrev vecS (n : ℕ) : Shape := ⟨1, ![n]⟩
/-- A table of `n` rows and `k` columns. -/
abbrev matS (n k : ℕ) : Shape := ⟨2, ![n, k]⟩

section
variable {R C n : ℕ} (d : ScatterDims (matS R C) (matS n 1) (matS n C))

/-- Where entry `(e, c)` of the updates goes when their rows are placed by an index column: to column `c` of the row the index names. -/
theorem row_place (h1 : d.updateWindowDims = [1]) (h2 : d.insertedWindowDims = [0]) (h3 : d.scatterDimsToOperandDims = [0]) (h4 : d.indexVectorDim = 1)
    (idx : IVec (matS n 1) 32) (e : Fin n) (c' : Fin C) (r : Fin R) (c : Fin C) :
    (d.resultIdx? (ix2 e c') idx = some (ix2 r c)) = ((idx (ix2 e 0)).toInt = (r.val : ℤ) ∧ c' = c) := by
  obtain ⟨uw, iw, sd, iv, wf⟩ := d
  subst h1 h2 h3 h4
  have s0 : ScatterDims.start ⟨[1], [0], [0], 1, wf⟩ (ix2 e c') idx 0 = (idx (ix2 e 0)).toInt := by
    refine congrArg (fun q => (idx q).toInt) (funext fun b => ?_)
    match b with
    | ⟨0, _⟩ => rfl
    | ⟨1, _⟩ => rfl
  have s1 : ScatterDims.start ⟨[1], [0], [0], 1, wf⟩ (ix2 e c') idx 1 = 0 := rfl
  have w0 : ScatterDims.window ⟨[1], [0], [0], 1, wf⟩ (ix2 e c') 0 = 0 := rfl
  have w1 : ScatterDims.window ⟨[1], [0], [0], 1, wf⟩ (ix2 e c') 1 = c'.val := rfl
  rw [eq_iff_iff, ScatterDims.resultIdx?]
  constructor
  · intro q
    split at q
    · rename_i hb
      have q' := Option.some.inj q
      have q0 := congrArg Fin.val (congrFun q' 0)
      have q1 := congrArg Fin.val (congrFun q' 1)
      have b0 := (hb 0).1
      rw [s0, w0] at b0
      have e0 : ((ScatterDims.start ⟨[1], [0], [0], 1, wf⟩ (ix2 e c') idx 0 + ScatterDims.window ⟨[1], [0], [0], 1, wf⟩ (ix2 e c') 0).toNat) = r.val := q0
      have e1 : ((ScatterDims.start ⟨[1], [0], [0], 1, wf⟩ (ix2 e c') idx 1 + ScatterDims.window ⟨[1], [0], [0], 1, wf⟩ (ix2 e c') 1).toNat) = c.val := q1
      rw [s0, w0] at e0
      rw [s1, w1] at e1
      exact ⟨by omega, Fin.ext (by omega)⟩
    · exact nomatch q
  · rintro ⟨hr, rfl⟩
    have hR := r.isLt
    have hC := c'.isLt
    rw [dif_pos]
    · refine congrArg some (funext fun a => Fin.ext ?_)
      match a with
      | ⟨0, _⟩ =>
        show (ScatterDims.start ⟨[1], [0], [0], 1, wf⟩ (ix2 e c') idx 0 + ScatterDims.window ⟨[1], [0], [0], 1, wf⟩ (ix2 e c') 0).toNat = r.val
        rw [s0, w0, hr]; omega
      | ⟨1, _⟩ =>
        show (ScatterDims.start ⟨[1], [0], [0], 1, wf⟩ (ix2 e c') idx 1 + ScatterDims.window ⟨[1], [0], [0], 1, wf⟩ (ix2 e c') 1).toNat = c'.val
        rw [s1, w1]; omega
    · intro a
      match a with
      | ⟨0, _⟩ =>
        show 0 ≤ ScatterDims.start ⟨[1], [0], [0], 1, wf⟩ (ix2 e c') idx 0 + ScatterDims.window ⟨[1], [0], [0], 1, wf⟩ (ix2 e c') 0
          ∧ ScatterDims.start ⟨[1], [0], [0], 1, wf⟩ (ix2 e c') idx 0 + ScatterDims.window ⟨[1], [0], [0], 1, wf⟩ (ix2 e c') 0 < (R : ℤ)
        rw [s0, w0, hr]; omega
      | ⟨1, _⟩ =>
        show 0 ≤ ScatterDims.start ⟨[1], [0], [0], 1, wf⟩ (ix2 e c') idx 1 + ScatterDims.window ⟨[1], [0], [0], 1, wf⟩ (ix2 e c') 1
          ∧ ScatterDims.start ⟨[1], [0], [0], 1, wf⟩ (ix2 e c') idx 1 + ScatterDims.window ⟨[1], [0], [0], 1, wf⟩ (ix2 e c') 1 < (C : ℤ)
        rw [s1, w1]; omega

/-- Rows added at the rows an index column names, read at an entry. -/
theorem row_added (h1 : d.updateWindowDims = [1]) (h2 : d.insertedWindowDims = [0]) (h3 : d.scatterDimsToOperandDims = [0]) (h4 : d.indexVectorDim = 1)
    (x : FVec Ideal (matS R C) .f32) (idx : IVec (matS n 1) 32) (upd : FVec Ideal (matS n C) .f32) (r : Fin R) (c : Fin C) :
    Host.scatterAdd d x idx upd (ix2 r c) = x (ix2 r c) + ∑ e : Fin n, if (idx (ix2 e 0)).toInt = (r.val : ℤ) then upd (ix2 e c) else 0 := by
  have e : Host.scatterAdd d x idx upd (ix2 r c)
      = x (ix2 r c) + ∑ j ∈ Finset.univ.filter (fun j => d.resultIdx? j idx = some (ix2 r c)), upd j := rfl
  rw [e, Finset.sum_filter, ValueIdx.sum_idx2]
  refine congrArg _ (Finset.sum_congr rfl fun e _ => ?_)
  refine (Finset.sum_congr rfl fun c' _ => if_congr (iff_of_eq (row_place d h1 h2 h3 h4 idx e c' r c)) rfl rfl).trans ?_
  by_cases h : (idx (ix2 e 0)).toInt = (r.val : ℤ)
  · simp [h]; rfl
  · simp [h]

end

section
variable {R C r c k : ℕ}

/-- Where entry `(a, b)` of a block goes when it is laid at the origin: to the entry of the same place. -/
theorem block_place (d : ScatterDims (matS R C) (vecS k) (matS r c)) (h1 : d.updateWindowDims = [0, 1]) (h2 : d.insertedWindowDims = [])
    (idx : IVec (vecS k) 32) (h0 : ∀ i, idx i = 0#32) (hR : r ≤ R) (hC : c ≤ C) (a : Fin r) (b : Fin c) :
    d.resultIdx? (ix2 a b) idx = some (ix2 (⟨a.val, by omega⟩ : Fin R) (⟨b.val, by omega⟩ : Fin C)) := by
  obtain ⟨uw, iw, sd, iv, wf⟩ := d
  dsimp only at h1 h2
  subst h1 h2
  have s : ∀ q, ScatterDims.start ⟨[0, 1], [], sd, iv, wf⟩ (ix2 a b) idx q = 0 := fun q => by
    rw [ScatterDims.start]
    split
    · rw [h0]; rfl
    · rfl
  have w0 : ScatterDims.window ⟨[0, 1], [], sd, iv, wf⟩ (ix2 a b) 0 = a.val := rfl
  have w1 : ScatterDims.window ⟨[0, 1], [], sd, iv, wf⟩ (ix2 a b) 1 = b.val := rfl
  have ha := a.isLt
  have hb := b.isLt
  rw [ScatterDims.resultIdx?, dif_pos]
  · refine congrArg some (funext fun q => Fin.ext ?_)
    dsimp only
    rw [s]
    match q with
    | ⟨0, _⟩ => exact (congrArg (fun n : ℕ => (0 + (n : ℤ)).toNat) w0).trans (by simp)
    | ⟨1, _⟩ => exact (congrArg (fun n : ℕ => (0 + (n : ℤ)).toNat) w1).trans (by simp)
  · intro q
    rw [s]
    match q with
    | ⟨0, _⟩ =>
      show 0 ≤ 0 + (ScatterDims.window ⟨[0, 1], [], sd, iv, wf⟩ (ix2 a b) 0 : ℤ) ∧ 0 + (ScatterDims.window ⟨[0, 1], [], sd, iv, wf⟩ (ix2 a b) 0 : ℤ) < (R : ℤ)
      rw [w0]; omega
    | ⟨1, _⟩ =>
      show 0 ≤ 0 + (ScatterDims.window ⟨[0, 1], [], sd, iv, wf⟩ (ix2 a b) 1 : ℤ) ∧ 0 + (ScatterDims.window ⟨[0, 1], [], sd, iv, wf⟩ (ix2 a b) 1 : ℤ) < (C : ℤ)
      rw [w1]; omega

/-- A block laid at the origin, read at an entry the block covers. -/
theorem block_laid {α : Type} (d : ScatterDims (matS R C) (vecS k) (matS r c)) (h1 : d.updateWindowDims = [0, 1]) (h2 : d.insertedWindowDims = [])
    (idx : IVec (vecS k) 32) (h0 : ∀ i, idx i = 0#32) (hR : r ≤ R) (hC : c ≤ C) (x : (matS R C).Idx → α) (upd : (matS r c).Idx → α) (a : Fin r) (b : Fin c) :
    Host.scatter d (fun _ b => b) x idx upd (ix2 (⟨a.val, by omega⟩ : Fin R) (⟨b.val, by omega⟩ : Fin C)) = upd (ix2 a b) := by
  refine Routing.scatter_set_hit d x idx upd _ _ (fun q hq => ?_) (ix2 a b) (block_place d h1 h2 idx h0 hR hC a b)
  obtain ⟨q0, q1, rfl⟩ : ∃ (q0 : Fin r) (q1 : Fin c), q = ix2 q0 q1 := ⟨q 0, q 1, ValueIdx.eq_ix2 q⟩
  rw [block_place d h1 h2 idx h0 hR hC] at hq
  have q' := Option.some.inj hq
  have e0 : q0.val = a.val := by have t := congrArg Fin.val (congrFun q' 0); exact t
  have e1 : q1.val = b.val := by have t := congrArg Fin.val (congrFun q' 1); exact t
  rw [Fin.ext e0, Fin.ext e1]

/-- Where entry `a` of a sequence goes when it is laid at the origin. -/
theorem seq_place (d : ScatterDims (vecS R) (vecS k) (vecS r)) (h1 : d.updateWindowDims = [0]) (h2 : d.insertedWindowDims = [])
    (idx : IVec (vecS k) 32) (h0 : ∀ i, idx i = 0#32) (hR : r ≤ R) (a : Fin r) :
    d.resultIdx? (ix1 a) idx = some (ix1 (⟨a.val, by omega⟩ : Fin R)) := by
  obtain ⟨uw, iw, sd, iv, wf⟩ := d
  dsimp only at h1 h2
  subst h1 h2
  have s : ∀ q, ScatterDims.start ⟨[0], [], sd, iv, wf⟩ (ix1 a) idx q = 0 := fun q => by
    rw [ScatterDims.start]
    split
    · rw [h0]; rfl
    · rfl
  have w0 : ScatterDims.window ⟨[0], [], sd, iv, wf⟩ (ix1 a) 0 = a.val := rfl
  have ha := a.isLt
  rw [ScatterDims.resultIdx?, dif_pos]
  · refine congrArg some (funext fun q => Fin.ext ?_)
    dsimp only
    rw [s]
    match q with
    | ⟨0, _⟩ => exact (congrArg (fun n : ℕ => (0 + (n : ℤ)).toNat) w0).trans (by simp)
  · intro q
    rw [s]
    match q with
    | ⟨0, _⟩ =>
      show 0 ≤ 0 + (ScatterDims.window ⟨[0], [], sd, iv, wf⟩ (ix1 a) 0 : ℤ) ∧ 0 + (ScatterDims.window ⟨[0], [], sd, iv, wf⟩ (ix1 a) 0 : ℤ) < (R : ℤ)
      rw [w0]; omega

/-- A sequence laid at the origin, read at an entry it covers. -/
theorem seq_laid {α : Type} (d : ScatterDims (vecS R) (vecS k) (vecS r)) (h1 : d.updateWindowDims = [0]) (h2 : d.insertedWindowDims = [])
    (idx : IVec (vecS k) 32) (h0 : ∀ i, idx i = 0#32) (hR : r ≤ R) (x : (vecS R).Idx → α) (upd : (vecS r).Idx → α) (a : Fin r) :
    Host.scatter d (fun _ b => b) x idx upd (ix1 (⟨a.val, by omega⟩ : Fin R)) = upd (ix1 a) := by
  refine Routing.scatter_set_hit d x idx upd _ _ (fun q hq => ?_) (ix1 a) (seq_place d h1 h2 idx h0 hR a)
  obtain ⟨q0, rfl⟩ : ∃ q0 : Fin r, q = ix1 q0 := ⟨q 0, ValueIdx.eq_ix1 q⟩
  rw [seq_place d h1 h2 idx h0 hR] at hq
  have e0 : q0.val = a.val := by have t := congrArg Fin.val (congrFun (Option.some.inj hq) 0); exact t
  rw [Fin.ext e0]

/-- and at an entry past it. -/
theorem seq_beyond {α : Type} (d : ScatterDims (vecS R) (vecS k) (vecS r)) (h1 : d.updateWindowDims = [0]) (h2 : d.insertedWindowDims = [])
    (idx : IVec (vecS k) 32) (h0 : ∀ i, idx i = 0#32) (hR : r ≤ R) (x : (vecS R).Idx → α) (upd : (vecS r).Idx → α) (a : Fin R) (ha : r ≤ a.val) :
    Host.scatter d (fun _ b => b) x idx upd (ix1 a) = x (ix1 a) := by
  refine Routing.scatter_set_miss d x idx upd _ fun q hq => ?_
  obtain ⟨q0, rfl⟩ : ∃ q0 : Fin r, q = ix1 q0 := ⟨q 0, ValueIdx.eq_ix1 q⟩
  rw [seq_place d h1 h2 idx h0 hR] at hq
  have e0 : q0.val = a.val := by have t := congrArg Fin.val (congrFun (Option.some.inj hq) 0); exact t
  have hq0 := q0.isLt
  omega

end

end Cert.Gin

end
-- ==== Proof.Gin.Holds.lean ====
/-
  The arguments as the network's data.
-/
module

public import proofs.«01_k».proof.Proof.Gin.Spec
public import proofs.«01_k».proof.Proof.Gin.Places

@[expose] public section

noncomputable section

namespace Cert.Gin

open Idealize.ShloMosaic Idealize.SL.Sem

/-- A table of three axes. -/
abbrev cubS (a b c : ℕ) : Shape := ⟨3, ![a, b, c]⟩

/-- The arguments hold the network's data. -/
structure Holds (A0 : IVec (matS 10000 9) 32) (A1 : IVec (matS 2 160000) 32) (A3 : IVec (vecS 10000) 32) (A4 : FVec Ideal (cubS 9 64 256) .f32)
    (A6 : FVec Ideal (cubS 3 256 512) .f32) (A7 : FVec Ideal (matS 3 512) .f32) (A8 : FVec Ideal (cubS 3 512 256) .f32)
    (A9 A10 A11 : FVec Ideal (matS 3 256) .f32) (N : Net) : Prop where
  x : ∀ r f, A0 (ix2 r f) = BitVec.ofNat 32 (N.x r f).val
  src : ∀ e, A1 (ix2 0 e) = BitVec.ofNat 32 (N.src e).val
  dst : ∀ e, A1 (ix2 1 e) = N.dst e
  batch : ∀ r, A3 (ix1 r) = N.batch r
  emb : ∀ f v j, A4 (ix3 f v j) = ((N.emb f v j : ℝ) : EReal)
  W1 : ∀ i l k, A6 (ix3 i l k) = ((N.W1 i l k : ℝ) : EReal)
  b1 : ∀ i k, A7 (ix2 i k) = ((N.b1 i k : ℝ) : EReal)
  W2 : ∀ i k j, A8 (ix3 i k j) = ((N.W2 i k j : ℝ) : EReal)
  b2 : ∀ i j, A9 (ix2 i j) = ((N.b2 i j : ℝ) : EReal)
  g : ∀ i j, A10 (ix2 i j) = ((N.g i j : ℝ) : EReal)
  be : ∀ i j, A11 (ix2 i j) = ((N.be i j : ℝ) : EReal)

/-- One entry of the result: the graph's mean features through the last linear map, cut at zero. -/
def outE (N : Net) (Wd : FVec Ideal (matS 256 256) .f32) (bd : FVec Ideal (vecS 256) .f32) (g j : Fin 256) : EReal :=
  max (∑ x : Fin 256, ((N.pool g x / max (N.cnt g) 1 : ℝ) : EReal) * Wd (ix2 x j) + bd (ix1 j)) 0

/-- A small word is not negative. -/
theorem slt_zero (n : ℕ) (h : n < 2 ^ 31) : IntOp.cmpi .slt (BitVec.ofNat 32 n) 0#32 = 0#1 := by
  show BitVec.ofBool (BitVec.slt _ _) = _
  rw [BitVec.slt, toInt_ofNat _ h]
  have : ¬ ((n : ℤ) < 0) := by omega
  simp [this]

/-- A real picked out of a sum of EReals. -/
theorem ite_coe (p : Prop) [Decidable p] (a : ℝ) : (if p then (a : EReal) else 0) = ((if p then a else 0 : ℝ) : EReal) := by
  split <;> simp

end Cert.Gin

end
-- ==== Proof.Gin.HostVals.lean ====
/-
  What the host stretches leave in the calls' operands.
-/
module

public import proofs.«01_k».proof.Proof.Gen.KernelIdeal.Launch
public import proofs.«01_k».proof.Proof.Gin.Arr0
public import proofs.«01_k».proof.Proof.Gin.Arr7
public import proofs.«01_k».proof.Proof.Gin.Hosts
public import proofs.«01_k».proof.Proof.Gin.Holds
public import Idealize.ShloMosaic.Lib.StableHlo.RunRead

@[expose] public section

set_option maxRecDepth 16384

noncomputable section

namespace Cert.Gin

open Cert.KernelIdeal Cert.KernelIdeal.Gen
open Idealize.ShloMosaic Idealize.ShloMosaic.TcCoe Idealize.SL.Sem

/-- The messages added at their destinations, laid over the padded rows. -/
def aggTerm (X : FVec Ideal S10240x256 .f32) (s d : IVec S160000 32) : FVec Ideal S10240x256 .f32 :=
  Host.scatter scatter_S10240x256_S1_S10000x256_01_n_0_0 (fun _ b => b)
    (broadcastInDim S10240x256 ![] bcast_S_S10240x256 (constant (F := Ideal) S_ .f32 0x00000000#32))
    (broadcastInDim S1 ![] bcast_S_S1 (constantI S_ 32 0#32))
    (Host.scatterAdd scatter_S10000x256_S160000x1_S160000x256_1_0_0_1
      (broadcastInDim S10000x256 ![] bcast_S_S10000x256 (constant (F := Ideal) S_ .f32 0x00000000#32))
      (broadcastInDim S160000x1 ![0] bcast_S160000_S160000x1_0 d)
      (Host.gather gather_S10240x256_S160000x1_S160000x256_1_0_n_n_0_1_1256 X
        (broadcastInDim S160000x1 ![0] bcast_S160000_S160000x1_0
          (select (cmpi .slt s (broadcastInDim S160000 ![] bcast_S_S160000 (constantI S_ 32 0#32)))
            (addi s (broadcastInDim S160000 ![] bcast_S_S160000 (constantI S_ 32 10240#32))) s))))

/-- It holds what each node receives. -/
theorem aggTerm_at (X : FVec Ideal S10240x256 .f32) (s d : IVec S160000 32) (N : Net) (h : Fin 10000 → Fin 256 → ℝ) (hX : Rows X h)
    (hs : ∀ e, s (ix1 e) = BitVec.ofNat 32 (N.src e).val) (hd : ∀ e, d (ix1 e) = N.dst e) :
    Rows (aggTerm X s d) (N.agg h) := by
  intro r hr j
  refine (block_laid (R := 10240) (C := 256) (r := 10000) (c := 256) scatter_S10240x256_S1_S10000x256_01_n_0_0 rfl rfl _ (fun i => rfl) (by decide) (by decide) _ _
    ⟨r.val, hr⟩ j).trans ?_
  refine (row_added (R := 10000) (C := 256) (n := 160000) scatter_S10000x256_S160000x1_S160000x256_1_0_0_1 rfl rfl rfl rfl _ _ _ ⟨r.val, hr⟩ j).trans ?_
  rw [Net.agg, ← sum_coe]
  have z : broadcastInDim S10000x256 ![] bcast_S_S10000x256 (constant (F := Ideal) S_ .f32 0x00000000#32) (ix2 ⟨r.val, hr⟩ j) = (0 : EReal) := by
    pointwise
  rw [z, zero_add]
  refine Finset.sum_congr rfl fun e _ => ?_
  have hde : broadcastInDim S160000x1 ![0] bcast_S160000_S160000x1_0 d (ix2 e 0) = N.dst e := by
    pointwise
    exact hd e
  have hse : broadcastInDim S160000x1 ![0] bcast_S160000_S160000x1_0
          (select (cmpi .slt s (broadcastInDim S160000 ![] bcast_S_S160000 (constantI S_ 32 0#32)))
            (addi s (broadcastInDim S160000 ![] bcast_S_S160000 (constantI S_ 32 10240#32))) s) (ix2 e 0) = BitVec.ofNat 32 (N.src e).val := by
    pointwise
    rw [hs, slt_zero _ (by have := (N.src e).isLt; omega)]
    rfl
  rw [hde, ← ite_coe]
  refine if_congr Iff.rfl ?_ rfl
  · refine (Routing.gather_row (nb := 10240) (B := 256) (n := 160000) gather_S10240x256_S160000x1_S160000x256_1_0_n_n_0_1_1256 rfl rfl rfl rfl rfl X _ e j
      ⟨(N.src e).val, by have := (N.src e).isLt; omega⟩ hse (by decide)).trans ?_
    exact hX ⟨(N.src e).val, _⟩ (N.src e).isLt j

/-- Per-group column sums that add up to `s`. -/
def Col (A : FVec Ideal S8x256 .f32) (s : Fin 256 → ℝ) : Prop := ∀ j, ∑ a, A (ix2 a j) = ((s j : ℝ) : EReal)

theorem Col.congr {A B : FVec Ideal S8x256 .f32} {s : Fin 256 → ℝ} (H : Col B s) (h : A = B) : Col A s := h ▸ H

section
variable (w : Valuation τ sig (Elt Ideal))

/-! ## The first stretch -/

theorem host0_v5 (x : Fin 10000 → Fin 9 → Fin 64) (h : ∀ r f, (w (Proc.devRef .tc main_arg0) : IVec S10000x9 32) (ix2 r f) = BitVec.ofNat 32 (x r f).val) :
    Cats (StableHlo.after hostOps0 w (Proc.devRef .tc main_v5)) x := by
  intro f r hr
  after_reads_simp
  refine (block_laid (R := 16) (C := 10240) (r := 9) (c := 10000) scatter_S16x10240_S2_S9x10000_01_n_01_0 rfl rfl _ (fun i => ?_) (by decide) (by decide) _ _ f ⟨r.val, hr⟩).trans ?_
  · idx_vars i
    pointwise
    split <;> after_reads_simp <;> pointwise
  · pointwise
    exact h _ _

theorem host0_v6 (f : Fin 9) (v : Fin 64) (j : Fin 256) :
    (StableHlo.after hostOps0 w (Proc.devRef .tc main_v6) : FVec Ideal S576x256 .f32) (ix2 ⟨64 * f.val + v.val, by omega⟩ j)
      = (w (Proc.devRef .tc main_arg4) : FVec Ideal S9x64x256 .f32) (ix3 f v j) := by
  after_reads_simp
  pointwise

theorem host0_v8 (i : Fin 3) (a : Fin 8) (k : Fin 512) :
    (StableHlo.after hostOps0 w (Proc.devRef .tc main_v8) : FVec Ideal S3x8x512 .f32) (ix3 i a k)
      = (w (Proc.devRef .tc main_arg7) : FVec Ideal S3x512 .f32) (ix2 i k) := by
  after_reads_simp
  pointwise

theorem host0_v10 (i : Fin 3) (a : Fin 8) (k : Fin 256) :
    (StableHlo.after hostOps0 w (Proc.devRef .tc main_v10) : FVec Ideal S3x8x256 .f32) (ix3 i a k)
      = (w (Proc.devRef .tc main_arg9) : FVec Ideal S3x256 .f32) (ix2 i k) := by
  after_reads_simp
  pointwise

theorem host0_v12 (i : Fin 3) (a : Fin 8) (k : Fin 256) :
    (StableHlo.after hostOps0 w (Proc.devRef .tc main_v12) : FVec Ideal S3x8x256 .f32) (ix3 i a k)
      = (w (Proc.devRef .tc main_arg10) : FVec Ideal S3x256 .f32) (ix2 i k) := by
  after_reads_simp
  pointwise

theorem host0_v14 (i : Fin 3) (a : Fin 8) (k : Fin 256) :
    (StableHlo.after hostOps0 w (Proc.devRef .tc main_v14) : FVec Ideal S3x8x256 .f32) (ix3 i a k)
      = (w (Proc.devRef .tc main_arg11) : FVec Ideal S3x256 .f32) (ix2 i k) := by
  after_reads_simp
  pointwise

theorem host0_v16 (a : Fin 8) (k : Fin 256) :
    (StableHlo.after hostOps0 w (Proc.devRef .tc main_v16) : FVec Ideal S8x256 .f32) (ix2 a k)
      = (w (Proc.devRef .tc main_arg13) : FVec Ideal S256 .f32) (ix1 k) := by
  after_reads_simp
  pointwise

theorem host0_v19 (b : Fin 10000 → BitVec 32) (h : ∀ r, (w (Proc.devRef .tc main_arg3) : IVec S10000 32) (ix1 r) = b r) (r : Fin 10240) :
    (StableHlo.after hostOps0 w (Proc.devRef .tc main_v19) : IVec S10240 32) (ix1 r) = word b r.val := by
  after_reads_simp
  unfold word
  split
  · rename_i hr
    exact (seq_laid (R := 10240) (r := 10000) scatter_S10240_S1_S10000_0_n_0_0 rfl rfl _ (fun i => rfl) (by decide) _ _ ⟨r.val, hr⟩).trans (h _)
  · rename_i hr
    refine (seq_beyond (R := 10240) (r := 10000) scatter_S10240_S1_S10000_0_n_0_0 rfl rfl _ (fun i => rfl) (by decide) _ _ r (by omega)).trans ?_
    pointwise

theorem host0_v20 (b : Fin 10000 → BitVec 32) (h : ∀ r, (w (Proc.devRef .tc main_arg3) : IVec S10000 32) (ix1 r) = b r) :
    Ids (StableHlo.after hostOps0 w (Proc.devRef .tc main_v20)) b := by
  intro t x
  have e : (StableHlo.after hostOps0 w (Proc.devRef .tc main_v20) : IVec S40x1x256 32)
      = shapeCast S40x1x256 (StableHlo.after hostOps0 w (Proc.devRef .tc main_v19) : IVec S10240 32) shapeCasts_S10240_S40x1x256 := by
    after_reads_simp
    rfl
  refine (congrFun e _).trans ?_
  refine Eq.trans ?_ (host0_v19 w b h ⟨t.val * 256 + x.val, by omega⟩)
  generalize (StableHlo.after hostOps0 w (Proc.devRef .tc main_v19) : IVec S10240 32) = y
  pointwise

theorem host0_v22 (e : Fin 160000) :
    (StableHlo.after hostOps0 w (Proc.devRef .tc main_v22) : IVec S160000 32) (ix1 e)
      = (w (Proc.devRef .tc main_arg1) : IVec S2x160000 32) (ix2 0 e) := by
  after_reads_simp
  pointwise

theorem host0_v24 (e : Fin 160000) :
    (StableHlo.after hostOps0 w (Proc.devRef .tc main_v24) : IVec S160000 32) (ix1 e)
      = (w (Proc.devRef .tc main_arg1) : IVec S2x160000 32) (ix2 1 e) := by
  after_reads_simp
  pointwise

/-- What the first stretch prepares and the calls leave alone. -/
structure Fixed (N : Net) (Wd : FVec Ideal S256x256 .f32) (bd : FVec Ideal S256 .f32) : Prop where
  src : ∀ e, (w (Proc.devRef .tc main_v22) : IVec S160000 32) (ix1 e) = BitVec.ofNat 32 (N.src e).val
  dst : ∀ e, (w (Proc.devRef .tc main_v24) : IVec S160000 32) (ix1 e) = N.dst e
  ids : Ids (w (Proc.devRef .tc main_v20)) N.batch
  W1 : ∀ i l k, (w (Proc.devRef .tc main_arg6) : FVec Ideal S3x256x512 .f32) (ix3 i l k) = ((N.W1 i l k : ℝ) : EReal)
  b1 : ∀ i k, (w (Proc.devRef .tc main_v8) : FVec Ideal S3x8x512 .f32) (ix3 i 0 k) = ((N.b1 i k : ℝ) : EReal)
  W2 : ∀ i k j, (w (Proc.devRef .tc main_arg8) : FVec Ideal S3x512x256 .f32) (ix3 i k j) = ((N.W2 i k j : ℝ) : EReal)
  b2 : ∀ i j, (w (Proc.devRef .tc main_v10) : FVec Ideal S3x8x256 .f32) (ix3 i 0 j) = ((N.b2 i j : ℝ) : EReal)
  g : ∀ i j, (w (Proc.devRef .tc main_v12) : FVec Ideal S3x8x256 .f32) (ix3 i 0 j) = ((N.g i j : ℝ) : EReal)
  be : ∀ i j, (w (Proc.devRef .tc main_v14) : FVec Ideal S3x8x256 .f32) (ix3 i 0 j) = ((N.be i j : ℝ) : EReal)
  Wd : (w (Proc.devRef .tc main_arg12) : FVec Ideal S256x256 .f32) = Wd
  bd : ∀ j, (w (Proc.devRef .tc main_v16) : FVec Ideal S8x256 .f32) (ix2 0 j) = bd (ix1 j)

/-- Where it lies. -/
abbrev fixedRefs : List (Ref sig .tc) := [main_v22, main_v24, main_v20, main_arg6, main_v8, main_arg8, main_v10, main_v12, main_v14, main_arg12, main_v16]

variable {w} in
theorem Fixed.keep {N : Net} {Wd : FVec Ideal S256x256 .f32} {bd : FVec Ideal S256 .f32} (H : Fixed w N Wd bd) (w' : Valuation τ sig (Elt Ideal))
    (h : ∀ r ∈ fixedRefs, w' (Proc.devRef .tc r) = w (Proc.devRef .tc r)) : Fixed w' N Wd bd where
  src e := (congrFun (h main_v22 (by decide)) _).trans (H.src e)
  dst e := (congrFun (h main_v24 (by decide)) _).trans (H.dst e)
  ids t x := (congrFun (h main_v20 (by decide)) _).trans (H.ids t x)
  W1 i l k := (congrFun (h main_arg6 (by decide)) _).trans (H.W1 i l k)
  b1 i k := (congrFun (h main_v8 (by decide)) _).trans (H.b1 i k)
  W2 i k j := (congrFun (h main_arg8 (by decide)) _).trans (H.W2 i k j)
  b2 i j := (congrFun (h main_v10 (by decide)) _).trans (H.b2 i j)
  g i j := (congrFun (h main_v12 (by decide)) _).trans (H.g i j)
  be i j := (congrFun (h main_v14 (by decide)) _).trans (H.be i j)
  Wd := (h main_arg12 (by decide)).trans H.Wd
  bd j := (congrFun (h main_v16 (by decide)) _).trans (H.bd j)

/-- The first stretch prepares it. -/
theorem host0_fixed (N : Net) (H : Holds (w (Proc.devRef .tc main_arg0)) (w (Proc.devRef .tc main_arg1)) (w (Proc.devRef .tc main_arg3)) (w (Proc.devRef .tc main_arg4))
    (w (Proc.devRef .tc main_arg6)) (w (Proc.devRef .tc main_arg7)) (w (Proc.devRef .tc main_arg8)) (w (Proc.devRef .tc main_arg9))
    (w (Proc.devRef .tc main_arg10)) (w (Proc.devRef .tc main_arg11)) N) :
    Fixed (StableHlo.after hostOps0 w) N (w (Proc.devRef .tc main_arg12)) (w (Proc.devRef .tc main_arg13)) where
  src e := (host0_v22 w e).trans (H.src e)
  dst e := (host0_v24 w e).trans (H.dst e)
  ids := host0_v20 w N.batch H.batch
  W1 i l k := (congrFun (StableHlo.after_of_writes_sub hostOps0 w hostOps0_writes (r := main_arg6) (by decide +kernel)) _).trans (H.W1 i l k)
  b1 i k := (host0_v8 w i 0 k).trans (H.b1 i k)
  W2 i k j := (congrFun (StableHlo.after_of_writes_sub hostOps0 w hostOps0_writes (r := main_arg8) (by decide +kernel)) _).trans (H.W2 i k j)
  b2 i j := (host0_v10 w i 0 j).trans (H.b2 i j)
  g i j := (host0_v12 w i 0 j).trans (H.g i j)
  be i j := (host0_v14 w i 0 j).trans (H.be i j)
  Wd := StableHlo.after_of_writes_sub hostOps0 w hostOps0_writes (r := main_arg12) (by decide +kernel)
  bd j := host0_v16 w 0 j

/-- And the encoder's table. -/
theorem host0_table (N : Net) (h : ∀ f v j, (w (Proc.devRef .tc main_arg4) : FVec Ideal S9x64x256 .f32) (ix3 f v j) = ((N.emb f v j : ℝ) : EReal)) :
    Table (StableHlo.after hostOps0 w (Proc.devRef .tc main_v6)) N.emb := fun f v j => (host0_v6 w f v j).trans (h f v j)

/-! ## The stretches before the layers' calls -/

theorem host1_agg : StableHlo.after hostOps1 w (Proc.devRef .tc main_v38)
    = aggTerm (w (Proc.devRef .tc main_v25)) (w (Proc.devRef .tc main_v22)) (w (Proc.devRef .tc main_v24)) := by
  after_reads_simp
  rfl

theorem host1_mlp (N : Net) (Wd : FVec Ideal S256x256 .f32) (bd : FVec Ideal S256 .f32) (H : Fixed w N Wd bd) (h : Fin 10000 → Fin 256 → ℝ)
    (hX : Rows (w (Proc.devRef .tc main_v25)) h) :
    MlpIn (StableHlo.after hostOps1 w (Proc.devRef .tc main_v25)) (StableHlo.after hostOps1 w (Proc.devRef .tc main_v38)) (StableHlo.after hostOps1 w (Proc.devRef .tc main_v40))
      (StableHlo.after hostOps1 w (Proc.devRef .tc main_v42)) (StableHlo.after hostOps1 w (Proc.devRef .tc main_v44)) (StableHlo.after hostOps1 w (Proc.devRef .tc main_v46)) N 0 h where
  h0 r hr j := (congrFun (StableHlo.after_of_writes_sub hostOps1 w hostOps1_writes (r := main_v25) (by decide +kernel)) _).trans (hX r hr j)
  h1 := by
    rw [host1_agg]
    exact aggTerm_at _ _ _ N h hX H.src H.dst
  h2 l k := by
    refine Eq.trans ?_ (H.W1 0 l k)
    after_reads_simp
    pointwise
  h3 k := by
    refine Eq.trans ?_ (H.b1 0 k)
    after_reads_simp
    pointwise
  h4 k j := by
    refine Eq.trans ?_ (H.W2 0 k j)
    after_reads_simp
    pointwise
  h5 j := by
    refine Eq.trans ?_ (H.b2 0 j)
    after_reads_simp
    pointwise

theorem host3_agg : StableHlo.after hostOps3 w (Proc.devRef .tc main_v65)
    = aggTerm (w (Proc.devRef .tc main_v52)) (w (Proc.devRef .tc main_v22)) (w (Proc.devRef .tc main_v24)) := by
  after_reads_simp
  rfl

theorem host3_mlp (N : Net) (Wd : FVec Ideal S256x256 .f32) (bd : FVec Ideal S256 .f32) (H : Fixed w N Wd bd) (h : Fin 10000 → Fin 256 → ℝ)
    (hX : Rows (w (Proc.devRef .tc main_v52)) h) :
    MlpIn (StableHlo.after hostOps3 w (Proc.devRef .tc main_v52)) (StableHlo.after hostOps3 w (Proc.devRef .tc main_v65)) (StableHlo.after hostOps3 w (Proc.devRef .tc main_v67))
      (StableHlo.after hostOps3 w (Proc.devRef .tc main_v69)) (StableHlo.after hostOps3 w (Proc.devRef .tc main_v71)) (StableHlo.after hostOps3 w (Proc.devRef .tc main_v73)) N 1 h where
  h0 r hr j := (congrFun (StableHlo.after_of_writes_sub hostOps3 w hostOps3_writes (r := main_v52) (by decide +kernel)) _).trans (hX r hr j)
  h1 := by
    rw [host3_agg]
    exact aggTerm_at _ _ _ N h hX H.src H.dst
  h2 l k := by
    refine Eq.trans ?_ (H.W1 1 l k)
    after_reads_simp
    pointwise
  h3 k := by
    refine Eq.trans ?_ (H.b1 1 k)
    after_reads_simp
    pointwise
  h4 k j := by
    refine Eq.trans ?_ (H.W2 1 k j)
    after_reads_simp
    pointwise
  h5 j := by
    refine Eq.trans ?_ (H.b2 1 j)
    after_reads_simp
    pointwise

theorem host5_agg : StableHlo.after hostOps5 w (Proc.devRef .tc main_v92)
    = aggTerm (w (Proc.devRef .tc main_v79)) (w (Proc.devRef .tc main_v22)) (w (Proc.devRef .tc main_v24)) := by
  after_reads_simp
  rfl

theorem host5_mlp (N : Net) (Wd : FVec Ideal S256x256 .f32) (bd : FVec Ideal S256 .f32) (H : Fixed w N Wd bd) (h : Fin 10000 → Fin 256 → ℝ)
    (hX : Rows (w (Proc.devRef .tc main_v79)) h) :
    MlpIn (StableHlo.after hostOps5 w (Proc.devRef .tc main_v79)) (StableHlo.after hostOps5 w (Proc.devRef .tc main_v92)) (StableHlo.after hostOps5 w (Proc.devRef .tc main_v94))
      (StableHlo.after hostOps5 w (Proc.devRef .tc main_v96)) (StableHlo.after hostOps5 w (Proc.devRef .tc main_v98)) (StableHlo.after hostOps5 w (Proc.devRef .tc main_v100)) N 2 h where
  h0 r hr j := (congrFun (StableHlo.after_of_writes_sub hostOps5 w hostOps5_writes (r := main_v79) (by decide +kernel)) _).trans (hX r hr j)
  h1 := by
    rw [host5_agg]
    exact aggTerm_at _ _ _ N h hX H.src H.dst
  h2 l k := by
    refine Eq.trans ?_ (H.W1 2 l k)
    after_reads_simp
    pointwise
  h3 k := by
    refine Eq.trans ?_ (H.b1 2 k)
    after_reads_simp
    pointwise
  h4 k j := by
    refine Eq.trans ?_ (H.W2 2 k j)
    after_reads_simp
    pointwise
  h5 j := by
    refine Eq.trans ?_ (H.b2 2 j)
    after_reads_simp
    pointwise

theorem host2_bn (N : Net) (Wd : FVec Ideal S256x256 .f32) (bd : FVec Ideal S256 .f32) (H : Fixed w N Wd bd) (z : Fin 10000 → Fin 256 → ℝ)
    (hZ : Rows (w (Proc.devRef .tc main_v47_0)) z)
    (hS : Col (w (Proc.devRef .tc main_v47_1)) (colSum z))
    (hQ : Col (w (Proc.devRef .tc main_v47_2)) (colSq z)) :
    BnIn (StableHlo.after hostOps2 w (Proc.devRef .tc main_v47_0)) (StableHlo.after hostOps2 w (Proc.devRef .tc main_v47_1))
      (StableHlo.after hostOps2 w (Proc.devRef .tc main_v47_2)) (StableHlo.after hostOps2 w (Proc.devRef .tc main_v49)) (StableHlo.after hostOps2 w (Proc.devRef .tc main_v51)) N 0 z where
  h0 r hr j := (congrFun (StableHlo.after_of_writes_sub hostOps2 w hostOps2_writes (r := main_v47_0) (by decide +kernel)) _).trans (hZ r hr j)
  h1 := hS.congr (StableHlo.after_of_writes_sub hostOps2 w hostOps2_writes (r := main_v47_1) (by decide +kernel))
  h2 := hQ.congr (StableHlo.after_of_writes_sub hostOps2 w hostOps2_writes (r := main_v47_2) (by decide +kernel))
  h3 j := by
    refine Eq.trans ?_ (H.g 0 j)
    after_reads_simp
    pointwise
  h4 j := by
    refine Eq.trans ?_ (H.be 0 j)
    after_reads_simp
    pointwise

theorem host4_bn (N : Net) (Wd : FVec Ideal S256x256 .f32) (bd : FVec Ideal S256 .f32) (H : Fixed w N Wd bd) (z : Fin 10000 → Fin 256 → ℝ)
    (hZ : Rows (w (Proc.devRef .tc main_v74_0)) z)
    (hS : Col (w (Proc.devRef .tc main_v74_1)) (colSum z))
    (hQ : Col (w (Proc.devRef .tc main_v74_2)) (colSq z)) :
    BnIn (StableHlo.after hostOps4 w (Proc.devRef .tc main_v74_0)) (StableHlo.after hostOps4 w (Proc.devRef .tc main_v74_1))
      (StableHlo.after hostOps4 w (Proc.devRef .tc main_v74_2)) (StableHlo.after hostOps4 w (Proc.devRef .tc main_v76)) (StableHlo.after hostOps4 w (Proc.devRef .tc main_v78)) N 1 z where
  h0 r hr j := (congrFun (StableHlo.after_of_writes_sub hostOps4 w hostOps4_writes (r := main_v74_0) (by decide +kernel)) _).trans (hZ r hr j)
  h1 := hS.congr (StableHlo.after_of_writes_sub hostOps4 w hostOps4_writes (r := main_v74_1) (by decide +kernel))
  h2 := hQ.congr (StableHlo.after_of_writes_sub hostOps4 w hostOps4_writes (r := main_v74_2) (by decide +kernel))
  h3 j := by
    refine Eq.trans ?_ (H.g 1 j)
    after_reads_simp
    pointwise
  h4 j := by
    refine Eq.trans ?_ (H.be 1 j)
    after_reads_simp
    pointwise

theorem host6_bn (N : Net) (Wd : FVec Ideal S256x256 .f32) (bd : FVec Ideal S256 .f32) (H : Fixed w N Wd bd) (z : Fin 10000 → Fin 256 → ℝ)
    (hZ : Rows (w (Proc.devRef .tc main_v101_0)) z)
    (hS : Col (w (Proc.devRef .tc main_v101_1)) (colSum z))
    (hQ : Col (w (Proc.devRef .tc main_v101_2)) (colSq z)) :
    BnIn (StableHlo.after hostOps6 w (Proc.devRef .tc main_v101_0)) (StableHlo.after hostOps6 w (Proc.devRef .tc main_v101_1))
      (StableHlo.after hostOps6 w (Proc.devRef .tc main_v101_2)) (StableHlo.after hostOps6 w (Proc.devRef .tc main_v103)) (StableHlo.after hostOps6 w (Proc.devRef .tc main_v105)) N 2 z where
  h0 r hr j := (congrFun (StableHlo.after_of_writes_sub hostOps6 w hostOps6_writes (r := main_v101_0) (by decide +kernel)) _).trans (hZ r hr j)
  h1 := hS.congr (StableHlo.after_of_writes_sub hostOps6 w hostOps6_writes (r := main_v101_1) (by decide +kernel))
  h2 := hQ.congr (StableHlo.after_of_writes_sub hostOps6 w hostOps6_writes (r := main_v101_2) (by decide +kernel))
  h3 j := by
    refine Eq.trans ?_ (H.g 2 j)
    after_reads_simp
    pointwise
  h4 j := by
    refine Eq.trans ?_ (H.be 2 j)
    after_reads_simp
    pointwise

end

end Cert.Gin

end
-- ==== Proof.Gin.Arr1.lean ====
/-
  The first perceptron call: its arrays, from its operands' contents.
-/
module

public import proofs.«01_k».proof.Proof.Gin.Sums
public import proofs.«01_k».proof.Proof.Gin.Region1

@[expose] public section

set_option maxRecDepth 16384

noncomputable section

namespace Cert.Gin

open Cert.KernelIdeal Cert.KernelIdeal.Gen
open Idealize.ShloMosaic Idealize.ShloMosaic.TcCoe Idealize.SL.Sem
open Idealize.ShloMosaic.Pipeline (Dat Cfg Window)

/-- The windows' blocks and the grid's coordinate at each point. -/
theorem idx1 : ∀ t : Fin cfg1.N, (grid1.coords t 0).val = t.val ∧ win1_0.index t = ![t.val, 0] ∧ win1_1.index t = ![t.val, 0]
    ∧ win1_2.index t = ![0, 0] ∧ win1_3.index t = ![0, 0] ∧ win1_4.index t = ![0, 0] ∧ win1_5.index t = ![0, 0] ∧ win1_6.index t = ![t.val, 0] :=
  (by decide +kernel : ∀ t : Fin grid1.N, _)

/-- The last grid point. -/
def end1 : Fin cfg1.N := ⟨39, by rw [show cfg1.N = 40 from N_1]; decide⟩
theorem whole1_7 : (cfg1.win 7).WholeAt end1 := by decide +kernel
theorem whole1_8 : (cfg1.win 8).WholeAt end1 := by decide +kernel

section
variable (V : (c : Dev nD) → (b : Ref sig .tc) → Buf (Elt Ideal) ((c.tc : Thread nD τ).loc b)) (c : Dev nD)

/-! The input blocks, read off their arrays. -/

theorem row1_0 (t : Fin cfg1.N) (r j : Fin 256) (h : t.val * 256 + r.val < 10240) :
    (blk1 V c 0 t : FVec Ideal S256x256 .f32) (ix2 r j) = (V c main_v25 : FVec Ideal S10240x256 .f32) (ix2 ⟨t.val * 256 + r.val, h⟩ j) := by
  blk_ext [blk1, idx1 t]
theorem row1_1 (t : Fin cfg1.N) (r j : Fin 256) (h : t.val * 256 + r.val < 10240) :
    (blk1 V c 1 t : FVec Ideal S256x256 .f32) (ix2 r j) = (V c main_v38 : FVec Ideal S10240x256 .f32) (ix2 ⟨t.val * 256 + r.val, h⟩ j) := by
  blk_ext [blk1, idx1 t]
theorem all1_2 (t : Fin cfg1.N) : (blk1 V c 2 t : FVec Ideal S256x512 .f32) = V c main_v40 := by blk_ext! [blk1, idx1 t]
theorem all1_3 (t : Fin cfg1.N) : (blk1 V c 3 t : FVec Ideal S8x512 .f32) = V c main_v42 := by blk_ext! [blk1, idx1 t]
theorem all1_4 (t : Fin cfg1.N) : (blk1 V c 4 t : FVec Ideal S512x256 .f32) = V c main_v44 := by blk_ext! [blk1, idx1 t]
theorem all1_5 (t : Fin cfg1.N) : (blk1 V c 5 t : FVec Ideal S8x256 .f32) = V c main_v46 := by blk_ext! [blk1, idx1 t]

variable (N : Net) (i : Fin 3) (h : Fin 10000 → Fin 256 → ℝ)
  (H : MlpIn (V c main_v25) (V c main_v38) (V c main_v40) (V c main_v42) (V c main_v44) (V c main_v46) N i h)
include H

/-- The activations' blocks. -/
theorem z1_pad (n : ℕ) (hn : n < 40) (r j : Fin 256) : z1 V c n (ix2 r j) = ((pad (N.act i h) (n * 256 + r.val) j : ℝ) : EReal) := by
  have hN : cfg1.N = 40 := N_1
  obtain ⟨t, rfl⟩ : ∃ t : Fin cfg1.N, t.val = n := ⟨⟨n, by omega⟩, rfl⟩
  have e := (idx1 t).1
  rw [z1_at]
  refine (zBlk_at _ _ _ _ _ _ _ r j (pad h (t.val * 256 + r.val)) (pad (N.agg h) (t.val * 256 + r.val)) (N.W1 i) (N.b1 i) (N.W2 i) (N.b2 i)
    (fun hr l => ?_) (fun hr l => ?_) (fun l k => ?_) (fun k => ?_) (fun k j => ?_) (fun j => ?_)).trans ?_
  · rw [e] at hr; rw [pad, dif_pos hr]; exact (row1_0 V c t r l (by omega)).trans (H.h0 ⟨t.val * 256 + r.val, by omega⟩ hr l)
  · rw [e] at hr; rw [pad, dif_pos hr]; exact (row1_1 V c t r l (by omega)).trans (H.h1 ⟨t.val * 256 + r.val, by omega⟩ hr l)
  · exact (congrFun (all1_2 V c t) _).trans (H.h2 l k)
  · exact (congrFun (all1_3 V c t) _).trans (H.h3 k)
  · exact (congrFun (all1_4 V c t) _).trans (H.h4 k j)
  · exact (congrFun (all1_5 V c t) _).trans (H.h5 j)
  · rw [e]
    by_cases hr : t.val * 256 + r.val < 10000
    · simp only [if_pos hr, pad, dif_pos hr, Net.act]
    · rw [if_neg hr, pad, dif_neg hr, EReal.coe_zero]

/-- The activations' array. -/
theorem z1_arr (A : FVec Ideal S10240x256 .f32) (hA : A = (dat1 V c).arrAt 6 cfg1.N) : RowsPad A (N.act i h) := by
  have e : (dat1 V c).arrAt 6 cfg1.N = fun y : S10240x256.Idx => ((pad (N.act i h) (y 0).val (y 1) : ℝ) : EReal) := by
    refine (dat1 V c).arrAt_eq_of_covers 6 _ (by decide +kernel) fun t _ y => ?_
    have ht := z1_pad V c N i h H t.val (lt_of_lt_of_eq t.isLt N_1) (y 0) (y 1)
    rw [z1_at] at ht
    blk_simp
    rw [after1_6, zOut, View.canon_cons_unit_lit _ _ _ (by decide)]
    have hy : y = ix2 (y 0) (y 1) := by blk_ext
    rw [hy]
    refine ht.trans ?_
    blk_simp [idx1 t]
    congr 2
    apply Fin.ext
    blk_simp [idx1 t]
  intro r j
  exact (congrFun (hA.trans e) (ix2 r j)).trans rfl

/-- The sums' array. -/
theorem s1_arr (A : FVec Ideal S8x256 .f32) (hA : A = (dat1 V c).arrAt 7 cfg1.N) (j : Fin 256) :
    ∑ a : Fin 8, A (ix2 a j) = ((colSum (N.act i h) j : ℝ) : EReal) := by
  rw [← sumAt_total (z1 V c) (N.act i h) (z1_pad V c N i h H) j]
  have e : (dat1 V c).arrAt 7 cfg1.N = (sumAt (z1 V c) 39 : FVec Ideal S8x256 .f32) := by
    refine (dat1 V c).arrAt_eq_of_after_last 7 end1 whole1_7 _ fun j => ?_
    blk_simp
    rw [after1_7]
    rfl
  rw [hA.trans e]

/-- The sums of squares' array. -/
theorem q1_arr (A : FVec Ideal S8x256 .f32) (hA : A = (dat1 V c).arrAt 8 cfg1.N) (j : Fin 256) :
    ∑ a : Fin 8, A (ix2 a j) = ((colSq (N.act i h) j : ℝ) : EReal) := by
  rw [← sqAt_total (z1 V c) (N.act i h) (z1_pad V c N i h H) j]
  have e : (dat1 V c).arrAt 8 cfg1.N = (sqAt (z1 V c) 39 : FVec Ideal S8x256 .f32) := by
    refine (dat1 V c).arrAt_eq_of_after_last 8 end1 whole1_8 _ fun j => ?_
    blk_simp
    rw [after1_8]
    rfl
  rw [hA.trans e]

end

end Cert.Gin

end
-- ==== Proof.Gin.Arr2.lean ====
/-
  The first normalization call: its array, from its operands' contents.
-/
module

public import proofs.«01_k».proof.Proof.Gin.Sums
public import proofs.«01_k».proof.Proof.Gin.Region2

@[expose] public section

set_option maxRecDepth 16384

noncomputable section

namespace Cert.Gin

open Cert.KernelIdeal Cert.KernelIdeal.Gen
open Idealize.ShloMosaic Idealize.ShloMosaic.TcCoe Idealize.SL.Sem
open Idealize.ShloMosaic.Pipeline (Dat Cfg Window)

/-- The windows' blocks at each point. -/
theorem idx2 : ∀ t : Fin cfg2.N, win2_0.index t = ![t.val, 0] ∧ win2_1.index t = ![0, 0]
    ∧ win2_2.index t = ![0, 0] ∧ win2_3.index t = ![0, 0] ∧ win2_4.index t = ![0, 0] ∧ win2_5.index t = ![t.val, 0] :=
  (by decide +kernel : ∀ t : Fin grid2.N, _)

section
variable (V : (c : Dev nD) → (b : Ref sig .tc) → Buf (Elt Ideal) ((c.tc : Thread nD τ).loc b)) (c : Dev nD)

/-! The input blocks, read off their arrays. -/

theorem row2_0 (t : Fin cfg2.N) (r j : Fin 256) (h : t.val * 256 + r.val < 10240) :
    (blk2 V c 0 t : FVec Ideal S256x256 .f32) (ix2 r j) = (V c main_v47_0 : FVec Ideal S10240x256 .f32) (ix2 ⟨t.val * 256 + r.val, h⟩ j) := by
  blk_ext [blk2, idx2 t]
theorem all2_1 (t : Fin cfg2.N) : (blk2 V c 1 t : FVec Ideal S8x256 .f32) = V c main_v47_1 := by blk_ext! [blk2, idx2 t]
theorem all2_2 (t : Fin cfg2.N) : (blk2 V c 2 t : FVec Ideal S8x256 .f32) = V c main_v47_2 := by blk_ext! [blk2, idx2 t]
theorem all2_3 (t : Fin cfg2.N) : (blk2 V c 3 t : FVec Ideal S8x256 .f32) = V c main_v49 := by blk_ext! [blk2, idx2 t]
theorem all2_4 (t : Fin cfg2.N) : (blk2 V c 4 t : FVec Ideal S8x256 .f32) = V c main_v51 := by blk_ext! [blk2, idx2 t]

/-- The normalized rows' array. -/
theorem n2_arr (N : Net) (i : Fin 3) (z : Fin 10000 → Fin 256 → ℝ)
    (H : BnIn (V c main_v47_0) (V c main_v47_1) (V c main_v47_2) (V c main_v49) (V c main_v51) N i z)
    (A : FVec Ideal S10240x256 .f32) (hA : A = (dat2 V c).arrAt 5 cfg2.N) :
    Rows A (fun r j => bnR (colSum z j) (colSq z j) (N.g i j) (N.be i j) (z r j)) := by
  have P : ∀ (y : S10240x256.Idx) (hr : (y 0).val < 10000), A y
      = ((bnR (colSum z (y 1)) (colSq z (y 1)) (N.g i (y 1)) (N.be i (y 1)) (z ⟨(y 0).val, hr⟩ (y 1)) : ℝ) : EReal) := by
    rw [hA]
    refine fun y => (dat2 V c).arrAt_forall_of_covers 5 (fun (y : S10240x256.Idx) v => ∀ hr : (y 0).val < 10000, v
      = ((bnR (colSum z (y 1)) (colSq z (y 1)) (N.g i (y 1)) (N.be i (y 1)) (z ⟨(y 0).val, hr⟩ (y 1)) : ℝ) : EReal)) (by decide +kernel) (fun t hf y hr => ?_) y
    have hr' : t.val * 256 + (y 0).val < 10000 := by
      revert hr; blk_simp [idx2 t]; exact id
    have e0 : ((((cfg2.win 5).blk t).view.emb y : S10240x256.Idx) 0).val = t.val * 256 + (y 0).val := by blk_simp [idx2 t]
    have e1 : (((cfg2.win 5).blk t).view.emb y : S10240x256.Idx) 1 = (y 1 : Fin 256) := by apply Fin.ext; blk_simp [idx2 t]
    have hy : y = ix2 (y 0) (y 1) := by blk_ext
    have hb := bnBlk_at (blk2 V c 0 t) (blk2 V c 1 t) (blk2 V c 2 t) (blk2 V c 3 t) (blk2 V c 4 t) (y 0) (y 1) (z ⟨_, hr'⟩ (y 1))
      (colSum z (y 1)) (colSq z (y 1)) (N.g i (y 1)) (N.be i (y 1))
      ((row2_0 V c t (y 0) (y 1) (by omega)).trans (H.h0 ⟨t.val * 256 + (y 0).val, by omega⟩ hr' (y 1)))
      (by rw [all2_1]; exact H.h1 _) (by rw [all2_2]; exact H.h2 _) ((congrFun (all2_3 V c t) _).trans (H.h3 _)) ((congrFun (all2_4 V c t) _).trans (H.h4 _))
      (var_pos fun r => z r (y 1))
    have hz : z ⟨_, hr⟩ ((((cfg2.win 5).blk t).view.emb y : S10240x256.Idx) 1) = z ⟨_, hr'⟩ (y 1) :=
      congrArg₂ z (Fin.ext e0) e1
    rw [hz, e1, ← hb]
    blk_simp
    rw [after2_5, stored, View.canon_cons_unit_lit _ _ _ (by decide)]
    exact congrArg _ hy
  exact fun r hr j => P (ix2 r j) hr

end

end Cert.Gin

end
-- ==== Proof.Gin.Arr3.lean ====
/-
  The second perceptron call: its arrays, from its operands' contents.
-/
module

public import proofs.«01_k».proof.Proof.Gin.Sums
public import proofs.«01_k».proof.Proof.Gin.Region3

@[expose] public section

set_option maxRecDepth 16384

noncomputable section

namespace Cert.Gin

open Cert.KernelIdeal Cert.KernelIdeal.Gen
open Idealize.ShloMosaic Idealize.ShloMosaic.TcCoe Idealize.SL.Sem
open Idealize.ShloMosaic.Pipeline (Dat Cfg Window)

/-- The windows' blocks and the grid's coordinate at each point. -/
theorem idx3 : ∀ t : Fin cfg3.N, (grid3.coords t 0).val = t.val ∧ win3_0.index t = ![t.val, 0] ∧ win3_1.index t = ![t.val, 0]
    ∧ win3_2.index t = ![0, 0] ∧ win3_3.index t = ![0, 0] ∧ win3_4.index t = ![0, 0] ∧ win3_5.index t = ![0, 0] ∧ win3_6.index t = ![t.val, 0] :=
  (by decide +kernel : ∀ t : Fin grid3.N, _)

/-- The last grid point. -/
def end3 : Fin cfg3.N := ⟨39, by rw [show cfg3.N = 40 from N_3]; decide⟩
theorem whole3_7 : (cfg3.win 7).WholeAt end3 := by decide +kernel
theorem whole3_8 : (cfg3.win 8).WholeAt end3 := by decide +kernel

section
variable (V : (c : Dev nD) → (b : Ref sig .tc) → Buf (Elt Ideal) ((c.tc : Thread nD τ).loc b)) (c : Dev nD)

/-! The input blocks, read off their arrays. -/

theorem row3_0 (t : Fin cfg3.N) (r j : Fin 256) (h : t.val * 256 + r.val < 10240) :
    (blk3 V c 0 t : FVec Ideal S256x256 .f32) (ix2 r j) = (V c main_v52 : FVec Ideal S10240x256 .f32) (ix2 ⟨t.val * 256 + r.val, h⟩ j) := by
  blk_ext [blk3, idx3 t]
theorem row3_1 (t : Fin cfg3.N) (r j : Fin 256) (h : t.val * 256 + r.val < 10240) :
    (blk3 V c 1 t : FVec Ideal S256x256 .f32) (ix2 r j) = (V c main_v65 : FVec Ideal S10240x256 .f32) (ix2 ⟨t.val * 256 + r.val, h⟩ j) := by
  blk_ext [blk3, idx3 t]
theorem all3_2 (t : Fin cfg3.N) : (blk3 V c 2 t : FVec Ideal S256x512 .f32) = V c main_v67 := by blk_ext! [blk3, idx3 t]
theorem all3_3 (t : Fin cfg3.N) : (blk3 V c 3 t : FVec Ideal S8x512 .f32) = V c main_v69 := by blk_ext! [blk3, idx3 t]
theorem all3_4 (t : Fin cfg3.N) : (blk3 V c 4 t : FVec Ideal S512x256 .f32) = V c main_v71 := by blk_ext! [blk3, idx3 t]
theorem all3_5 (t : Fin cfg3.N) : (blk3 V c 5 t : FVec Ideal S8x256 .f32) = V c main_v73 := by blk_ext! [blk3, idx3 t]

variable (N : Net) (i : Fin 3) (h : Fin 10000 → Fin 256 → ℝ)
  (H : MlpIn (V c main_v52) (V c main_v65) (V c main_v67) (V c main_v69) (V c main_v71) (V c main_v73) N i h)
include H

/-- The activations' blocks. -/
theorem z3_pad (n : ℕ) (hn : n < 40) (r j : Fin 256) : z3 V c n (ix2 r j) = ((pad (N.act i h) (n * 256 + r.val) j : ℝ) : EReal) := by
  have hN : cfg3.N = 40 := N_3
  obtain ⟨t, rfl⟩ : ∃ t : Fin cfg3.N, t.val = n := ⟨⟨n, by omega⟩, rfl⟩
  have e := (idx3 t).1
  rw [z3_at]
  refine (zBlk_at _ _ _ _ _ _ _ r j (pad h (t.val * 256 + r.val)) (pad (N.agg h) (t.val * 256 + r.val)) (N.W1 i) (N.b1 i) (N.W2 i) (N.b2 i)
    (fun hr l => ?_) (fun hr l => ?_) (fun l k => ?_) (fun k => ?_) (fun k j => ?_) (fun j => ?_)).trans ?_
  · rw [e] at hr; rw [pad, dif_pos hr]; exact (row3_0 V c t r l (by omega)).trans (H.h0 ⟨t.val * 256 + r.val, by omega⟩ hr l)
  · rw [e] at hr; rw [pad, dif_pos hr]; exact (row3_1 V c t r l (by omega)).trans (H.h1 ⟨t.val * 256 + r.val, by omega⟩ hr l)
  · exact (congrFun (all3_2 V c t) _).trans (H.h2 l k)
  · exact (congrFun (all3_3 V c t) _).trans (H.h3 k)
  · exact (congrFun (all3_4 V c t) _).trans (H.h4 k j)
  · exact (congrFun (all3_5 V c t) _).trans (H.h5 j)
  · rw [e]
    by_cases hr : t.val * 256 + r.val < 10000
    · simp only [if_pos hr, pad, dif_pos hr, Net.act]
    · rw [if_neg hr, pad, dif_neg hr, EReal.coe_zero]

/-- The activations' array. -/
theorem z3_arr (A : FVec Ideal S10240x256 .f32) (hA : A = (dat3 V c).arrAt 6 cfg3.N) : RowsPad A (N.act i h) := by
  have e : (dat3 V c).arrAt 6 cfg3.N = fun y : S10240x256.Idx => ((pad (N.act i h) (y 0).val (y 1) : ℝ) : EReal) := by
    refine (dat3 V c).arrAt_eq_of_covers 6 _ (by decide +kernel) fun t _ y => ?_
    have ht := z3_pad V c N i h H t.val (lt_of_lt_of_eq t.isLt N_3) (y 0) (y 1)
    rw [z3_at] at ht
    blk_simp
    rw [after3_6, zOut, View.canon_cons_unit_lit _ _ _ (by decide)]
    have hy : y = ix2 (y 0) (y 1) := by blk_ext
    rw [hy]
    refine ht.trans ?_
    blk_simp [idx3 t]
    congr 2
    apply Fin.ext
    blk_simp [idx3 t]
  intro r j
  exact (congrFun (hA.trans e) (ix2 r j)).trans rfl

/-- The sums' array. -/
theorem s3_arr (A : FVec Ideal S8x256 .f32) (hA : A = (dat3 V c).arrAt 7 cfg3.N) (j : Fin 256) :
    ∑ a : Fin 8, A (ix2 a j) = ((colSum (N.act i h) j : ℝ) : EReal) := by
  rw [← sumAt_total (z3 V c) (N.act i h) (z3_pad V c N i h H) j]
  have e : (dat3 V c).arrAt 7 cfg3.N = (sumAt (z3 V c) 39 : FVec Ideal S8x256 .f32) := by
    refine (dat3 V c).arrAt_eq_of_after_last 7 end3 whole3_7 _ fun j => ?_
    blk_simp
    rw [after3_7]
    rfl
  rw [hA.trans e]

/-- The sums of squares' array. -/
theorem q3_arr (A : FVec Ideal S8x256 .f32) (hA : A = (dat3 V c).arrAt 8 cfg3.N) (j : Fin 256) :
    ∑ a : Fin 8, A (ix2 a j) = ((colSq (N.act i h) j : ℝ) : EReal) := by
  rw [← sqAt_total (z3 V c) (N.act i h) (z3_pad V c N i h H) j]
  have e : (dat3 V c).arrAt 8 cfg3.N = (sqAt (z3 V c) 39 : FVec Ideal S8x256 .f32) := by
    refine (dat3 V c).arrAt_eq_of_after_last 8 end3 whole3_8 _ fun j => ?_
    blk_simp
    rw [after3_8]
    rfl
  rw [hA.trans e]

end

end Cert.Gin

end
-- ==== Proof.Gin.Arr4.lean ====
/-
  The second normalization call: its array, from its operands' contents.
-/
module

public import proofs.«01_k».proof.Proof.Gin.Sums
public import proofs.«01_k».proof.Proof.Gin.Region4

@[expose] public section

set_option maxRecDepth 16384

noncomputable section

namespace Cert.Gin

open Cert.KernelIdeal Cert.KernelIdeal.Gen
open Idealize.ShloMosaic Idealize.ShloMosaic.TcCoe Idealize.SL.Sem
open Idealize.ShloMosaic.Pipeline (Dat Cfg Window)

/-- The windows' blocks at each point. -/
theorem idx4 : ∀ t : Fin cfg4.N, win4_0.index t = ![t.val, 0] ∧ win4_1.index t = ![0, 0]
    ∧ win4_2.index t = ![0, 0] ∧ win4_3.index t = ![0, 0] ∧ win4_4.index t = ![0, 0] ∧ win4_5.index t = ![t.val, 0] :=
  (by decide +kernel : ∀ t : Fin grid4.N, _)

section
variable (V : (c : Dev nD) → (b : Ref sig .tc) → Buf (Elt Ideal) ((c.tc : Thread nD τ).loc b)) (c : Dev nD)

/-! The input blocks, read off their arrays. -/

theorem row4_0 (t : Fin cfg4.N) (r j : Fin 256) (h : t.val * 256 + r.val < 10240) :
    (blk4 V c 0 t : FVec Ideal S256x256 .f32) (ix2 r j) = (V c main_v74_0 : FVec Ideal S10240x256 .f32) (ix2 ⟨t.val * 256 + r.val, h⟩ j) := by
  blk_ext [blk4, idx4 t]
theorem all4_1 (t : Fin cfg4.N) : (blk4 V c 1 t : FVec Ideal S8x256 .f32) = V c main_v74_1 := by blk_ext! [blk4, idx4 t]
theorem all4_2 (t : Fin cfg4.N) : (blk4 V c 2 t : FVec Ideal S8x256 .f32) = V c main_v74_2 := by blk_ext! [blk4, idx4 t]
theorem all4_3 (t : Fin cfg4.N) : (blk4 V c 3 t : FVec Ideal S8x256 .f32) = V c main_v76 := by blk_ext! [blk4, idx4 t]
theorem all4_4 (t : Fin cfg4.N) : (blk4 V c 4 t : FVec Ideal S8x256 .f32) = V c main_v78 := by blk_ext! [blk4, idx4 t]

/-- The normalized rows' array. -/
theorem n4_arr (N : Net) (i : Fin 3) (z : Fin 10000 → Fin 256 → ℝ)
    (H : BnIn (V c main_v74_0) (V c main_v74_1) (V c main_v74_2) (V c main_v76) (V c main_v78) N i z)
    (A : FVec Ideal S10240x256 .f32) (hA : A = (dat4 V c).arrAt 5 cfg4.N) :
    Rows A (fun r j => bnR (colSum z j) (colSq z j) (N.g i j) (N.be i j) (z r j)) := by
  have P : ∀ (y : S10240x256.Idx) (hr : (y 0).val < 10000), A y
      = ((bnR (colSum z (y 1)) (colSq z (y 1)) (N.g i (y 1)) (N.be i (y 1)) (z ⟨(y 0).val, hr⟩ (y 1)) : ℝ) : EReal) := by
    rw [hA]
    refine fun y => (dat4 V c).arrAt_forall_of_covers 5 (fun (y : S10240x256.Idx) v => ∀ hr : (y 0).val < 10000, v
      = ((bnR (colSum z (y 1)) (colSq z (y 1)) (N.g i (y 1)) (N.be i (y 1)) (z ⟨(y 0).val, hr⟩ (y 1)) : ℝ) : EReal)) (by decide +kernel) (fun t hf y hr => ?_) y
    have hr' : t.val * 256 + (y 0).val < 10000 := by
      revert hr; blk_simp [idx4 t]; exact id
    have e0 : ((((cfg4.win 5).blk t).view.emb y : S10240x256.Idx) 0).val = t.val * 256 + (y 0).val := by blk_simp [idx4 t]
    have e1 : (((cfg4.win 5).blk t).view.emb y : S10240x256.Idx) 1 = (y 1 : Fin 256) := by apply Fin.ext; blk_simp [idx4 t]
    have hy : y = ix2 (y 0) (y 1) := by blk_ext
    have hb := bnBlk_at (blk4 V c 0 t) (blk4 V c 1 t) (blk4 V c 2 t) (blk4 V c 3 t) (blk4 V c 4 t) (y 0) (y 1) (z ⟨_, hr'⟩ (y 1))
      (colSum z (y 1)) (colSq z (y 1)) (N.g i (y 1)) (N.be i (y 1))
      ((row4_0 V c t (y 0) (y 1) (by omega)).trans (H.h0 ⟨t.val * 256 + (y 0).val, by omega⟩ hr' (y 1)))
      (by rw [all4_1]; exact H.h1 _) (by rw [all4_2]; exact H.h2 _) ((congrFun (all4_3 V c t) _).trans (H.h3 _)) ((congrFun (all4_4 V c t) _).trans (H.h4 _))
      (var_pos fun r => z r (y 1))
    have hz : z ⟨_, hr⟩ ((((cfg4.win 5).blk t).view.emb y : S10240x256.Idx) 1) = z ⟨_, hr'⟩ (y 1) :=
      congrArg₂ z (Fin.ext e0) e1
    rw [hz, e1, ← hb]
    blk_simp
    rw [after4_5, stored, View.canon_cons_unit_lit _ _ _ (by decide)]
    exact congrArg _ hy
  exact fun r hr j => P (ix2 r j) hr

end

end Cert.Gin

end
-- ==== Proof.Gin.Arr5.lean ====
/-
  The third perceptron call: its arrays, from its operands' contents.
-/
module

public import proofs.«01_k».proof.Proof.Gin.Sums
public import proofs.«01_k».proof.Proof.Gin.Region5

@[expose] public section

set_option maxRecDepth 16384

noncomputable section

namespace Cert.Gin

open Cert.KernelIdeal Cert.KernelIdeal.Gen
open Idealize.ShloMosaic Idealize.ShloMosaic.TcCoe Idealize.SL.Sem
open Idealize.ShloMosaic.Pipeline (Dat Cfg Window)

/-- The windows' blocks and the grid's coordinate at each point. -/
theorem idx5 : ∀ t : Fin cfg5.N, (grid5.coords t 0).val = t.val ∧ win5_0.index t = ![t.val, 0] ∧ win5_1.index t = ![t.val, 0]
    ∧ win5_2.index t = ![0, 0] ∧ win5_3.index t = ![0, 0] ∧ win5_4.index t = ![0, 0] ∧ win5_5.index t = ![0, 0] ∧ win5_6.index t = ![t.val, 0] :=
  (by decide +kernel : ∀ t : Fin grid5.N, _)

/-- The last grid point. -/
def end5 : Fin cfg5.N := ⟨39, by rw [show cfg5.N = 40 from N_5]; decide⟩
theorem whole5_7 : (cfg5.win 7).WholeAt end5 := by decide +kernel
theorem whole5_8 : (cfg5.win 8).WholeAt end5 := by decide +kernel

section
variable (V : (c : Dev nD) → (b : Ref sig .tc) → Buf (Elt Ideal) ((c.tc : Thread nD τ).loc b)) (c : Dev nD)

/-! The input blocks, read off their arrays. -/

theorem row5_0 (t : Fin cfg5.N) (r j : Fin 256) (h : t.val * 256 + r.val < 10240) :
    (blk5 V c 0 t : FVec Ideal S256x256 .f32) (ix2 r j) = (V c main_v79 : FVec Ideal S10240x256 .f32) (ix2 ⟨t.val * 256 + r.val, h⟩ j) := by
  blk_ext [blk5, idx5 t]
theorem row5_1 (t : Fin cfg5.N) (r j : Fin 256) (h : t.val * 256 + r.val < 10240) :
    (blk5 V c 1 t : FVec Ideal S256x256 .f32) (ix2 r j) = (V c main_v92 : FVec Ideal S10240x256 .f32) (ix2 ⟨t.val * 256 + r.val, h⟩ j) := by
  blk_ext [blk5, idx5 t]
theorem all5_2 (t : Fin cfg5.N) : (blk5 V c 2 t : FVec Ideal S256x512 .f32) = V c main_v94 := by blk_ext! [blk5, idx5 t]
theorem all5_3 (t : Fin cfg5.N) : (blk5 V c 3 t : FVec Ideal S8x512 .f32) = V c main_v96 := by blk_ext! [blk5, idx5 t]
theorem all5_4 (t : Fin cfg5.N) : (blk5 V c 4 t : FVec Ideal S512x256 .f32) = V c main_v98 := by blk_ext! [blk5, idx5 t]
theorem all5_5 (t : Fin cfg5.N) : (blk5 V c 5 t : FVec Ideal S8x256 .f32) = V c main_v100 := by blk_ext! [blk5, idx5 t]

variable (N : Net) (i : Fin 3) (h : Fin 10000 → Fin 256 → ℝ)
  (H : MlpIn (V c main_v79) (V c main_v92) (V c main_v94) (V c main_v96) (V c main_v98) (V c main_v100) N i h)
include H

/-- The activations' blocks. -/
theorem z5_pad (n : ℕ) (hn : n < 40) (r j : Fin 256) : z5 V c n (ix2 r j) = ((pad (N.act i h) (n * 256 + r.val) j : ℝ) : EReal) := by
  have hN : cfg5.N = 40 := N_5
  obtain ⟨t, rfl⟩ : ∃ t : Fin cfg5.N, t.val = n := ⟨⟨n, by omega⟩, rfl⟩
  have e := (idx5 t).1
  rw [z5_at]
  refine (zBlk_at _ _ _ _ _ _ _ r j (pad h (t.val * 256 + r.val)) (pad (N.agg h) (t.val * 256 + r.val)) (N.W1 i) (N.b1 i) (N.W2 i) (N.b2 i)
    (fun hr l => ?_) (fun hr l => ?_) (fun l k => ?_) (fun k => ?_) (fun k j => ?_) (fun j => ?_)).trans ?_
  · rw [e] at hr; rw [pad, dif_pos hr]; exact (row5_0 V c t r l (by omega)).trans (H.h0 ⟨t.val * 256 + r.val, by omega⟩ hr l)
  · rw [e] at hr; rw [pad, dif_pos hr]; exact (row5_1 V c t r l (by omega)).trans (H.h1 ⟨t.val * 256 + r.val, by omega⟩ hr l)
  · exact (congrFun (all5_2 V c t) _).trans (H.h2 l k)
  · exact (congrFun (all5_3 V c t) _).trans (H.h3 k)
  · exact (congrFun (all5_4 V c t) _).trans (H.h4 k j)
  · exact (congrFun (all5_5 V c t) _).trans (H.h5 j)
  · rw [e]
    by_cases hr : t.val * 256 + r.val < 10000
    · simp only [if_pos hr, pad, dif_pos hr, Net.act]
    · rw [if_neg hr, pad, dif_neg hr, EReal.coe_zero]

/-- The activations' array. -/
theorem z5_arr (A : FVec Ideal S10240x256 .f32) (hA : A = (dat5 V c).arrAt 6 cfg5.N) : RowsPad A (N.act i h) := by
  have e : (dat5 V c).arrAt 6 cfg5.N = fun y : S10240x256.Idx => ((pad (N.act i h) (y 0).val (y 1) : ℝ) : EReal) := by
    refine (dat5 V c).arrAt_eq_of_covers 6 _ (by decide +kernel) fun t _ y => ?_
    have ht := z5_pad V c N i h H t.val (lt_of_lt_of_eq t.isLt N_5) (y 0) (y 1)
    rw [z5_at] at ht
    blk_simp
    rw [after5_6, zOut, View.canon_cons_unit_lit _ _ _ (by decide)]
    have hy : y = ix2 (y 0) (y 1) := by blk_ext
    rw [hy]
    refine ht.trans ?_
    blk_simp [idx5 t]
    congr 2
    apply Fin.ext
    blk_simp [idx5 t]
  intro r j
  exact (congrFun (hA.trans e) (ix2 r j)).trans rfl

/-- The sums' array. -/
theorem s5_arr (A : FVec Ideal S8x256 .f32) (hA : A = (dat5 V c).arrAt 7 cfg5.N) (j : Fin 256) :
    ∑ a : Fin 8, A (ix2 a j) = ((colSum (N.act i h) j : ℝ) : EReal) := by
  rw [← sumAt_total (z5 V c) (N.act i h) (z5_pad V c N i h H) j]
  have e : (dat5 V c).arrAt 7 cfg5.N = (sumAt (z5 V c) 39 : FVec Ideal S8x256 .f32) := by
    refine (dat5 V c).arrAt_eq_of_after_last 7 end5 whole5_7 _ fun j => ?_
    blk_simp
    rw [after5_7]
    rfl
  rw [hA.trans e]

/-- The sums of squares' array. -/
theorem q5_arr (A : FVec Ideal S8x256 .f32) (hA : A = (dat5 V c).arrAt 8 cfg5.N) (j : Fin 256) :
    ∑ a : Fin 8, A (ix2 a j) = ((colSq (N.act i h) j : ℝ) : EReal) := by
  rw [← sqAt_total (z5 V c) (N.act i h) (z5_pad V c N i h H) j]
  have e : (dat5 V c).arrAt 8 cfg5.N = (sqAt (z5 V c) 39 : FVec Ideal S8x256 .f32) := by
    refine (dat5 V c).arrAt_eq_of_after_last 8 end5 whole5_8 _ fun j => ?_
    blk_simp
    rw [after5_8]
    rfl
  rw [hA.trans e]

end

end Cert.Gin

end
-- ==== Proof.Gin.Arr6.lean ====
/-
  The third normalization call: its array, from its operands' contents.
-/
module

public import proofs.«01_k».proof.Proof.Gin.Sums
public import proofs.«01_k».proof.Proof.Gin.Region6

@[expose] public section

set_option maxRecDepth 16384

noncomputable section

namespace Cert.Gin

open Cert.KernelIdeal Cert.KernelIdeal.Gen
open Idealize.ShloMosaic Idealize.ShloMosaic.TcCoe Idealize.SL.Sem
open Idealize.ShloMosaic.Pipeline (Dat Cfg Window)

/-- The windows' blocks at each point. -/
theorem idx6 : ∀ t : Fin cfg6.N, win6_0.index t = ![t.val, 0] ∧ win6_1.index t = ![0, 0]
    ∧ win6_2.index t = ![0, 0] ∧ win6_3.index t = ![0, 0] ∧ win6_4.index t = ![0, 0] ∧ win6_5.index t = ![t.val, 0] :=
  (by decide +kernel : ∀ t : Fin grid6.N, _)

section
variable (V : (c : Dev nD) → (b : Ref sig .tc) → Buf (Elt Ideal) ((c.tc : Thread nD τ).loc b)) (c : Dev nD)

/-! The input blocks, read off their arrays. -/

theorem row6_0 (t : Fin cfg6.N) (r j : Fin 256) (h : t.val * 256 + r.val < 10240) :
    (blk6 V c 0 t : FVec Ideal S256x256 .f32) (ix2 r j) = (V c main_v101_0 : FVec Ideal S10240x256 .f32) (ix2 ⟨t.val * 256 + r.val, h⟩ j) := by
  blk_ext [blk6, idx6 t]
theorem all6_1 (t : Fin cfg6.N) : (blk6 V c 1 t : FVec Ideal S8x256 .f32) = V c main_v101_1 := by blk_ext! [blk6, idx6 t]
theorem all6_2 (t : Fin cfg6.N) : (blk6 V c 2 t : FVec Ideal S8x256 .f32) = V c main_v101_2 := by blk_ext! [blk6, idx6 t]
theorem all6_3 (t : Fin cfg6.N) : (blk6 V c 3 t : FVec Ideal S8x256 .f32) = V c main_v103 := by blk_ext! [blk6, idx6 t]
theorem all6_4 (t : Fin cfg6.N) : (blk6 V c 4 t : FVec Ideal S8x256 .f32) = V c main_v105 := by blk_ext! [blk6, idx6 t]

/-- The normalized rows' array. -/
theorem n6_arr (N : Net) (i : Fin 3) (z : Fin 10000 → Fin 256 → ℝ)
    (H : BnIn (V c main_v101_0) (V c main_v101_1) (V c main_v101_2) (V c main_v103) (V c main_v105) N i z)
    (A : FVec Ideal S10240x256 .f32) (hA : A = (dat6 V c).arrAt 5 cfg6.N) :
    Rows A (fun r j => bnR (colSum z j) (colSq z j) (N.g i j) (N.be i j) (z r j)) := by
  have P : ∀ (y : S10240x256.Idx) (hr : (y 0).val < 10000), A y
      = ((bnR (colSum z (y 1)) (colSq z (y 1)) (N.g i (y 1)) (N.be i (y 1)) (z ⟨(y 0).val, hr⟩ (y 1)) : ℝ) : EReal) := by
    rw [hA]
    refine fun y => (dat6 V c).arrAt_forall_of_covers 5 (fun (y : S10240x256.Idx) v => ∀ hr : (y 0).val < 10000, v
      = ((bnR (colSum z (y 1)) (colSq z (y 1)) (N.g i (y 1)) (N.be i (y 1)) (z ⟨(y 0).val, hr⟩ (y 1)) : ℝ) : EReal)) (by decide +kernel) (fun t hf y hr => ?_) y
    have hr' : t.val * 256 + (y 0).val < 10000 := by
      revert hr; blk_simp [idx6 t]; exact id
    have e0 : ((((cfg6.win 5).blk t).view.emb y : S10240x256.Idx) 0).val = t.val * 256 + (y 0).val := by blk_simp [idx6 t]
    have e1 : (((cfg6.win 5).blk t).view.emb y : S10240x256.Idx) 1 = (y 1 : Fin 256) := by apply Fin.ext; blk_simp [idx6 t]
    have hy : y = ix2 (y 0) (y 1) := by blk_ext
    have hb := bnBlk_at (blk6 V c 0 t) (blk6 V c 1 t) (blk6 V c 2 t) (blk6 V c 3 t) (blk6 V c 4 t) (y 0) (y 1) (z ⟨_, hr'⟩ (y 1))
      (colSum z (y 1)) (colSq z (y 1)) (N.g i (y 1)) (N.be i (y 1))
      ((row6_0 V c t (y 0) (y 1) (by omega)).trans (H.h0 ⟨t.val * 256 + (y 0).val, by omega⟩ hr' (y 1)))
      (by rw [all6_1]; exact H.h1 _) (by rw [all6_2]; exact H.h2 _) ((congrFun (all6_3 V c t) _).trans (H.h3 _)) ((congrFun (all6_4 V c t) _).trans (H.h4 _))
      (var_pos fun r => z r (y 1))
    have hz : z ⟨_, hr⟩ ((((cfg6.win 5).blk t).view.emb y : S10240x256.Idx) 1) = z ⟨_, hr'⟩ (y 1) :=
      congrArg₂ z (Fin.ext e0) e1
    rw [hz, e1, ← hb]
    blk_simp
    rw [after6_5, stored, View.canon_cons_unit_lit _ _ _ (by decide)]
    exact congrArg _ hy
  exact fun r hr j => P (ix2 r j) hr

end

end Cert.Gin

end
-- ==== Proof.Gin.Arr8.lean ====
/-
  The last call: its array, from its operands' contents.
-/
module

public import proofs.«01_k».proof.Proof.Gin.Sums
public import proofs.«01_k».proof.Proof.Gin.Region8

@[expose] public section

set_option maxRecDepth 16384

noncomputable section

namespace Cert.Gin

open Cert.KernelIdeal Cert.KernelIdeal.Gen
open Idealize.ShloMosaic Idealize.ShloMosaic.TcCoe Idealize.SL.Sem
open Idealize.ShloMosaic.Pipeline (Dat Cfg Window)

/-- The windows' blocks at the only point. -/
theorem idx8 : ∀ t : Fin cfg8.N, win8_0.index t = ![0, 0] ∧ win8_1.index t = ![0, 0] ∧ win8_2.index t = ![0, 0] ∧ win8_3.index t = ![0, 0] ∧ win8_4.index t = ![0, 0] :=
  (by decide +kernel : ∀ t : Fin grid8.N, _)

/-- The only grid point. -/
def end8 : Fin cfg8.N := ⟨0, by rw [show cfg8.N = 1 from N_8]; decide⟩
theorem whole8_4 : (cfg8.win 4).WholeAt end8 := by decide +kernel

section
variable (V : (c : Dev nD) → (b : Ref sig .tc) → Buf (Elt Ideal) ((c.tc : Thread nD τ).loc b)) (c : Dev nD)

/-! The input blocks, read off their arrays. -/

theorem all8_0 (t : Fin cfg8.N) : (blk8 V c 0 t : FVec Ideal S256x256 .f32) = V c main_v107_0 := by blk_ext! [blk8, idx8 t]
theorem all8_1 (t : Fin cfg8.N) : (blk8 V c 1 t : FVec Ideal S256x128 .f32) = V c main_v107_1 := by blk_ext! [blk8, idx8 t]
theorem all8_2 (t : Fin cfg8.N) : (blk8 V c 2 t : FVec Ideal S256x256 .f32) = V c main_arg12 := by blk_ext! [blk8, idx8 t]
theorem all8_3 (t : Fin cfg8.N) : (blk8 V c 3 t : FVec Ideal S8x256 .f32) = V c main_v16 := by blk_ext! [blk8, idx8 t]

/-- The result's array. -/
theorem r8_arr : (dat8 V c).arrAt 4 cfg8.N = lastBlk (F := Ideal) (V c main_v107_0) (V c main_v107_1) (V c main_arg12) (V c main_v16) := by
  refine (dat8 V c).arrAt_eq_of_after_last 4 end8 whole8_4 _ fun j => ?_
  blk_simp
  rw [after8_4, stored, View.canon_cons_unit_lit _ _ _ (by decide), all8_0, all8_1, all8_2, all8_3]

end

end Cert.Gin

end
-- ==== Proof.Gin.Chain.lean ====
/-
  The buffers between the calls, and what the last call returns.
-/
module

public import proofs.«01_k».proof.Proof.Gin.HostVals
public import proofs.«01_k».proof.Proof.Gin.Fold
public import proofs.«01_k».proof.Proof.Gin.Arr1
public import proofs.«01_k».proof.Proof.Gin.Arr2
public import proofs.«01_k».proof.Proof.Gin.Arr3
public import proofs.«01_k».proof.Proof.Gin.Arr4
public import proofs.«01_k».proof.Proof.Gin.Arr5
public import proofs.«01_k».proof.Proof.Gin.Arr6
public import proofs.«01_k».proof.Proof.Gin.Arr8

@[expose] public section

set_option maxRecDepth 16384

noncomputable section

namespace Cert.Gin

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- An argument at launch. -/
abbrev argOf (a : Ref sig .tc) : Buf (Elt Ideal) ((c : Thread nD τ).loc a) := m ((c : Thread nD τ).loc a)

/-- The arguments at launch hold the network's data. -/
abbrev HoldsAt (N : Net) : Prop :=
  Holds (argOf m c main_arg0) (argOf m c main_arg1) (argOf m c main_arg3) (argOf m c main_arg4)
    (argOf m c main_arg6) (argOf m c main_arg7) (argOf m c main_arg8) (argOf m c main_arg9) (argOf m c main_arg10) (argOf m c main_arg11) N

variable (N : Net) (H : HoldsAt m c N)
include H

/-! ## What stays in place -/

theorem fixed1 : Fixed (W1 m ρ c) N (argOf m c main_arg12) (argOf m c main_arg13) := host0_fixed (W0 m ρ c) N H
theorem fixed2 : Fixed (W2 m ρ c) N (argOf m c main_arg12) (argOf m c main_arg13) :=
  (fixed1 m ρ c N H).keep _ fun r hr => keep_W2 m ρ c r ((ListAll.forall_mem_of_all_decide (by decide +kernel) :
    ∀ a ∈ fixedRefs, ∀ w : Fin cfg0.W, Pipeline.arrRef spec0 w = a → (cfg0.win w).isOut = false) r hr)
theorem fixed3 : Fixed (W3 m ρ c) N (argOf m c main_arg12) (argOf m c main_arg13) :=
  (fixed2 m ρ c N H).keep _ fun r hr => keep_W3 m ρ c r ((ListAll.forall_mem_of_all_decide (by decide +kernel) :
    ∀ a ∈ fixedRefs, a ∉ hostOps1_W) r hr)
theorem fixed4 : Fixed (W4 m ρ c) N (argOf m c main_arg12) (argOf m c main_arg13) :=
  (fixed3 m ρ c N H).keep _ fun r hr => keep_W4 m ρ c r ((ListAll.forall_mem_of_all_decide (by decide +kernel) :
    ∀ a ∈ fixedRefs, ∀ w : Fin cfg1.W, Pipeline.arrRef spec1 w = a → (cfg1.win w).isOut = false) r hr)
theorem fixed5 : Fixed (W5 m ρ c) N (argOf m c main_arg12) (argOf m c main_arg13) :=
  (fixed4 m ρ c N H).keep _ fun r hr => keep_W5 m ρ c r ((ListAll.forall_mem_of_all_decide (by decide +kernel) :
    ∀ a ∈ fixedRefs, a ∉ hostOps2_W) r hr)
theorem fixed6 : Fixed (W6 m ρ c) N (argOf m c main_arg12) (argOf m c main_arg13) :=
  (fixed5 m ρ c N H).keep _ fun r hr => keep_W6 m ρ c r ((ListAll.forall_mem_of_all_decide (by decide +kernel) :
    ∀ a ∈ fixedRefs, ∀ w : Fin cfg2.W, Pipeline.arrRef spec2 w = a → (cfg2.win w).isOut = false) r hr)
theorem fixed7 : Fixed (W7 m ρ c) N (argOf m c main_arg12) (argOf m c main_arg13) :=
  (fixed6 m ρ c N H).keep _ fun r hr => keep_W7 m ρ c r ((ListAll.forall_mem_of_all_decide (by decide +kernel) :
    ∀ a ∈ fixedRefs, a ∉ hostOps3_W) r hr)
theorem fixed8 : Fixed (W8 m ρ c) N (argOf m c main_arg12) (argOf m c main_arg13) :=
  (fixed7 m ρ c N H).keep _ fun r hr => keep_W8 m ρ c r ((ListAll.forall_mem_of_all_decide (by decide +kernel) :
    ∀ a ∈ fixedRefs, ∀ w : Fin cfg3.W, Pipeline.arrRef spec3 w = a → (cfg3.win w).isOut = false) r hr)
theorem fixed9 : Fixed (W9 m ρ c) N (argOf m c main_arg12) (argOf m c main_arg13) :=
  (fixed8 m ρ c N H).keep _ fun r hr => keep_W9 m ρ c r ((ListAll.forall_mem_of_all_decide (by decide +kernel) :
    ∀ a ∈ fixedRefs, a ∉ hostOps4_W) r hr)
theorem fixed10 : Fixed (W10 m ρ c) N (argOf m c main_arg12) (argOf m c main_arg13) :=
  (fixed9 m ρ c N H).keep _ fun r hr => keep_W10 m ρ c r ((ListAll.forall_mem_of_all_decide (by decide +kernel) :
    ∀ a ∈ fixedRefs, ∀ w : Fin cfg4.W, Pipeline.arrRef spec4 w = a → (cfg4.win w).isOut = false) r hr)
theorem fixed11 : Fixed (W11 m ρ c) N (argOf m c main_arg12) (argOf m c main_arg13) :=
  (fixed10 m ρ c N H).keep _ fun r hr => keep_W11 m ρ c r ((ListAll.forall_mem_of_all_decide (by decide +kernel) :
    ∀ a ∈ fixedRefs, a ∉ hostOps5_W) r hr)
theorem fixed12 : Fixed (W12 m ρ c) N (argOf m c main_arg12) (argOf m c main_arg13) :=
  (fixed11 m ρ c N H).keep _ fun r hr => keep_W12 m ρ c r ((ListAll.forall_mem_of_all_decide (by decide +kernel) :
    ∀ a ∈ fixedRefs, ∀ w : Fin cfg5.W, Pipeline.arrRef spec5 w = a → (cfg5.win w).isOut = false) r hr)
theorem fixed13 : Fixed (W13 m ρ c) N (argOf m c main_arg12) (argOf m c main_arg13) :=
  (fixed12 m ρ c N H).keep _ fun r hr => keep_W13 m ρ c r ((ListAll.forall_mem_of_all_decide (by decide +kernel) :
    ∀ a ∈ fixedRefs, a ∉ hostOps6_W) r hr)
theorem fixed14 : Fixed (W14 m ρ c) N (argOf m c main_arg12) (argOf m c main_arg13) :=
  (fixed13 m ρ c N H).keep _ fun r hr => keep_W14 m ρ c r ((ListAll.forall_mem_of_all_decide (by decide +kernel) :
    ∀ a ∈ fixedRefs, ∀ w : Fin cfg6.W, Pipeline.arrRef spec6 w = a → (cfg6.win w).isOut = false) r hr)
theorem fixed15 : Fixed (W15 m ρ c) N (argOf m c main_arg12) (argOf m c main_arg13) :=
  (fixed14 m ρ c N H).keep _ fun r hr => keep_W15 m ρ c r ((ListAll.forall_mem_of_all_decide (by decide +kernel) :
    ∀ a ∈ fixedRefs, ∀ w : Fin cfg7.W, Pipeline.arrRef spec7 w = a → (cfg7.win w).isOut = false) r hr)

/-! ## The features -/

theorem feat2 : Rows (W2 m ρ c (Proc.devRef .tc main_v25)) N.h0 :=
  e0_arr (V1 m ρ) c N (host0_v5 (W0 m ρ c) N.x H.x) (host0_table (W0 m ρ c) N H.emb) _ (out_W2 m ρ c 2)

theorem mlp3 : MlpIn (V3 m ρ c main_v25) (V3 m ρ c main_v38) (V3 m ρ c main_v40) (V3 m ρ c main_v42)
    (V3 m ρ c main_v44) (V3 m ρ c main_v46) N 0 N.h0 :=
  host1_mlp (W2 m ρ c) N _ _ (fixed2 m ρ c N H) N.h0 (feat2 m ρ c N H)

theorem act4 : Rows (W4 m ρ c (Proc.devRef .tc main_v47_0)) (N.act 0 N.h0) :=
  (z1_arr (V3 m ρ) c N 0 N.h0 (mlp3 m ρ c N H) _ (out_W4 m ρ c 6)).rows

theorem sum4 : Col (W4 m ρ c (Proc.devRef .tc main_v47_1)) (colSum (N.act 0 N.h0)) :=
  s1_arr (V3 m ρ) c N 0 N.h0 (mlp3 m ρ c N H) _ (out_W4 m ρ c 7)

theorem sq4 : Col (W4 m ρ c (Proc.devRef .tc main_v47_2)) (colSq (N.act 0 N.h0)) :=
  q1_arr (V3 m ρ) c N 0 N.h0 (mlp3 m ρ c N H) _ (out_W4 m ρ c 8)

theorem feat6 : Rows (W6 m ρ c (Proc.devRef .tc main_v52)) N.h1 :=
  n2_arr (V5 m ρ) c N 0 (N.act 0 N.h0)
    (host2_bn (W4 m ρ c) N _ _ (fixed4 m ρ c N H) _ (act4 m ρ c N H) (sum4 m ρ c N H) (sq4 m ρ c N H)) _ (out_W6 m ρ c 5)

theorem mlp7 : MlpIn (V7 m ρ c main_v52) (V7 m ρ c main_v65) (V7 m ρ c main_v67) (V7 m ρ c main_v69)
    (V7 m ρ c main_v71) (V7 m ρ c main_v73) N 1 N.h1 :=
  host3_mlp (W6 m ρ c) N _ _ (fixed6 m ρ c N H) N.h1 (feat6 m ρ c N H)

theorem act8 : Rows (W8 m ρ c (Proc.devRef .tc main_v74_0)) (N.act 1 N.h1) :=
  (z3_arr (V7 m ρ) c N 1 N.h1 (mlp7 m ρ c N H) _ (out_W8 m ρ c 6)).rows

theorem sum8 : Col (W8 m ρ c (Proc.devRef .tc main_v74_1)) (colSum (N.act 1 N.h1)) :=
  s3_arr (V7 m ρ) c N 1 N.h1 (mlp7 m ρ c N H) _ (out_W8 m ρ c 7)

theorem sq8 : Col (W8 m ρ c (Proc.devRef .tc main_v74_2)) (colSq (N.act 1 N.h1)) :=
  q3_arr (V7 m ρ) c N 1 N.h1 (mlp7 m ρ c N H) _ (out_W8 m ρ c 8)

theorem feat10 : Rows (W10 m ρ c (Proc.devRef .tc main_v79)) N.h2 :=
  n4_arr (V9 m ρ) c N 1 (N.act 1 N.h1)
    (host4_bn (W8 m ρ c) N _ _ (fixed8 m ρ c N H) _ (act8 m ρ c N H) (sum8 m ρ c N H) (sq8 m ρ c N H)) _ (out_W10 m ρ c 5)

theorem mlp11 : MlpIn (V11 m ρ c main_v79) (V11 m ρ c main_v92) (V11 m ρ c main_v94) (V11 m ρ c main_v96)
    (V11 m ρ c main_v98) (V11 m ρ c main_v100) N 2 N.h2 :=
  host5_mlp (W10 m ρ c) N _ _ (fixed10 m ρ c N H) N.h2 (feat10 m ρ c N H)

theorem act12 : Rows (W12 m ρ c (Proc.devRef .tc main_v101_0)) (N.act 2 N.h2) :=
  (z5_arr (V11 m ρ) c N 2 N.h2 (mlp11 m ρ c N H) _ (out_W12 m ρ c 6)).rows

theorem sum12 : Col (W12 m ρ c (Proc.devRef .tc main_v101_1)) (colSum (N.act 2 N.h2)) :=
  s5_arr (V11 m ρ) c N 2 N.h2 (mlp11 m ρ c N H) _ (out_W12 m ρ c 7)

theorem sq12 : Col (W12 m ρ c (Proc.devRef .tc main_v101_2)) (colSq (N.act 2 N.h2)) :=
  q5_arr (V11 m ρ) c N 2 N.h2 (mlp11 m ρ c N H) _ (out_W12 m ρ c 8)

theorem feat14 : Rows (W14 m ρ c (Proc.devRef .tc main_v106)) N.h3 :=
  n6_arr (V13 m ρ) c N 2 (N.act 2 N.h2)
    (host6_bn (W12 m ρ c) N _ _ (fixed12 m ρ c N H) _ (act12 m ρ c N H) (sum12 m ρ c N H) (sq12 m ρ c N H)) _ (out_W14 m ρ c 5)

/-! ## The graphs -/

theorem pool15 (g j : Fin 256) : (W15 m ρ c (Proc.devRef .tc main_v107_0) : FVec Ideal S256x256 .f32) (ix2 g j) = ((N.pool g j : ℝ) : EReal) :=
  p7_arr (V14 m ρ) c N.batch (fixed14 m ρ c N H).ids N.h3 (feat14 m ρ c N H) _ (out_W15 m ρ c 2) g j

theorem cnt15 (g : Fin 256) (j : Fin 128) : (W15 m ρ c (Proc.devRef .tc main_v107_1) : FVec Ideal S256x128 .f32) (ix2 g j) = ((N.cnt g : ℝ) : EReal) :=
  c7_arr (V14 m ρ) c N.batch (fixed14 m ρ c N H).ids _ (out_W15 m ρ c 3) g j

/-- The result. -/
theorem out16 (g j : Fin 256) : (W16 m ρ c (Proc.devRef .tc main_v108) : FVec Ideal S256x256 .f32) (ix2 g j)
    = outE N (argOf m c main_arg12) (argOf m c main_arg13) g j := by
  refine (congrFun ((out_W16 m ρ c 4).trans (r8_arr (V15 m ρ) c)) (ix2 g j)).trans ?_
  refine (lastBlk_at _ _ _ _ g j).trans ?_
  have F := fixed15 m ρ c N H
  unfold outE
  refine congrArg₂ max (congrArg₂ (· + ·) (Finset.sum_congr rfl fun x _ => congrArg₂ (· * ·) ?_ (congrFun F.Wd _)) (F.bd j)) rfl
  refine (congrArg₂ (fun a b => Ideal.div a (max b 1)) (pool15 m ρ c N H g x) (cnt15 m ρ c N H g 0)).trans ?_
  show Ideal.div _ (max _ ((1 : ℝ) : EReal)) = _
  rw [max_coe, div_coe _ _ (by positivity)]

end Cert.Gin

end
-- ==== Proof.Gin.RefTerms.lean ====
/-
  The stages of the reference, each as a term over its operands and by entries.
-/
module

public import proofs.«01_k».proof.Proof.Gen.ReferenceIdeal.Run
public import proofs.«01_k».proof.Proof.Gin.Holds
public import Idealize.ShloMosaic.Lib.Pipeline.ValueKit

@[expose] public section

set_option maxRecDepth 16384

noncomputable section

namespace Cert.Gin.Ref

open Cert.ReferenceIdeal Cert.ReferenceIdeal.Gen
open Idealize.ShloMosaic Idealize.ShloMosaic.TcCoe Idealize.SL.Sem

/-- Values of the nodes. -/
def At (A : FVec Ideal S10000x256 .f32) (h : Fin 10000 → Fin 256 → ℝ) : Prop := ∀ r j, A (ix2 r j) = ((h r j : ℝ) : EReal)

/-! ## Looking rows up in a table -/

/-- Row numbers, those below zero counted from the end. -/
def wrapT (s : IVec S10000 32) : IVec S10000x1 32 :=
  broadcastInDim S10000x1 ![0] bcast_S10000_S10000x1_0 (select (cmpi .slt s (broadcastInDim S10000 ![] bcast_S_S10000 (constantI S_ 32 0#32)))
    (addi s (broadcastInDim S10000 ![] bcast_S_S10000 (constantI S_ 32 64#32))) s)

/-- The rows of a table, where the number is one of its rows. -/
def takeT (T : FVec Ideal S64x256 .f32) (i : IVec S10000x1 32) : FVec Ideal S10000x256 .f32 :=
  select (broadcastInDim S10000x256 ![0] bcast_S10000_S10000x256_0
      (Host.reduce IntOp.andi (andi (cmpi .sge i (broadcastInDim S10000x1 ![] bcast_S_S10000x1 (constantI S_ 32 0#32)))
        (cmpi .sle i (broadcastInDim S10000x1 ![0, 1] bcast_S1x1_S10000x1_0_1 (broadcastInDim S1x1 ![1] bcast_S1_S1x1_1 (constantI S1 32 63#32)))))
        (constantI S_ 1 1#1) reducesTo_S10000x1_S10000_d1 h_S_))
    (Host.gather gather_S64x256_S10000x1_S10000x256_1_0_n_n_0_1_1256 T i)
    (broadcastInDim S10000x256 ![] bcast_S_S10000x256 (constant (F := Ideal) S_ .f32 0x7FC00000#32))

theorem wrapT_at (s : IVec S10000 32) (v : Fin 10000 → Fin 64) (h : ∀ r, s (ix1 r) = BitVec.ofNat 32 (v r).val) (r : Fin 10000) :
    wrapT s (ix2 r 0) = BitVec.ofNat 32 (v r).val := by
  pointwise [wrapT]
  rw [h, slt_zero _ (by have := (v r).isLt; omega)]
  rfl

theorem small_in (v : Fin 64) : IntOp.andi (IntOp.cmpi .sge (BitVec.ofNat 32 v.val) 0#32) (IntOp.cmpi .sle (BitVec.ofNat 32 v.val) 63#32) = 1#1 := by
  revert v; decide

theorem takeT_at (T : FVec Ideal S64x256 .f32) (i : IVec S10000x1 32) (v : Fin 10000 → Fin 64) (h : ∀ r, i (ix2 r 0) = BitVec.ofNat 32 (v r).val)
    (r : Fin 10000) (j : Fin 256) : takeT T i (ix2 r j) = T (ix2 (v r) j) := by
  have g := Routing.gather_row (nb := 64) (B := 256) (n := 10000) gather_S64x256_S10000x1_S10000x256_1_0_n_n_0_1_1256 rfl rfl rfl rfl rfl T i r j
      (v r) (h r) (by decide)
  refine Eq.trans ?_ g
  unfold takeT
  generalize Host.gather gather_S64x256_S10000x1_S10000x256_1_0_n_n_0_1_1256 T i = G
  pointwise
  rw [Finset.univ_unique, Finset.fold_singleton, show (default : Fin 1) = 0 from rfl, h, small_in]
  rfl

/-- Table `f` of a stack of tables. -/
theorem tab_at (f : Fin 9) (A : FVec Ideal S9x64x256 .f32) (hs : S9x64x256.Slices ![f.val, 0, 0] S1x64x256) (v : Fin 64) (j : Fin 256) :
    (shapeCast S64x256 (extractStridedSlice S1x64x256 ![f.val, 0, 0] A hs) shapeCasts_S1x64x256_S64x256) (ix2 v j) = A (ix3 f v j) := by
  pointwise

/-! ## Messages -/

/-- The nodes' features with the messages they receive: along every edge, and from themselves. -/
def aggT (X : FVec Ideal S10000x256 .f32) (s d : IVec S170000 32) : FVec Ideal S10000x256 .f32 :=
  addf X (Host.scatterAdd scatter_S10000x256_S170000x1_S170000x256_1_0_0_1
    (broadcastInDim S10000x256 ![] bcast_S_S10000x256 (constant (F := Ideal) S_ .f32 0x00000000#32))
    (broadcastInDim S170000x1 ![0] bcast_S170000_S170000x1_0 d)
    (Host.gather gather_S10000x256_S170000x1_S170000x256_1_0_n_n_0_1_1256 X
      (broadcastInDim S170000x1 ![0] bcast_S170000_S170000x1_0
        (select (cmpi .slt s (broadcastInDim S170000 ![] bcast_S_S170000 (constantI S_ 32 0#32)))
          (addi s (broadcastInDim S170000 ![] bcast_S_S170000 (constantI S_ 32 10000#32))) s))))

/-- The edges' ends, followed by each node's own number. -/
def ends (f : Fin 160000 → Fin 10000) (e : Fin 170000) : Fin 10000 := if h : e.val < 160000 then f ⟨e.val, h⟩ else ⟨e.val - 160000, by omega⟩

/-- The words of the edges' destinations, followed by each node's own number. -/
def endW (f : Fin 160000 → BitVec 32) (e : Fin 170000) : BitVec 32 := if h : e.val < 160000 then f ⟨e.val, h⟩ else BitVec.ofNat 32 (e.val - 160000)

/-- A sum in two stretches. -/
theorem sum_two {M : Type} [AddCommMonoid M] (a b n : ℕ) (h : n = a + b) (f : Fin n → M) :
    ∑ e, f e = ∑ e : Fin a, f ⟨e.val, by omega⟩ + ∑ e : Fin b, f ⟨a + e.val, by omega⟩ := by
  subst h
  exact Fin.sum_univ_add f

theorem sum_ends (N : Net) (h : Fin 10000 → Fin 256 → ℝ) (r : Fin 10000) (j : Fin 256) :
    (∑ e : Fin 170000, if (endW N.dst e).toInt = (r.val : ℤ) then h (ends N.src e) j else 0) = N.agg h r j + h r j := by
  rw [sum_two 160000 10000 170000 (by norm_num), Net.agg]
  refine congrArg₂ (· + ·) ?_ ?_
  · refine Finset.sum_congr rfl fun e _ => ?_
    have q : ∀ (f : Fin 160000 → Fin 10000) (h), ends f ⟨e.val, h⟩ = f e := fun f h => by
      rw [ends, dif_pos e.isLt]
    rw [q, endW, dif_pos e.isLt]
  · have q : ∀ (f : Fin 160000 → Fin 10000) (e : Fin 10000) (h), ends f ⟨160000 + e.val, h⟩ = e := fun f e h => by
      rw [ends, dif_neg (by simp)]
      apply Fin.ext
      simp
    have w : ∀ (e : Fin 10000) (h), ((endW N.dst ⟨160000 + e.val, h⟩).toInt = (r.val : ℤ)) = (e = r) := fun e h => by
      rw [endW, dif_neg (by simp), Nat.add_sub_cancel_left, toInt_ofNat _ (by omega), Fin.ext_iff]
      exact propext Int.natCast_inj
    simp only [q, w]
    rw [Finset.sum_ite_eq' Finset.univ r (fun e => h e j), if_pos (Finset.mem_univ r)]

theorem aggT_at (X : FVec Ideal S10000x256 .f32) (s d : IVec S170000 32) (N : Net) (h : Fin 10000 → Fin 256 → ℝ) (hX : At X h)
    (hs : ∀ e, s (ix1 e) = BitVec.ofNat 32 (ends N.src e).val) (hd : ∀ e, d (ix1 e) = endW N.dst e) :
    At (aggT X s d) (fun r j => 2 * h r j + N.agg h r j) := by
  intro r j
  have hsum : (Host.scatterAdd scatter_S10000x256_S170000x1_S170000x256_1_0_0_1
    (broadcastInDim S10000x256 ![] bcast_S_S10000x256 (constant (F := Ideal) S_ .f32 0x00000000#32))
    (broadcastInDim S170000x1 ![0] bcast_S170000_S170000x1_0 d)
    (Host.gather gather_S10000x256_S170000x1_S170000x256_1_0_n_n_0_1_1256 X
      (broadcastInDim S170000x1 ![0] bcast_S170000_S170000x1_0
        (select (cmpi .slt s (broadcastInDim S170000 ![] bcast_S_S170000 (constantI S_ 32 0#32)))
          (addi s (broadcastInDim S170000 ![] bcast_S_S170000 (constantI S_ 32 10000#32))) s)))) (ix2 r j)
      = ((N.agg h r j + h r j : ℝ) : EReal) := by
    refine (row_added (R := 10000) (C := 256) (n := 170000) scatter_S10000x256_S170000x1_S170000x256_1_0_0_1 rfl rfl rfl rfl _ _ _ r j).trans ?_
    rw [← sum_ends, ← sum_coe]
    have z : broadcastInDim S10000x256 ![] bcast_S_S10000x256 (constant (F := Ideal) S_ .f32 0x00000000#32) (ix2 r j) = (0 : EReal) := by
      pointwise
    rw [z, zero_add]
    refine Finset.sum_congr rfl fun e _ => ?_
    have hde : broadcastInDim S170000x1 ![0] bcast_S170000_S170000x1_0 d (ix2 e 0) = endW N.dst e := by
      pointwise
      exact hd e
    have hse : broadcastInDim S170000x1 ![0] bcast_S170000_S170000x1_0
        (select (cmpi .slt s (broadcastInDim S170000 ![] bcast_S_S170000 (constantI S_ 32 0#32)))
          (addi s (broadcastInDim S170000 ![] bcast_S_S170000 (constantI S_ 32 10000#32))) s) (ix2 e 0) = BitVec.ofNat 32 (ends N.src e).val := by
      pointwise
      rw [hs, slt_zero _ (by have := (ends N.src e).isLt; omega)]
      rfl
    rw [hde, ← ite_coe]
    refine if_congr Iff.rfl ?_ rfl
    · refine (Routing.gather_row (nb := 10000) (B := 256) (n := 170000) gather_S10000x256_S170000x1_S170000x256_1_0_n_n_0_1_1256 rfl rfl rfl rfl rfl X _ e j
        (ends N.src e) hse (by decide)).trans ?_
      exact hX (ends N.src e) j
  unfold aggT
  generalize Host.scatterAdd (F := Ideal) scatter_S10000x256_S170000x1_S170000x256_1_0_0_1 _ _ _ = Q at hsum ⊢
  pointwise
  rw [hX r j, hsum, ← EReal.coe_add]
  congr 1
  ring

/-! ## The perceptron -/

def mlpT (X : FVec Ideal S10000x256 .f32) (w1 : FVec Ideal S256x512 .f32) (b1 : FVec Ideal S512 .f32) (w2 : FVec Ideal S512x256 .f32)
    (b2 : FVec Ideal S256 .f32) : FVec Ideal S10000x256 .f32 :=
  maximumf (addf (Host.dotGeneral dot_S10000x512_S512x256_S10000x256_1_0_0_1_n_n none
      (maximumf (addf (Host.dotGeneral dot_S10000x256_S256x512_S10000x512_1_0_0_1_n_n none X w1)
          (broadcastInDim S10000x512 ![0, 1] bcast_S1x512_S10000x512_0_1 (broadcastInDim S1x512 ![1] bcast_S512_S1x512_1 b1)))
        (broadcastInDim S10000x512 ![] bcast_S_S10000x512 (constant (F := Ideal) S_ .f32 0x00000000#32))) w2)
    (broadcastInDim S10000x256 ![0, 1] bcast_S1x256_S10000x256_0_1 (broadcastInDim S1x256 ![1] bcast_S256_S1x256_1 b2)))
    (broadcastInDim S10000x256 ![] bcast_S_S10000x256 (constant (F := Ideal) S_ .f32 0x00000000#32))

theorem mlpT_at (X : FVec Ideal S10000x256 .f32) (w1 : FVec Ideal S256x512 .f32) (b1 : FVec Ideal S512 .f32) (w2 : FVec Ideal S512x256 .f32)
    (b2 : FVec Ideal S256 .f32) (N : Net) (i : Fin 3) (u : Fin 10000 → Fin 256 → ℝ) (hX : At X u)
    (h1 : ∀ l k, w1 (ix2 l k) = ((N.W1 i l k : ℝ) : EReal)) (h2 : ∀ k, b1 (ix1 k) = ((N.b1 i k : ℝ) : EReal))
    (h3 : ∀ k j, w2 (ix2 k j) = ((N.W2 i k j : ℝ) : EReal)) (h4 : ∀ j, b2 (ix1 j) = ((N.b2 i j : ℝ) : EReal)) :
    At (mlpT X w1 b1 w2 b2) (fun r j => mlpR (N.W1 i) (N.b1 i) (N.W2 i) (N.b2 i) (u r) j) := by
  intro r j
  pointwise [mlpT]
  simp only [fun l => hX r l, h1, h2, h3, h4, ← EReal.coe_mul, ← EReal.coe_add, sum_coe, ← EReal.coe_zero, max_coe]
  rfl

/-! ## The normalization -/

def cenT (z : FVec Ideal S10000x256 .f32) : FVec Ideal S10000x256 .f32 :=
  subf z (broadcastInDim S10000x256 ![0, 1] bcast_S1x256_S10000x256_0_1 (Host.divf (broadcastInDim S1x256 ![1] bcast_S256_S1x256_1
    (Host.reduceAdd z (constant (F := Ideal) S_ .f32 0x00000000#32) reducesTo_S10000x256_S256_d0 h_S_))
    (broadcastInDim S1x256 ![] bcast_S_S1x256 (constant (F := Ideal) S_ .f32 0x461C4000#32))))

def numT : FVec Ideal S_ .f32 := subf (constant (F := Ideal) S_ .f32 0x461C4000#32) (sitofp (F := Ideal) .f32 (constantI S_ 32 0#32))

def varT (z : FVec Ideal S10000x256 .f32) : FVec Ideal S256 .f32 :=
  select (broadcastInDim S256 ![] bcast_S_S256 (cmpf .ogt numT (constant (F := Ideal) S_ .f32 0x00000000#32)))
    (Host.divf (Host.reduceAdd (mulf (cenT z) (cenT z)) (constant (F := Ideal) S_ .f32 0x00000000#32) reducesTo_S10000x256_S256_d0 h_S_)
      (broadcastInDim S256 ![] bcast_S_S256 numT))
    (broadcastInDim S256 ![] bcast_S_S256 (id (constant (F := Ideal) S_ .f32 0x7FC00000#32)))

def bnT (z : FVec Ideal S10000x256 .f32) (g b : FVec Ideal S256 .f32) : FVec Ideal S10000x256 .f32 :=
  addf (Host.divf (mulf (broadcastInDim S10000x256 ![0, 1] bcast_S1x256_S10000x256_0_1 (broadcastInDim S1x256 ![1] bcast_S256_S1x256_1 g))
      (subf z (broadcastInDim S10000x256 ![0, 1] bcast_S1x256_S10000x256_0_1 (broadcastInDim S1x256 ![1] bcast_S256_S1x256_1
        (Host.divf (Host.reduceAdd z (constant (F := Ideal) S_ .f32 0x00000000#32) reducesTo_S10000x256_S256_d0 h_S_)
          (broadcastInDim S256 ![] bcast_S_S256 (constant (F := Ideal) S_ .f32 0x461C4000#32)))))))
    (broadcastInDim S10000x256 ![0, 1] bcast_S1x256_S10000x256_0_1 (broadcastInDim S1x256 ![1] bcast_S256_S1x256_1
      (Host.sqrt (addf (varT z) (broadcastInDim S256 ![] bcast_S_S256 (constant (F := Ideal) S_ .f32 0x3727C5AC#32)))))))
    (broadcastInDim S10000x256 ![0, 1] bcast_S1x256_S10000x256_0_1 (broadcastInDim S1x256 ![1] bcast_S256_S1x256_1 b))

theorem cenT_at (z : FVec Ideal S10000x256 .f32) (u : Fin 10000 → Fin 256 → ℝ) (hz : At z u) : At (cenT z) (fun r j => u r j - (∑ s, u s j) / 10000) := by
  intro r j
  pointwise [cenT]
  simp only [fun r => hz r j, sum_coe]
  rw [ofBits_nodes, div_coe _ _ (by norm_num), ← EReal.coe_sub]

theorem numT_at (i : S_.Idx) : numT i = ((10000 : ℝ) : EReal) := by
  pointwise [numT]
  rw [ofBits_nodes, show FloatOps.sitofp (F := Ideal) FTy.f32 0#32 = ((0 : ℝ) : EReal) from (by simp [FloatOps.sitofp]), ← EReal.coe_sub, sub_zero]

theorem varT_at (z : FVec Ideal S10000x256 .f32) (u : Fin 10000 → Fin 256 → ℝ) (hz : At z u) (j : Fin 256) :
    varT z (ix1 j) = ((varR (colSum u j) (colSq u j) : ℝ) : EReal) := by
  have hc := cenT_at z u hz
  unfold varT
  generalize cenT z = C at hc
  pointwise
  rw [numT_at, if_pos (by exact_mod_cast (by norm_num : (0 : ℝ) < 10000))]
  simp only [fun r => hc r j, ← EReal.coe_mul, sum_coe]
  rw [div_coe _ _ (by norm_num), var_eq]
  rfl

theorem bnT_at (z : FVec Ideal S10000x256 .f32) (g b : FVec Ideal S256 .f32) (u : Fin 10000 → Fin 256 → ℝ) (hz : At z u) (N : Net) (i : Fin 3)
    (hg : ∀ j, g (ix1 j) = ((N.g i j : ℝ) : EReal)) (hb : ∀ j, b (ix1 j) = ((N.be i j : ℝ) : EReal)) :
    At (bnT z g b) (fun r j => bnR (colSum u j) (colSq u j) (N.g i j) (N.be i j) (u r j)) := by
  intro r j
  have hv := varT_at z u hz j
  unfold bnT
  generalize varT z = C at hv
  have hp : 0 < varR (colSum u j) (colSq u j) + eps := var_pos fun r => u r j
  pointwise
  simp only [fun r => hz r j, hg, hb, sum_coe]
  rw [hv, ofBits_nodes, ofBits_eps, div_coe _ _ (by norm_num), ← EReal.coe_add, sqrt_coe _ hp.le, ← EReal.coe_sub, ← EReal.coe_mul,
    div_coe _ _ (Real.sqrt_pos.2 hp).ne', ← EReal.coe_add, bnR, colSum]
  congr 1
  ring

/-! ## The graphs -/

def meanT (h : FVec Ideal S10000x256 .f32) (b : IVec S10000 32) : FVec Ideal S256x256 .f32 :=
  Host.divf (Host.scatterAdd scatter_S256x256_S10000x1_S10000x256_1_0_0_1
      (broadcastInDim S256x256 ![] bcast_S_S256x256 (constant (F := Ideal) S_ .f32 0x00000000#32)) (broadcastInDim S10000x1 ![0] bcast_S10000_S10000x1_0 b) h)
    (broadcastInDim S256x256 ![0, 1] bcast_S256x1_S256x256_0_1
      (maximumf (Host.scatterAdd scatter_S256x1_S10000x1_S10000x1_1_0_0_1 (broadcastInDim S256x1 ![] bcast_S_S256x1 (constant (F := Ideal) S_ .f32 0x00000000#32))
          (broadcastInDim S10000x1 ![0] bcast_S10000_S10000x1_0 b) (broadcastInDim S10000x1 ![] bcast_S_S10000x1 (constant (F := Ideal) S_ .f32 0x3F800000#32)))
        (broadcastInDim S256x1 ![] bcast_S_S256x1 (constant (F := Ideal) S_ .f32 0x3F800000#32))))

def lastT (p : FVec Ideal S256x256 .f32) (w : FVec Ideal S256x256 .f32) (b : FVec Ideal S256 .f32) : FVec Ideal S256x256 .f32 :=
  maximumf (addf (Host.dotGeneral dot_S256x256_S256x256_S256x256_1_0_0_1_n_n none p w)
    (broadcastInDim S256x256 ![0, 1] bcast_S1x256_S256x256_0_1 (broadcastInDim S1x256 ![1] bcast_S256_S1x256_1 b)))
    (broadcastInDim S256x256 ![] bcast_S_S256x256 (constant (F := Ideal) S_ .f32 0x00000000#32))

theorem lastT_at (p : FVec Ideal S256x256 .f32) (w : FVec Ideal S256x256 .f32) (b : FVec Ideal S256 .f32) (g j : Fin 256) :
    lastT p w b (ix2 g j) = max (∑ x : Fin 256, p (ix2 g x) * w (ix2 x j) + b (ix1 j)) 0 := by
  pointwise [lastT]

theorem meanT_at (h : FVec Ideal S10000x256 .f32) (b : IVec S10000 32) (u : Fin 10000 → Fin 256 → ℝ) (f : Fin 10000 → BitVec 32) (hh : At h u)
    (hb : ∀ r, b (ix1 r) = f r) (g j : Fin 256) :
    meanT h b (ix2 g j) = (((∑ r, if (f r).toInt = (g.val : ℤ) then u r j else 0) / max (∑ r, if (f r).toInt = (g.val : ℤ) then 1 else 0) 1 : ℝ) : EReal) := by
  have hix : ∀ r : Fin 10000, broadcastInDim S10000x1 ![0] bcast_S10000_S10000x1_0 b (ix2 r 0) = f r := fun r => by
    pointwise
    exact hb r
  have e1 := row_added (R := 256) (C := 256) (n := 10000) scatter_S256x256_S10000x1_S10000x256_1_0_0_1 rfl rfl rfl rfl
    (broadcastInDim S256x256 ![] bcast_S_S256x256 (constant (F := Ideal) S_ .f32 0x00000000#32)) (broadcastInDim S10000x1 ![0] bcast_S10000_S10000x1_0 b) h g j
  have e2 := row_added (R := 256) (C := 1) (n := 10000) scatter_S256x1_S10000x1_S10000x1_1_0_0_1 rfl rfl rfl rfl
    (broadcastInDim S256x1 ![] bcast_S_S256x1 (constant (F := Ideal) S_ .f32 0x00000000#32)) (broadcastInDim S10000x1 ![0] bcast_S10000_S10000x1_0 b)
    (broadcastInDim S10000x1 ![] bcast_S_S10000x1 (constant (F := Ideal) S_ .f32 0x3F800000#32)) g 0
  simp only [hix] at e1 e2
  unfold meanT
  generalize Host.scatterAdd (F := Ideal) scatter_S256x256_S10000x1_S10000x256_1_0_0_1 _ _ _ = P at e1 ⊢
  generalize Host.scatterAdd (F := Ideal) scatter_S256x1_S10000x1_S10000x1_1_0_0_1 _ _ _ = Q at e2 ⊢
  have z1 : broadcastInDim S256x256 ![] bcast_S_S256x256 (constant (F := Ideal) S_ .f32 0x00000000#32) (ix2 g j) = (0 : EReal) := by pointwise
  have z2 : broadcastInDim S256x1 ![] bcast_S_S256x1 (constant (F := Ideal) S_ .f32 0x00000000#32) (ix2 g 0) = (0 : EReal) := by pointwise
  have z3 : ∀ r, broadcastInDim S10000x1 ![] bcast_S_S10000x1 (constant (F := Ideal) S_ .f32 0x3F800000#32) (ix2 r 0) = ((1 : ℝ) : EReal) := fun r => by
    pointwise
    rfl
  rw [z1, zero_add] at e1
  rw [z2, zero_add] at e2
  simp only [z3, fun r => hh r j, ite_coe, sum_coe] at e1 e2
  pointwise
  rw [e1, e2]
  show Ideal.div _ (max _ ((1 : ℝ) : EReal)) = _
  rw [max_coe, div_coe _ _ (by positivity)]

end Cert.Gin.Ref

end
-- ==== Proof.Gin.RefVals.lean ====
/-
  The reference's result.
-/
module

public import proofs.«01_k».proof.Proof.Gin.RefTerms

@[expose] public section

set_option maxRecDepth 16384

noncomputable section

namespace Cert.Gin.Ref

open Cert.ReferenceIdeal Cert.ReferenceIdeal.Gen Cert.ReferenceIdeal.Value
open Idealize.ShloMosaic Idealize.ShloMosaic.TcCoe Idealize.SL.Sem

variable (V0 : Valuation τ sig (Elt Ideal))

/-- The arguments hold the network's data. -/
abbrev HoldsR (N : Net) : Prop :=
  Holds (V0 (Proc.devRef .tc main_arg0)) (V0 (Proc.devRef .tc main_arg1)) (V0 (Proc.devRef .tc main_arg3)) (V0 (Proc.devRef .tc main_arg4))
    (V0 (Proc.devRef .tc main_arg6)) (V0 (Proc.devRef .tc main_arg7)) (V0 (Proc.devRef .tc main_arg8)) (V0 (Proc.devRef .tc main_arg9))
    (V0 (Proc.devRef .tc main_arg10)) (V0 (Proc.devRef .tc main_arg11)) N

variable (N : Net) (H : HoldsR V0 N)

/-! ## Parts of the arguments -/

/-- Column `f` of the categories. -/
theorem col_at (f : Fin 9) (A : IVec S10000x9 32) (hs : S10000x9.Slices ![0, f.val] S10000x1) (r : Fin 10000) :
    (shapeCast S10000 (extractStridedSlice S10000x1 ![0, f.val] A hs) shapeCasts_S10000x1_S10000) (ix1 r) = A (ix2 r f) := by
  pointwise

theorem w1_at (i : Fin 3) (A : FVec Ideal S3x256x512 .f32) (hs : S3x256x512.Slices ![i.val, 0, 0] S1x256x512) (l : Fin 256) (k : Fin 512) :
    (shapeCast S256x512 (extractStridedSlice S1x256x512 ![i.val, 0, 0] A hs) shapeCasts_S1x256x512_S256x512) (ix2 l k) = A (ix3 i l k) := by
  pointwise

theorem w2_at (i : Fin 3) (A : FVec Ideal S3x512x256 .f32) (hs : S3x512x256.Slices ![i.val, 0, 0] S1x512x256) (k : Fin 512) (j : Fin 256) :
    (shapeCast S512x256 (extractStridedSlice S1x512x256 ![i.val, 0, 0] A hs) shapeCasts_S1x512x256_S512x256) (ix2 k j) = A (ix3 i k j) := by
  pointwise

theorem b1_at (i : Fin 3) (A : FVec Ideal S3x512 .f32) (hs : S3x512.Slices ![i.val, 0] S1x512) (k : Fin 512) :
    (shapeCast S512 (extractStridedSlice S1x512 ![i.val, 0] A hs) shapeCasts_S1x512_S512) (ix1 k) = A (ix2 i k) := by
  pointwise

theorem row_at (i : Fin 3) (A : FVec Ideal S3x256 .f32) (hs : S3x256.Slices ![i.val, 0] S1x256) (k : Fin 256) :
    (shapeCast S256 (extractStridedSlice S1x256 ![i.val, 0] A hs) shapeCasts_S1x256_S256) (ix1 k) = A (ix2 i k) := by
  pointwise

/-! ## The ends of the edges -/

include H in
theorem src_at (e : Fin 170000) : (res_main_v95 V0 : IVec S170000 32) (ix1 e) = BitVec.ofNat 32 (ends N.src e).val := by
  pointwise [res_main_v95, res_main_v4, res_main_v0]
  unfold ends
  split
  · exact H.src _
  · rfl

include H in
theorem dst_at (e : Fin 170000) : (res_main_v97 V0 : IVec S170000 32) (ix1 e) = endW N.dst e := by
  pointwise [res_main_v97, res_main_v4, res_main_v0]
  unfold endW
  split
  · exact H.dst _
  · rfl

/-! ## The encoder -/

/-- What category `f` adds. -/
def partT (f : Fin 9) (hc : S10000x9.Slices ![0, f.val] S10000x1) (hs : S9x64x256.Slices ![f.val, 0, 0] S1x64x256) : FVec Ideal S10000x256 .f32 :=
  takeT (shapeCast S64x256 (extractStridedSlice S1x64x256 ![f.val, 0, 0] (V0 (Proc.devRef .tc main_arg4)) hs) shapeCasts_S1x64x256_S64x256)
    (wrapT (shapeCast S10000 (extractStridedSlice S10000x1 ![0, f.val] (V0 (Proc.devRef .tc main_arg0)) hc) shapeCasts_S10000x1_S10000))

include H in
theorem partT_at (f : Fin 9) (hc : S10000x9.Slices ![0, f.val] S10000x1) (hs : S9x64x256.Slices ![f.val, 0, 0] S1x64x256) :
    At (partT V0 f hc hs) (fun r j => N.emb f (N.x r f) j) := fun r j =>
  (takeT_at _ _ (fun r => N.x r f) (wrapT_at _ (fun r => N.x r f) fun r => (col_at f _ hc r).trans (H.x r f)) r j).trans
    ((tab_at f _ hs (N.x r f) j).trans (H.emb f (N.x r f) j))

theorem enc_eq : res_main_v64 V0 = addf (addf (addf (addf (addf (addf (addf (addf (addf (broadcastInDim S10000x256 ![] bcast_S_S10000x256 (constant (F := Ideal) S_ .f32 0x00000000#32))
    (partT V0 0 slices_S10000x9_S10000x1_0_0 slices_S9x64x256_S1x64x256_0_0_0))
    (partT V0 1 slices_S10000x9_S10000x1_0_1 slices_S9x64x256_S1x64x256_1_0_0))
    (partT V0 2 slices_S10000x9_S10000x1_0_2 slices_S9x64x256_S1x64x256_2_0_0))
    (partT V0 3 slices_S10000x9_S10000x1_0_3 slices_S9x64x256_S1x64x256_3_0_0))
    (partT V0 4 slices_S10000x9_S10000x1_0_4 slices_S9x64x256_S1x64x256_4_0_0))
    (partT V0 5 slices_S10000x9_S10000x1_0_5 slices_S9x64x256_S1x64x256_5_0_0))
    (partT V0 6 slices_S10000x9_S10000x1_0_6 slices_S9x64x256_S1x64x256_6_0_0))
    (partT V0 7 slices_S10000x9_S10000x1_0_7 slices_S9x64x256_S1x64x256_7_0_0))
    (partT V0 8 slices_S10000x9_S10000x1_0_8 slices_S9x64x256_S1x64x256_8_0_0) := rfl

include H in
theorem enc_at : At (res_main_v64 V0) N.h0 := by
  intro r j
  rw [enc_eq]
  pointwise
  simp only [partT_at V0 N H _ _ _ r j, ← EReal.coe_add]
  congr 1
  unfold Net.h0 Net.enc
  simp only [Fin.sum_univ_castSucc, Finset.univ_eq_empty, Finset.sum_empty, zero_add]
  rfl

/-! ## The layers -/

theorem act0_eq : res_main_v126 V0 = mlpT (aggT (res_main_v64 V0) (res_main_v95 V0) (res_main_v97 V0))
    (shapeCast S256x512 (extractStridedSlice S1x256x512 ![0, 0, 0] (V0 (Proc.devRef .tc main_arg6)) slices_S3x256x512_S1x256x512_0_0_0) shapeCasts_S1x256x512_S256x512)
    (shapeCast S512 (extractStridedSlice S1x512 ![0, 0] (V0 (Proc.devRef .tc main_arg7)) slices_S3x512_S1x512_0_0) shapeCasts_S1x512_S512)
    (shapeCast S512x256 (extractStridedSlice S1x512x256 ![0, 0, 0] (V0 (Proc.devRef .tc main_arg8)) slices_S3x512x256_S1x512x256_0_0_0) shapeCasts_S1x512x256_S512x256)
    (shapeCast S256 (extractStridedSlice S1x256 ![0, 0] (V0 (Proc.devRef .tc main_arg9)) slices_S3x256_S1x256_0_0) shapeCasts_S1x256_S256) := rfl

include H in
theorem act0_at (hX : At (res_main_v64 V0) N.h0) : At (res_main_v126 V0) (N.act 0 N.h0) := by
  rw [act0_eq]
  exact mlpT_at _ _ _ _ _ N 0 _ (aggT_at _ _ _ N N.h0 hX (src_at V0 N H) (dst_at V0 N H))
    (fun l k => (w1_at 0 _ slices_S3x256x512_S1x256x512_0_0_0 l k).trans (H.W1 0 l k)) (fun k => (b1_at 0 _ slices_S3x512_S1x512_0_0 k).trans (H.b1 0 k))
    (fun k j => (w2_at 0 _ slices_S3x512x256_S1x512x256_0_0_0 k j).trans (H.W2 0 k j)) (fun j => (row_at 0 _ slices_S3x256_S1x256_0_0 j).trans (H.b2 0 j))

theorem feat1_eq : res_main_v149 V0 = bnT (res_main_v126 V0)
    (shapeCast S256 (extractStridedSlice S1x256 ![0, 0] (V0 (Proc.devRef .tc main_arg10)) slices_S3x256_S1x256_0_0) shapeCasts_S1x256_S256)
    (shapeCast S256 (extractStridedSlice S1x256 ![0, 0] (V0 (Proc.devRef .tc main_arg11)) slices_S3x256_S1x256_0_0) shapeCasts_S1x256_S256) := rfl

include H in
theorem feat1_at (hX : At (res_main_v64 V0) N.h0) : At (res_main_v149 V0) N.h1 := by
  rw [feat1_eq]
  exact bnT_at _ _ _ _ (act0_at V0 N H hX) N 0 (fun j => (row_at 0 _ slices_S3x256_S1x256_0_0 j).trans (H.g 0 j))
    (fun j => (row_at 0 _ slices_S3x256_S1x256_0_0 j).trans (H.be 0 j))

theorem act1_eq : res_main_v178 V0 = mlpT (aggT (res_main_v149 V0) (res_main_v95 V0) (res_main_v97 V0))
    (shapeCast S256x512 (extractStridedSlice S1x256x512 ![1, 0, 0] (V0 (Proc.devRef .tc main_arg6)) slices_S3x256x512_S1x256x512_1_0_0) shapeCasts_S1x256x512_S256x512)
    (shapeCast S512 (extractStridedSlice S1x512 ![1, 0] (V0 (Proc.devRef .tc main_arg7)) slices_S3x512_S1x512_1_0) shapeCasts_S1x512_S512)
    (shapeCast S512x256 (extractStridedSlice S1x512x256 ![1, 0, 0] (V0 (Proc.devRef .tc main_arg8)) slices_S3x512x256_S1x512x256_1_0_0) shapeCasts_S1x512x256_S512x256)
    (shapeCast S256 (extractStridedSlice S1x256 ![1, 0] (V0 (Proc.devRef .tc main_arg9)) slices_S3x256_S1x256_1_0) shapeCasts_S1x256_S256) := rfl

include H in
theorem act1_at (hX : At (res_main_v149 V0) N.h1) : At (res_main_v178 V0) (N.act 1 N.h1) := by
  rw [act1_eq]
  exact mlpT_at _ _ _ _ _ N 1 _ (aggT_at _ _ _ N N.h1 hX (src_at V0 N H) (dst_at V0 N H))
    (fun l k => (w1_at 1 _ slices_S3x256x512_S1x256x512_1_0_0 l k).trans (H.W1 1 l k)) (fun k => (b1_at 1 _ slices_S3x512_S1x512_1_0 k).trans (H.b1 1 k))
    (fun k j => (w2_at 1 _ slices_S3x512x256_S1x512x256_1_0_0 k j).trans (H.W2 1 k j)) (fun j => (row_at 1 _ slices_S3x256_S1x256_1_0 j).trans (H.b2 1 j))

theorem feat2_eq : res_main_v201 V0 = bnT (res_main_v178 V0)
    (shapeCast S256 (extractStridedSlice S1x256 ![1, 0] (V0 (Proc.devRef .tc main_arg10)) slices_S3x256_S1x256_1_0) shapeCasts_S1x256_S256)
    (shapeCast S256 (extractStridedSlice S1x256 ![1, 0] (V0 (Proc.devRef .tc main_arg11)) slices_S3x256_S1x256_1_0) shapeCasts_S1x256_S256) := rfl

include H in
theorem feat2_at (hX : At (res_main_v149 V0) N.h1) : At (res_main_v201 V0) N.h2 := by
  rw [feat2_eq]
  exact bnT_at _ _ _ _ (act1_at V0 N H hX) N 1 (fun j => (row_at 1 _ slices_S3x256_S1x256_1_0 j).trans (H.g 1 j))
    (fun j => (row_at 1 _ slices_S3x256_S1x256_1_0 j).trans (H.be 1 j))

theorem act2_eq : res_main_v230 V0 = mlpT (aggT (res_main_v201 V0) (res_main_v95 V0) (res_main_v97 V0))
    (shapeCast S256x512 (extractStridedSlice S1x256x512 ![2, 0, 0] (V0 (Proc.devRef .tc main_arg6)) slices_S3x256x512_S1x256x512_2_0_0) shapeCasts_S1x256x512_S256x512)
    (shapeCast S512 (extractStridedSlice S1x512 ![2, 0] (V0 (Proc.devRef .tc main_arg7)) slices_S3x512_S1x512_2_0) shapeCasts_S1x512_S512)
    (shapeCast S512x256 (extractStridedSlice S1x512x256 ![2, 0, 0] (V0 (Proc.devRef .tc main_arg8)) slices_S3x512x256_S1x512x256_2_0_0) shapeCasts_S1x512x256_S512x256)
    (shapeCast S256 (extractStridedSlice S1x256 ![2, 0] (V0 (Proc.devRef .tc main_arg9)) slices_S3x256_S1x256_2_0) shapeCasts_S1x256_S256) := rfl

include H in
theorem act2_at (hX : At (res_main_v201 V0) N.h2) : At (res_main_v230 V0) (N.act 2 N.h2) := by
  rw [act2_eq]
  exact mlpT_at _ _ _ _ _ N 2 _ (aggT_at _ _ _ N N.h2 hX (src_at V0 N H) (dst_at V0 N H))
    (fun l k => (w1_at 2 _ slices_S3x256x512_S1x256x512_2_0_0 l k).trans (H.W1 2 l k)) (fun k => (b1_at 2 _ slices_S3x512_S1x512_2_0 k).trans (H.b1 2 k))
    (fun k j => (w2_at 2 _ slices_S3x512x256_S1x512x256_2_0_0 k j).trans (H.W2 2 k j)) (fun j => (row_at 2 _ slices_S3x256_S1x256_2_0 j).trans (H.b2 2 j))

/-- The features after the last layer. -/
def feat3 : FVec Ideal S10000x256 .f32 := bnT (res_main_v230 V0)
    (shapeCast S256 (extractStridedSlice S1x256 ![2, 0] (V0 (Proc.devRef .tc main_arg10)) slices_S3x256_S1x256_2_0) shapeCasts_S1x256_S256)
    (shapeCast S256 (extractStridedSlice S1x256 ![2, 0] (V0 (Proc.devRef .tc main_arg11)) slices_S3x256_S1x256_2_0) shapeCasts_S1x256_S256)

include H in
theorem feat3_at (hX : At (res_main_v201 V0) N.h2) : At (feat3 V0) N.h3 := by
  rw [feat3]
  exact bnT_at _ _ _ _ (act2_at V0 N H hX) N 2 (fun j => (row_at 2 _ slices_S3x256_S1x256_2_0 j).trans (H.g 2 j))
    (fun j => (row_at 2 _ slices_S3x256_S1x256_2_0 j).trans (H.be 2 j))

/-! ## The result -/

include H in
theorem out_at (g j : Fin 256) :
    lastT (meanT (feat3 V0) (V0 (Proc.devRef .tc main_arg3))) (V0 (Proc.devRef .tc main_arg12)) (V0 (Proc.devRef .tc main_arg13)) (ix2 g j)
      = outE N (V0 (Proc.devRef .tc main_arg12)) (V0 (Proc.devRef .tc main_arg13)) g j := by
  have h3 := feat3_at V0 N H (feat2_at V0 N H (feat1_at V0 N H (enc_at V0 N H)))
  rw [lastT_at]
  unfold outE
  simp only [meanT_at _ _ _ N.batch h3 H.batch]
  rfl

end Cert.Gin.Ref

end
-- ==== Proof.Gin.Within.lean ====
/-
  The precondition read: the arguments hold a network's data.
-/
module

public import proofs.«01_k».proof.Defs
public import proofs.«01_k».proof.Proof.Gin.Holds
public import Idealize.ShloMosaic.Lib.Pipeline.ValueKit

@[expose] public section

set_option maxRecDepth 16384

noncomputable section

namespace Cert.Gin

open Idealize.ShloMosaic Idealize.SL.Sem

/-- Two bits that are both set. -/
theorem both (a b : BitVec 1) (h : IntOp.andi a b = 1#1) : a = 1#1 ∧ b = 1#1 := by
  revert a b; decide

/-- A word between zero and `n`. -/
theorem word_in (w : BitVec 32) (n : ℕ) (hn : n < 2 ^ 31) (h : IntOp.andi (IntOp.cmpi .sge w 0#32) (IntOp.cmpi .slt w (BitVec.ofNat 32 n)) = 1#1) :
    ∃ k : Fin n, w = BitVec.ofNat 32 k.val := by
  obtain ⟨h0, h1⟩ := both _ _ h
  have h0 : BitVec.ofBool (BitVec.sle 0#32 w) = 1#1 := h0
  have h1 : BitVec.ofBool (BitVec.slt w (BitVec.ofNat 32 n)) = 1#1 := h1
  have g0 : (0 : ℤ) ≤ w.toInt := by
    cases e : BitVec.sle 0#32 w
    · rw [e] at h0; exact absurd h0 (by decide)
    · simpa [BitVec.sle] using e
  have g1 : w.toInt < n := by
    cases e : BitVec.slt w (BitVec.ofNat 32 n)
    · rw [e] at h1; exact absurd h1 (by decide)
    · rw [BitVec.slt, toInt_ofNat n hn] at e
      simpa using e
  have t : w.toInt = w.toNat := by
    rw [BitVec.toInt_eq_toNat_cond] at g0 ⊢
    split
    · rfl
    · rename_i q; rw [if_neg q] at g0; have := w.isLt; omega
  refine ⟨⟨w.toNat, by omega⟩, ?_⟩
  apply BitVec.eq_of_toNat_eq
  rw [BitVec.toNat_ofNat, Nat.mod_eq_of_lt w.isLt]

/-- A number whose absolute value is below infinity is real. -/
theorem real_in (x : EReal) (h : FloatOps.cmpf (F := Ideal) (φ := .f32) .olt (FloatOps.absf (F := Ideal) (φ := .f32) x) (FloatOps.ofBits (F := Ideal) .f32 0x7F800000#32) = 1#1) :
    x = ((x.toReal : ℝ) : EReal) := by
  have htop : FloatOps.ofBits (F := Ideal) .f32 0x7F800000#32 = (⊤ : EReal) := by
    show Ideal.ofBits .f32 0x7F800000#32 = ⊤
    simp [Ideal.ofBits, Ideal.ieee]
  rw [htop] at h
  change Ideal.cmp .olt (max x (-x)) ⊤ = 1#1 at h
  induction x using EReal.rec with
  | bot => simp [Ideal.cmp] at h
  | coe r => rfl
  | top => simp [Ideal.cmp] at h

/-- The bits of the precondition: a word lies in its range, a number is finite. -/
abbrev inB (w : BitVec 32) (n : ℕ) : Prop := IntOp.andi (IntOp.cmpi .sge w 0#32) (IntOp.cmpi .slt w (BitVec.ofNat 32 n)) = 1#1
abbrev finB (x : EReal) : Prop :=
  FloatOps.cmpf (F := Ideal) (φ := .f32) .olt (FloatOps.absf (F := Ideal) (φ := .f32) x) (FloatOps.ofBits (F := Ideal) .f32 0x7F800000#32) = 1#1

/-- Arguments within the precondition hold a network's data. -/
theorem net_of (A0 : IVec (matS 10000 9) 32) (A1 : IVec (matS 2 160000) 32) (A3 : IVec (vecS 10000) 32) (A4 : FVec Ideal (cubS 9 64 256) .f32)
    (A6 : FVec Ideal (cubS 3 256 512) .f32) (A7 : FVec Ideal (matS 3 512) .f32) (A8 : FVec Ideal (cubS 3 512 256) .f32)
    (A9 A10 A11 : FVec Ideal (matS 3 256) .f32) (p0 : ∀ r f, inB (A0 (ix2 r f)) 64) (p1 : ∀ e, inB (A1 (ix2 0 e)) 10000)
    (p4 : ∀ i, finB (A4 i)) (p6 : ∀ i, finB (A6 i)) (p7 : ∀ i, finB (A7 i)) (p8 : ∀ i, finB (A8 i)) (p9 : ∀ i, finB (A9 i)) (p10 : ∀ i, finB (A10 i))
    (p11 : ∀ i, finB (A11 i)) : ∃ N : Net, Holds A0 A1 A3 A4 A6 A7 A8 A9 A10 A11 N := by
  choose x hx using fun r f => word_in _ 64 (by norm_num) (p0 r f)
  choose e he using fun k => word_in _ 10000 (by norm_num) (p1 k)
  exact ⟨⟨x, e, fun k => A1 (ix2 1 k), fun r => A3 (ix1 r), fun f v j => (A4 (ix3 f v j) : EReal).toReal, fun i l k => (A6 (ix3 i l k) : EReal).toReal, fun i k => (A7 (ix2 i k) : EReal).toReal,
    fun i k j => (A8 (ix3 i k j) : EReal).toReal, fun i j => (A9 (ix2 i j) : EReal).toReal, fun i j => (A10 (ix2 i j) : EReal).toReal,
    fun i j => (A11 (ix2 i j) : EReal).toReal⟩,
    hx, he, fun _ => rfl, fun _ => rfl, fun _ _ _ => real_in _ (p4 _), fun _ _ _ => real_in _ (p6 _), fun _ _ => real_in _ (p7 _), fun _ _ _ => real_in _ (p8 _),
    fun _ _ => real_in _ (p9 _), fun _ _ => real_in _ (p10 _), fun _ _ => real_in _ (p11 _)⟩

/-- The sources' range, read off the first row of the edges. -/
theorem src_bit (A1 : IVec (matS 2 160000) 32) (hs : (matS 2 160000).Slices ![0, 0] (matS 1 160000)) (hc : (matS 1 160000).ShapeCasts (vecS 160000)) (e : Fin 160000)
    (h : inB (shapeCast (vecS 160000) (extractStridedSlice (matS 1 160000) ![0, 0] A1 hs) hc (ix1 e)) 10000) : inB (A1 (ix2 0 e)) 10000 := by
  have q : shapeCast (vecS 160000) (extractStridedSlice (matS 1 160000) ![0, 0] A1 hs) hc (ix1 e) = A1 (ix2 0 e) := by pointwise
  rwa [q] at h

/-- The side conditions of the precondition's operations. -/
theorem preFacts : Cert.Pre_in_range_and_finite.Facts where
  bcast_S_S10000x9 := by decide
  slices_S2x160000_S1x160000_0_0 := by decide
  shapeCasts_S1x160000_S160000 := by decide
  bcast_S_S160000 := by decide
  bcast_S_S9x64x256 := by decide
  bcast_S_S3x256x512 := by decide
  bcast_S_S3x512 := by decide
  bcast_S_S3x512x256 := by decide
  bcast_S_S3x256 := by decide

/-- The precondition gives a network. -/
theorem net_of_pre (m : (ℓ : Loc Cert.KernelIdeal.nD Cert.KernelIdeal.τ Cert.KernelIdeal.sig) → Buf (Elt Ideal) ℓ)
    (h : @Pre_KernelIdeal_in_range_and_finite preFacts m) (c : Dev Cert.KernelIdeal.nD) : ∃ N : Net,
    Holds (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) N := by
  obtain ⟨h0, h1, h4, h6, h7, h8, h9, h10, h11⟩ := h c
  exact net_of _ _ _ _ _ _ _ _ _ _ (fun r f => congrFun h0 (ix2 r f)) (fun e => src_bit _ preFacts.slices_S2x160000_S1x160000_0_0 preFacts.shapeCasts_S1x160000_S160000 e (congrFun h1 (ix1 e)))
    (fun i => congrFun h4 i) (fun i => congrFun h6 i) (fun i => congrFun h7 i) (fun i => congrFun h8 i) (fun i => congrFun h9 i)
    (fun i => congrFun h10 i) (fun i => congrFun h11 i)

end Cert.Gin

end
-- ==== Proof.Gin.Algebra.lean ====
/-
  The value claim: over the reals the kernel and the reference return one array.
-/
module

public import proofs.«01_k».proof.Proof.Gin.Chain
public import proofs.«01_k».proof.Proof.Gin.RefVals
public import proofs.«01_k».proof.Proof.Gin.Within
public import proofs.«01_k».proof.Proof.Gin.Frames

@[expose] public section

set_option maxRecDepth 16384

noncomputable section

namespace Cert.Gin

open Idealize.ShloMosaic Idealize.ShloMosaic.TcCoe Idealize.SL.Sem

/-- The network's data held by arrays is held by arrays equal to them. -/
theorem Holds.of_eq {A0 B0 : IVec (matS 10000 9) 32} {A1 B1 : IVec (matS 2 160000) 32} {A3 B3 : IVec (vecS 10000) 32} {A4 B4 : FVec Ideal (cubS 9 64 256) .f32}
    {A6 B6 : FVec Ideal (cubS 3 256 512) .f32} {A7 B7 : FVec Ideal (matS 3 512) .f32} {A8 B8 : FVec Ideal (cubS 3 512 256) .f32}
    {A9 A10 A11 B9 B10 B11 : FVec Ideal (matS 3 256) .f32} {N : Net} (H : Holds A0 A1 A3 A4 A6 A7 A8 A9 A10 A11 N)
    (h0 : B0 = A0) (h1 : B1 = A1) (h3 : B3 = A3) (h4 : B4 = A4) (h6 : B6 = A6) (h7 : B7 = A7) (h8 : B8 = A8) (h9 : B9 = A9) (h10 : B10 = A10) (h11 : B11 = A11) :
    Holds B0 B1 B3 B4 B6 B7 B8 B9 B10 B11 N := by
  subst h0 h1 h3 h4 h6 h7 h8 h9 h10 h11
  exact H

/-- What the reference returns is what the kernel returns. -/
theorem values (m : (ℓ : Loc Cert.KernelIdeal.nD Cert.KernelIdeal.τ Cert.KernelIdeal.sig) → Buf (Elt Ideal) ℓ) (g : Dev Cert.KernelIdeal.nD → PrngReg)
    (V0 : Valuation Cert.ReferenceIdeal.τ Cert.ReferenceIdeal.sig (Elt Ideal)) (c : Dev Cert.KernelIdeal.nD) (N : Net) (HK : HoldsAt m c N) (HR : Ref.HoldsR V0 N)
    (h12 : (V0 (Proc.devRef .tc Cert.ReferenceIdeal.main_arg12) : FVec Ideal (matS 256 256) .f32) = argOf m c Cert.KernelIdeal.main_arg12)
    (h13 : (V0 (Proc.devRef .tc Cert.ReferenceIdeal.main_arg13) : FVec Ideal (vecS 256) .f32) = argOf m c Cert.KernelIdeal.main_arg13) :
    Ref.lastT (Ref.meanT (Ref.feat3 V0) (V0 (Proc.devRef .tc Cert.ReferenceIdeal.main_arg3))) (V0 (Proc.devRef .tc Cert.ReferenceIdeal.main_arg12))
      (V0 (Proc.devRef .tc Cert.ReferenceIdeal.main_arg13)) = (W16 m g c (Proc.devRef .tc Cert.KernelIdeal.main_v108) : FVec Ideal (matS 256 256) .f32) := by
  funext y
  have hy : y = ix2 (y 0) (y 1) := by idx_vars y; rfl
  rw [hy]
  refine (Ref.out_at V0 N HR (y 0) (y 1)).trans (Eq.trans ?_ (out16 m g c N HK (y 0) (y 1)).symm)
  exact congrArg₂ (fun a b => outE N a b (y 0) (y 1)) h12 h13

/-- The value claim. -/
theorem algebra : @algebraic_KernelIdeal_ReferenceIdeal_pre_in_range_and_finite Cert.KernelIdeal.Gen.facts Cert.ReferenceIdeal.Gen.facts preFacts := by
  intro m g m' g' hpre hargs
  refine ⟨fun c => W16 m g c (Proc.devRef .tc Cert.KernelIdeal.main_v108), ?_, ?_⟩
  · refine (θ_run _ _ _).mono (fun r h => ?_) (run_final (F := Ideal) m g)
    have k : ∀ c : Dev Cert.KernelIdeal.nD, ∀ a ∈ argRefs, a.isScoped = false →
        r.2.mem ((c.tc : Thread Cert.KernelIdeal.nD Cert.KernelIdeal.τ).loc a) = m ((c.tc : Thread Cert.KernelIdeal.nD Cert.KernelIdeal.τ).loc a) :=
      fun c a ha hs => (h.1 c _ (mem_uc a (by simp [hs]))).trans (args16 m g c a ha)
    exact fun c => ⟨h.1 c _ (mem_uc Cert.KernelIdeal.main_v108 (by decide)), k c Cert.KernelIdeal.main_arg0 (by decide) rfl, k c Cert.KernelIdeal.main_arg1 (by decide) rfl, k c Cert.KernelIdeal.main_arg2 (by decide) rfl, k c Cert.KernelIdeal.main_arg3 (by decide) rfl, k c Cert.KernelIdeal.main_arg4 (by decide) rfl, k c Cert.KernelIdeal.main_arg5 (by decide) rfl, k c Cert.KernelIdeal.main_arg6 (by decide) rfl, k c Cert.KernelIdeal.main_arg7 (by decide) rfl, k c Cert.KernelIdeal.main_arg8 (by decide) rfl, k c Cert.KernelIdeal.main_arg9 (by decide) rfl, k c Cert.KernelIdeal.main_arg10 (by decide) rfl, k c Cert.KernelIdeal.main_arg11 (by decide) rfl, k c Cert.KernelIdeal.main_arg12 (by decide) rfl, k c Cert.KernelIdeal.main_arg13 (by decide) rfl⟩
  · refine (θ_run _ _ _).mono (fun r h c => ?_) (Cert.ReferenceIdeal.Value.run (F := Ideal) m' g')
    obtain ⟨a0, a1, a2, a3, a4, a5, a6, a7, a8, a9, a10, a11, a12, a13⟩ := hargs c
    obtain ⟨N, HN⟩ := net_of_pre m hpre c
    refine ⟨(h c).1.trans (values m g (StableHlo.launchContents m' c) c N HN ?_ a12 a13), (h c).2⟩
    exact Holds.of_eq HN a0 a1 a3 a4 a6 a7 a8 a9 a10 a11

end Cert.Gin

end
-- ==== Proof.lean ====
/-
  The proof of `Cert.Claim`: the frames of the programs, the idealization's preservation, and the values.
-/
module

public import proofs.«01_k».proof.Defs
public import proofs.«01_k».proof.Proof.Gin.Frames
public import proofs.«01_k».proof.Proof.Gin.Algebra

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Gin.preFacts,
  Cert.Gin.frame_kernel, Cert.Gin.frame_ideal, fun m g _ => Cert.Gin.frame_ideal m g trivial, Cert.Gin.frame_reference,
  fun m g _ => Cert.Gin.frame_reference m g trivial, trivial, Cert.Gin.algebra⟩

end Cert.Proof

end
